-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QueryProj (m : (ℓ : Loc Cert.QueryProj.nD Cert.QueryProj.τ Cert.QueryProj.sig) → Buf (Elt Bits) ℓ) : Prop :=
  True

def Pre_QueryProjIdeal (m : (ℓ : Loc Cert.QueryProjIdeal.nD Cert.QueryProjIdeal.τ Cert.QueryProjIdeal.sig) → Buf (Elt Ideal) ℓ) : Prop :=
  True

def Pre_QueryProjRefIdeal (m : (ℓ : Loc Cert.QueryProjRefIdeal.nD Cert.QueryProjRefIdeal.τ Cert.QueryProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_AddNorm (m : (ℓ : Loc Cert.AddNorm.nD Cert.AddNorm.τ Cert.AddNorm.sig) → Buf (Elt Bits) ℓ) : Prop :=
  True

def Pre_AddNormIdeal (m : (ℓ : Loc Cert.AddNormIdeal.nD Cert.AddNormIdeal.τ Cert.AddNormIdeal.sig) → Buf (Elt Ideal) ℓ) : Prop :=
  True

def Pre_AddNormRefIdeal (m : (ℓ : Loc Cert.AddNormRefIdeal.nD Cert.AddNormRefIdeal.τ Cert.AddNormRefIdeal.sig) → Buf (Elt Ideal) ℓ) : Prop :=
  True

def Pre_HeadNorm (m : (ℓ : Loc Cert.HeadNorm.nD Cert.HeadNorm.τ Cert.HeadNorm.sig) → Buf (Elt Bits) ℓ) : Prop :=
  True

def Pre_HeadNormIdeal (m : (ℓ : Loc Cert.HeadNormIdeal.nD Cert.HeadNormIdeal.τ Cert.HeadNormIdeal.sig) → Buf (Elt Ideal) ℓ) : Prop :=
  True

def Pre_HeadNormRefIdeal (m : (ℓ : Loc Cert.HeadNormRefIdeal.nD Cert.HeadNormRefIdeal.τ Cert.HeadNormRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def Pre_Spectrum (m : (ℓ : Loc Cert.Spectrum.nD Cert.Spectrum.τ Cert.Spectrum.sig) → Buf (Elt Bits) ℓ) : Prop :=
  True

def Pre_SpectrumIdeal (m : (ℓ : Loc Cert.SpectrumIdeal.nD Cert.SpectrumIdeal.τ Cert.SpectrumIdeal.sig) → Buf (Elt Ideal) ℓ) : Prop :=
  True

def Pre_SpectrumRefIdeal (m : (ℓ : Loc Cert.SpectrumRefIdeal.nD Cert.SpectrumRefIdeal.τ Cert.SpectrumRefIdeal.sig) → Buf (Elt Ideal) ℓ) : Prop :=
  True

def Pre_LongConv (m : (ℓ : Loc Cert.LongConv.nD Cert.LongConv.τ Cert.LongConv.sig) → Buf (Elt Bits) ℓ) : Prop :=
  True

def Pre_LongConvIdeal (m : (ℓ : Loc Cert.LongConvIdeal.nD Cert.LongConvIdeal.τ Cert.LongConvIdeal.sig) → Buf (Elt Ideal) ℓ) : Prop :=
  True

def Pre_LongConvRefIdeal (m : (ℓ : Loc Cert.LongConvRefIdeal.nD Cert.LongConvRefIdeal.τ Cert.LongConvRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_ShortConvs (m : (ℓ : Loc Cert.ShortConvs.nD Cert.ShortConvs.τ Cert.ShortConvs.sig) → Buf (Elt Bits) ℓ) : Prop :=
  True

def Pre_ShortConvsIdeal (m : (ℓ : Loc Cert.ShortConvsIdeal.nD Cert.ShortConvsIdeal.τ Cert.ShortConvsIdeal.sig) → Buf (Elt Ideal) ℓ) : Prop :=
  True

def Pre_ShortConvsRefIdeal (m : (ℓ : Loc Cert.ShortConvsRefIdeal.nD Cert.ShortConvsRefIdeal.τ Cert.ShortConvsRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldRefIdeal (m : (ℓ : Loc Cert.FoldRefIdeal.nD Cert.FoldRefIdeal.τ Cert.FoldRefIdeal.sig) → Buf (Elt Ideal) ℓ) : Prop :=
  True

def Pre_FilterDft (m : (ℓ : Loc Cert.FilterDft.nD Cert.FilterDft.τ Cert.FilterDft.sig) → Buf (Elt Bits) ℓ) : Prop :=
  True

def Pre_FilterDftIdeal (m : (ℓ : Loc Cert.FilterDftIdeal.nD Cert.FilterDftIdeal.τ Cert.FilterDftIdeal.sig) → Buf (Elt Ideal) ℓ) : Prop :=
  True

def Pre_FilterDftRefIdeal (m : (ℓ : Loc Cert.FilterDftRefIdeal.nD Cert.FilterDftRefIdeal.τ Cert.FilterDftRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_QueryProj [hQueryProj : Cert.QueryProj.Facts] : Prop :=
  ∀ (m : (ℓ : Loc Cert.QueryProj.nD Cert.QueryProj.τ Cert.QueryProj.sig) → Buf (Elt Bits) ℓ) (g : Dev Cert.QueryProj.nD → PrngReg), Pre_QueryProj m →
    θ_run (Cert.QueryProj.defs (F := Bits)) (onTc (τ := Cert.QueryProj.τ) (Cert.QueryProj.main (F := Bits))) ⟨m, fun _ => 0, g⟩ (fun r => (∀ c : Dev Cert.QueryProj.nD,
      r.2.mem ((c.tc : Thread Cert.QueryProj.nD Cert.QueryProj.τ).loc Cert.QueryProj.main_arg0) = m ((c.tc : Thread Cert.QueryProj.nD Cert.QueryProj.τ).loc Cert.QueryProj.main_arg0)
      ∧ r.2.mem ((c.tc : Thread Cert.QueryProj.nD Cert.QueryProj.τ).loc Cert.QueryProj.main_arg1) = m ((c.tc : Thread Cert.QueryProj.nD Cert.QueryProj.τ).loc Cert.QueryProj.main_arg1))
      ∧ r.2.sem = fun _ => 0)

def quiescent_QueryProjIdeal [hQueryProjIdeal : Cert.QueryProjIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg), Pre_QueryProjIdeal m →
    θ_run (Cert.QueryProjIdeal.defs (F := Ideal)) (onTc (τ := Cert.QueryProjIdeal.τ) (Cert.QueryProjIdeal.main (F := Ideal))) ⟨m, fun _ => 0, g⟩ (fun r => (∀ c : Dev Cert.QueryProjIdeal.nD,
      r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
      ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ r.2.sem = fun _ => 0)

def quiescent_QueryProjRefIdeal [hQueryProjRefIdeal : Cert.QueryProjRefIdeal.Facts] : Prop :=
  ∀ (m : (ℓ : Loc Cert.QueryProjRefIdeal.nD Cert.QueryProjRefIdeal.τ Cert.QueryProjRefIdeal.sig) → Buf (Elt Ideal) ℓ) (g : Dev Cert.QueryProjRefIdeal.nD → PrngReg), Pre_QueryProjRefIdeal m →
    θ_run (Cert.QueryProjRefIdeal.defs (F := Ideal)) (onTc (τ := Cert.QueryProjRefIdeal.τ) (Cert.QueryProjRefIdeal.main (F := Ideal))) ⟨m, fun _ => 0, g⟩ (fun r => (∀ c : Dev Cert.QueryProjRefIdeal.nD,
      r.2.mem ((c.tc : Thread Cert.QueryProjRefIdeal.nD Cert.QueryProjRefIdeal.τ).loc Cert.QueryProjRefIdeal.main_arg0) = m ((c.tc : Thread Cert.QueryProjRefIdeal.nD Cert.QueryProjRefIdeal.τ).loc Cert.QueryProjRefIdeal.main_arg0)
      ∧ r.2.mem ((c.tc : Thread Cert.QueryProjRefIdeal.nD Cert.QueryProjRefIdeal.τ).loc Cert.QueryProjRefIdeal.main_arg1) = m ((c.tc : Thread Cert.QueryProjRefIdeal.nD Cert.QueryProjRefIdeal.τ).loc Cert.QueryProjRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1)
      ∧ r.2.mem ((c.tc : Thread Cert.FinalNormRefIdeal.nD Cert.FinalNormRefIdeal.τ).loc Cert.FinalNormRefIdeal.main_arg2) = m ((c.tc : Thread Cert.FinalNormRefIdeal.nD Cert.FinalNormRefIdeal.τ).loc Cert.FinalNormRefIdeal.main_arg2))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_AddNorm [hAddNorm : Cert.AddNorm.Facts] : Prop :=
  ∀ (m : (ℓ : Loc Cert.AddNorm.nD Cert.AddNorm.τ Cert.AddNorm.sig) → Buf (Elt Bits) ℓ) (g : Dev Cert.AddNorm.nD → PrngReg), Pre_AddNorm m →
    θ_run (Cert.AddNorm.defs (F := Bits)) (onTc (τ := Cert.AddNorm.τ) (Cert.AddNorm.main (F := Bits))) ⟨m, fun _ => 0, g⟩ (fun r => (∀ c : Dev Cert.AddNorm.nD,
      r.2.mem ((c.tc : Thread Cert.AddNorm.nD Cert.AddNorm.τ).loc Cert.AddNorm.main_arg0) = m ((c.tc : Thread Cert.AddNorm.nD Cert.AddNorm.τ).loc Cert.AddNorm.main_arg0)
      ∧ r.2.mem ((c.tc : Thread Cert.AddNorm.nD Cert.AddNorm.τ).loc Cert.AddNorm.main_arg1) = m ((c.tc : Thread Cert.AddNorm.nD Cert.AddNorm.τ).loc Cert.AddNorm.main_arg1)
      ∧ r.2.mem ((c.tc : Thread Cert.AddNorm.nD Cert.AddNorm.τ).loc Cert.AddNorm.main_arg2) = m ((c.tc : Thread Cert.AddNorm.nD Cert.AddNorm.τ).loc Cert.AddNorm.main_arg2))
      ∧ r.2.sem = fun _ => 0)

def quiescent_AddNormIdeal [hAddNormIdeal : Cert.AddNormIdeal.Facts] : Prop :=
  ∀ (m : (ℓ : Loc Cert.AddNormIdeal.nD Cert.AddNormIdeal.τ Cert.AddNormIdeal.sig) → Buf (Elt Ideal) ℓ) (g : Dev Cert.AddNormIdeal.nD → PrngReg), Pre_AddNormIdeal m →
    θ_run (Cert.AddNormIdeal.defs (F := Ideal)) (onTc (τ := Cert.AddNormIdeal.τ) (Cert.AddNormIdeal.main (F := Ideal))) ⟨m, fun _ => 0, g⟩ (fun r => (∀ c : Dev Cert.AddNormIdeal.nD,
      r.2.mem ((c.tc : Thread Cert.AddNormIdeal.nD Cert.AddNormIdeal.τ).loc Cert.AddNormIdeal.main_arg0) = m ((c.tc : Thread Cert.AddNormIdeal.nD Cert.AddNormIdeal.τ).loc Cert.AddNormIdeal.main_arg0)
      ∧ r.2.mem ((c.tc : Thread Cert.AddNormIdeal.nD Cert.AddNormIdeal.τ).loc Cert.AddNormIdeal.main_arg1) = m ((c.tc : Thread Cert.AddNormIdeal.nD Cert.AddNormIdeal.τ).loc Cert.AddNormIdeal.main_arg1)
      ∧ r.2.mem ((c.tc : Thread Cert.AddNormIdeal.nD Cert.AddNormIdeal.τ).loc Cert.AddNormIdeal.main_arg2) = m ((c.tc : Thread Cert.AddNormIdeal.nD Cert.AddNormIdeal.τ).loc Cert.AddNormIdeal.main_arg2))
      ∧ r.2.sem = fun _ => 0)

def quiescent_AddNormRefIdeal [hAddNormRefIdeal : Cert.AddNormRefIdeal.Facts] : Prop :=
  ∀ (m : (ℓ : Loc Cert.AddNormRefIdeal.nD Cert.AddNormRefIdeal.τ Cert.AddNormRefIdeal.sig) → Buf (Elt Ideal) ℓ) (g : Dev Cert.AddNormRefIdeal.nD → PrngReg), Pre_AddNormRefIdeal m →
    θ_run (Cert.AddNormRefIdeal.defs (F := Ideal)) (onTc (τ := Cert.AddNormRefIdeal.τ) (Cert.AddNormRefIdeal.main (F := Ideal))) ⟨m, fun _ => 0, g⟩ (fun r => (∀ c : Dev Cert.AddNormRefIdeal.nD,
      r.2.mem ((c.tc : Thread Cert.AddNormRefIdeal.nD Cert.AddNormRefIdeal.τ).loc Cert.AddNormRefIdeal.main_arg0) = m ((c.tc : Thread Cert.AddNormRefIdeal.nD Cert.AddNormRefIdeal.τ).loc Cert.AddNormRefIdeal.main_arg0)
      ∧ r.2.mem ((c.tc : Thread Cert.AddNormRefIdeal.nD Cert.AddNormRefIdeal.τ).loc Cert.AddNormRefIdeal.main_arg1) = m ((c.tc : Thread Cert.AddNormRefIdeal.nD Cert.AddNormRefIdeal.τ).loc Cert.AddNormRefIdeal.main_arg1)
      ∧ r.2.mem ((c.tc : Thread Cert.AddNormRefIdeal.nD Cert.AddNormRefIdeal.τ).loc Cert.AddNormRefIdeal.main_arg2) = m ((c.tc : Thread Cert.AddNormRefIdeal.nD Cert.AddNormRefIdeal.τ).loc Cert.AddNormRefIdeal.main_arg2))
      ∧ r.2.sem = fun _ => 0)

def quiescent_HeadNorm [hHeadNorm : Cert.HeadNorm.Facts] : Prop :=
  ∀ (m : (ℓ : Loc Cert.HeadNorm.nD Cert.HeadNorm.τ Cert.HeadNorm.sig) → Buf (Elt Bits) ℓ) (g : Dev Cert.HeadNorm.nD → PrngReg), Pre_HeadNorm m →
    θ_run (Cert.HeadNorm.defs (F := Bits)) (onTc (τ := Cert.HeadNorm.τ) (Cert.HeadNorm.main (F := Bits))) ⟨m, fun _ => 0, g⟩ (fun r => (∀ c : Dev Cert.HeadNorm.nD,
      r.2.mem ((c.tc : Thread Cert.HeadNorm.nD Cert.HeadNorm.τ).loc Cert.HeadNorm.main_arg0) = m ((c.tc : Thread Cert.HeadNorm.nD Cert.HeadNorm.τ).loc Cert.HeadNorm.main_arg0)
      ∧ r.2.mem ((c.tc : Thread Cert.HeadNorm.nD Cert.HeadNorm.τ).loc Cert.HeadNorm.main_arg1) = m ((c.tc : Thread Cert.HeadNorm.nD Cert.HeadNorm.τ).loc Cert.HeadNorm.main_arg1)
      ∧ r.2.mem ((c.tc : Thread Cert.HeadNorm.nD Cert.HeadNorm.τ).loc Cert.HeadNorm.main_arg2) = m ((c.tc : Thread Cert.HeadNorm.nD Cert.HeadNorm.τ).loc Cert.HeadNorm.main_arg2)
      ∧ r.2.mem ((c.tc : Thread Cert.HeadNorm.nD Cert.HeadNorm.τ).loc Cert.HeadNorm.main_arg3) = m ((c.tc : Thread Cert.HeadNorm.nD Cert.HeadNorm.τ).loc Cert.HeadNorm.main_arg3))
      ∧ r.2.sem = fun _ => 0)

def quiescent_HeadNormIdeal [hHeadNormIdeal : Cert.HeadNormIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg), Pre_HeadNormIdeal m →
    θ_run (Cert.HeadNormIdeal.defs (F := Ideal)) (onTc (τ := Cert.HeadNormIdeal.τ) (Cert.HeadNormIdeal.main (F := Ideal))) ⟨m, fun _ => 0, g⟩ (fun r => (∀ c : Dev Cert.HeadNormIdeal.nD,
      r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
      ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
      ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2)
      ∧ r.2.mem ((c.tc : Thread Cert.HeadNormIdeal.nD Cert.HeadNormIdeal.τ).loc Cert.HeadNormIdeal.main_arg3) = m ((c.tc : Thread Cert.HeadNormIdeal.nD Cert.HeadNormIdeal.τ).loc Cert.HeadNormIdeal.main_arg3))
      ∧ r.2.sem = fun _ => 0)

def quiescent_HeadNormRefIdeal [hHeadNormRefIdeal : Cert.HeadNormRefIdeal.Facts] : Prop :=
  ∀ (m : (ℓ : Loc Cert.HeadNormRefIdeal.nD Cert.HeadNormRefIdeal.τ Cert.HeadNormRefIdeal.sig) → Buf (Elt Ideal) ℓ) (g : Dev Cert.HeadNormRefIdeal.nD → PrngReg), Pre_HeadNormRefIdeal m →
    θ_run (Cert.HeadNormRefIdeal.defs (F := Ideal)) (onTc (τ := Cert.HeadNormRefIdeal.τ) (Cert.HeadNormRefIdeal.main (F := Ideal))) ⟨m, fun _ => 0, g⟩ (fun r => (∀ c : Dev Cert.HeadNormRefIdeal.nD,
      r.2.mem ((c.tc : Thread Cert.HeadNormRefIdeal.nD Cert.HeadNormRefIdeal.τ).loc Cert.HeadNormRefIdeal.main_arg0) = m ((c.tc : Thread Cert.HeadNormRefIdeal.nD Cert.HeadNormRefIdeal.τ).loc Cert.HeadNormRefIdeal.main_arg0)
      ∧ r.2.mem ((c.tc : Thread Cert.HeadNormRefIdeal.nD Cert.HeadNormRefIdeal.τ).loc Cert.HeadNormRefIdeal.main_arg1) = m ((c.tc : Thread Cert.HeadNormRefIdeal.nD Cert.HeadNormRefIdeal.τ).loc Cert.HeadNormRefIdeal.main_arg1)
      ∧ r.2.mem ((c.tc : Thread Cert.HeadNormRefIdeal.nD Cert.HeadNormRefIdeal.τ).loc Cert.HeadNormRefIdeal.main_arg2) = m ((c.tc : Thread Cert.HeadNormRefIdeal.nD Cert.HeadNormRefIdeal.τ).loc Cert.HeadNormRefIdeal.main_arg2)
      ∧ r.2.mem ((c.tc : Thread Cert.HeadNormRefIdeal.nD Cert.HeadNormRefIdeal.τ).loc Cert.HeadNormRefIdeal.main_arg3) = m ((c.tc : Thread Cert.HeadNormRefIdeal.nD Cert.HeadNormRefIdeal.τ).loc Cert.HeadNormRefIdeal.main_arg3))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1)
      ∧ r.2.mem ((c.tc : Thread Cert.FourierRefIdeal.nD Cert.FourierRefIdeal.τ).loc Cert.FourierRefIdeal.main_arg2) = m ((c.tc : Thread Cert.FourierRefIdeal.nD Cert.FourierRefIdeal.τ).loc Cert.FourierRefIdeal.main_arg2))
      ∧ r.2.sem = fun _ => 0)

def quiescent_Spectrum [hSpectrum : Cert.Spectrum.Facts] : Prop :=
  ∀ (m : (ℓ : Loc Cert.Spectrum.nD Cert.Spectrum.τ Cert.Spectrum.sig) → Buf (Elt Bits) ℓ) (g : Dev Cert.Spectrum.nD → PrngReg), Pre_Spectrum m →
    θ_run (Cert.Spectrum.defs (F := Bits)) (onTc (τ := Cert.Spectrum.τ) (Cert.Spectrum.main (F := Bits))) ⟨m, fun _ => 0, g⟩ (fun r => (∀ c : Dev Cert.Spectrum.nD,
      r.2.mem ((c.tc : Thread Cert.Spectrum.nD Cert.Spectrum.τ).loc Cert.Spectrum.main_arg0) = m ((c.tc : Thread Cert.Spectrum.nD Cert.Spectrum.τ).loc Cert.Spectrum.main_arg0)
      ∧ r.2.mem ((c.tc : Thread Cert.Spectrum.nD Cert.Spectrum.τ).loc Cert.Spectrum.main_arg1) = m ((c.tc : Thread Cert.Spectrum.nD Cert.Spectrum.τ).loc Cert.Spectrum.main_arg1)
      ∧ r.2.mem ((c.tc : Thread Cert.Spectrum.nD Cert.Spectrum.τ).loc Cert.Spectrum.main_arg2) = m ((c.tc : Thread Cert.Spectrum.nD Cert.Spectrum.τ).loc Cert.Spectrum.main_arg2))
      ∧ r.2.sem = fun _ => 0)

def quiescent_SpectrumIdeal [hSpectrumIdeal : Cert.SpectrumIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
      ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2))
      ∧ r.2.sem = fun _ => 0)

def quiescent_SpectrumRefIdeal [hSpectrumRefIdeal : Cert.SpectrumRefIdeal.Facts] : Prop :=
  ∀ (m : (ℓ : Loc Cert.SpectrumRefIdeal.nD Cert.SpectrumRefIdeal.τ Cert.SpectrumRefIdeal.sig) → Buf (Elt Ideal) ℓ) (g : Dev Cert.SpectrumRefIdeal.nD → PrngReg), Pre_SpectrumRefIdeal m →
    θ_run (Cert.SpectrumRefIdeal.defs (F := Ideal)) (onTc (τ := Cert.SpectrumRefIdeal.τ) (Cert.SpectrumRefIdeal.main (F := Ideal))) ⟨m, fun _ => 0, g⟩ (fun r => (∀ c : Dev Cert.SpectrumRefIdeal.nD,
      r.2.mem ((c.tc : Thread Cert.SpectrumRefIdeal.nD Cert.SpectrumRefIdeal.τ).loc Cert.SpectrumRefIdeal.main_arg0) = m ((c.tc : Thread Cert.SpectrumRefIdeal.nD Cert.SpectrumRefIdeal.τ).loc Cert.SpectrumRefIdeal.main_arg0)
      ∧ r.2.mem ((c.tc : Thread Cert.SpectrumRefIdeal.nD Cert.SpectrumRefIdeal.τ).loc Cert.SpectrumRefIdeal.main_arg1) = m ((c.tc : Thread Cert.SpectrumRefIdeal.nD Cert.SpectrumRefIdeal.τ).loc Cert.SpectrumRefIdeal.main_arg1)
      ∧ r.2.mem ((c.tc : Thread Cert.SpectrumRefIdeal.nD Cert.SpectrumRefIdeal.τ).loc Cert.SpectrumRefIdeal.main_arg2) = m ((c.tc : Thread Cert.SpectrumRefIdeal.nD Cert.SpectrumRefIdeal.τ).loc Cert.SpectrumRefIdeal.main_arg2))
      ∧ r.2.sem = fun _ => 0)

def quiescent_LongConv [hLongConv : Cert.LongConv.Facts] : Prop :=
  ∀ (m : (ℓ : Loc Cert.LongConv.nD Cert.LongConv.τ Cert.LongConv.sig) → Buf (Elt Bits) ℓ) (g : Dev Cert.LongConv.nD → PrngReg), Pre_LongConv m →
    θ_run (Cert.LongConv.defs (F := Bits)) (onTc (τ := Cert.LongConv.τ) (Cert.LongConv.main (F := Bits))) ⟨m, fun _ => 0, g⟩ (fun r => (∀ c : Dev Cert.LongConv.nD,
      r.2.mem ((c.tc : Thread Cert.LongConv.nD Cert.LongConv.τ).loc Cert.LongConv.main_arg0) = m ((c.tc : Thread Cert.LongConv.nD Cert.LongConv.τ).loc Cert.LongConv.main_arg0)
      ∧ r.2.mem ((c.tc : Thread Cert.LongConv.nD Cert.LongConv.τ).loc Cert.LongConv.main_arg1) = m ((c.tc : Thread Cert.LongConv.nD Cert.LongConv.τ).loc Cert.LongConv.main_arg1)
      ∧ r.2.mem ((c.tc : Thread Cert.LongConv.nD Cert.LongConv.τ).loc Cert.LongConv.main_arg2) = m ((c.tc : Thread Cert.LongConv.nD Cert.LongConv.τ).loc Cert.LongConv.main_arg2)
      ∧ r.2.mem ((c.tc : Thread Cert.LongConv.nD Cert.LongConv.τ).loc Cert.LongConv.main_arg3) = m ((c.tc : Thread Cert.LongConv.nD Cert.LongConv.τ).loc Cert.LongConv.main_arg3)
      ∧ r.2.mem ((c.tc : Thread Cert.LongConv.nD Cert.LongConv.τ).loc Cert.LongConv.main_arg4) = m ((c.tc : Thread Cert.LongConv.nD Cert.LongConv.τ).loc Cert.LongConv.main_arg4))
      ∧ r.2.sem = fun _ => 0)

def quiescent_LongConvIdeal [hLongConvIdeal : Cert.LongConvIdeal.Facts] : Prop :=
  ∀ (m : (ℓ : Loc Cert.LongConvIdeal.nD Cert.LongConvIdeal.τ Cert.LongConvIdeal.sig) → Buf (Elt Ideal) ℓ) (g : Dev Cert.LongConvIdeal.nD → PrngReg), Pre_LongConvIdeal m →
    θ_run (Cert.LongConvIdeal.defs (F := Ideal)) (onTc (τ := Cert.LongConvIdeal.τ) (Cert.LongConvIdeal.main (F := Ideal))) ⟨m, fun _ => 0, g⟩ (fun r => (∀ c : Dev Cert.LongConvIdeal.nD,
      r.2.mem ((c.tc : Thread Cert.LongConvIdeal.nD Cert.LongConvIdeal.τ).loc Cert.LongConvIdeal.main_arg0) = m ((c.tc : Thread Cert.LongConvIdeal.nD Cert.LongConvIdeal.τ).loc Cert.LongConvIdeal.main_arg0)
      ∧ r.2.mem ((c.tc : Thread Cert.LongConvIdeal.nD Cert.LongConvIdeal.τ).loc Cert.LongConvIdeal.main_arg1) = m ((c.tc : Thread Cert.LongConvIdeal.nD Cert.LongConvIdeal.τ).loc Cert.LongConvIdeal.main_arg1)
      ∧ r.2.mem ((c.tc : Thread Cert.LongConvIdeal.nD Cert.LongConvIdeal.τ).loc Cert.LongConvIdeal.main_arg2) = m ((c.tc : Thread Cert.LongConvIdeal.nD Cert.LongConvIdeal.τ).loc Cert.LongConvIdeal.main_arg2)
      ∧ r.2.mem ((c.tc : Thread Cert.LongConvIdeal.nD Cert.LongConvIdeal.τ).loc Cert.LongConvIdeal.main_arg3) = m ((c.tc : Thread Cert.LongConvIdeal.nD Cert.LongConvIdeal.τ).loc Cert.LongConvIdeal.main_arg3)
      ∧ r.2.mem ((c.tc : Thread Cert.LongConvIdeal.nD Cert.LongConvIdeal.τ).loc Cert.LongConvIdeal.main_arg4) = m ((c.tc : Thread Cert.LongConvIdeal.nD Cert.LongConvIdeal.τ).loc Cert.LongConvIdeal.main_arg4))
      ∧ r.2.sem = fun _ => 0)

def quiescent_LongConvRefIdeal [hLongConvRefIdeal : Cert.LongConvRefIdeal.Facts] : Prop :=
  ∀ (m : (ℓ : Loc Cert.LongConvRefIdeal.nD Cert.LongConvRefIdeal.τ Cert.LongConvRefIdeal.sig) → Buf (Elt Ideal) ℓ) (g : Dev Cert.LongConvRefIdeal.nD → PrngReg), Pre_LongConvRefIdeal m →
    θ_run (Cert.LongConvRefIdeal.defs (F := Ideal)) (onTc (τ := Cert.LongConvRefIdeal.τ) (Cert.LongConvRefIdeal.main (F := Ideal))) ⟨m, fun _ => 0, g⟩ (fun r => (∀ c : Dev Cert.LongConvRefIdeal.nD,
      r.2.mem ((c.tc : Thread Cert.LongConvRefIdeal.nD Cert.LongConvRefIdeal.τ).loc Cert.LongConvRefIdeal.main_arg0) = m ((c.tc : Thread Cert.LongConvRefIdeal.nD Cert.LongConvRefIdeal.τ).loc Cert.LongConvRefIdeal.main_arg0)
      ∧ r.2.mem ((c.tc : Thread Cert.LongConvRefIdeal.nD Cert.LongConvRefIdeal.τ).loc Cert.LongConvRefIdeal.main_arg1) = m ((c.tc : Thread Cert.LongConvRefIdeal.nD Cert.LongConvRefIdeal.τ).loc Cert.LongConvRefIdeal.main_arg1)
      ∧ r.2.mem ((c.tc : Thread Cert.LongConvRefIdeal.nD Cert.LongConvRefIdeal.τ).loc Cert.LongConvRefIdeal.main_arg2) = m ((c.tc : Thread Cert.LongConvRefIdeal.nD Cert.LongConvRefIdeal.τ).loc Cert.LongConvRefIdeal.main_arg2)
      ∧ r.2.mem ((c.tc : Thread Cert.LongConvRefIdeal.nD Cert.LongConvRefIdeal.τ).loc Cert.LongConvRefIdeal.main_arg3) = m ((c.tc : Thread Cert.LongConvRefIdeal.nD Cert.LongConvRefIdeal.τ).loc Cert.LongConvRefIdeal.main_arg3)
      ∧ r.2.mem ((c.tc : Thread Cert.LongConvRefIdeal.nD Cert.LongConvRefIdeal.τ).loc Cert.LongConvRefIdeal.main_arg4) = m ((c.tc : Thread Cert.LongConvRefIdeal.nD Cert.LongConvRefIdeal.τ).loc Cert.LongConvRefIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ShortConvs [hShortConvs : Cert.ShortConvs.Facts] : Prop :=
  ∀ (m : (ℓ : Loc Cert.ShortConvs.nD Cert.ShortConvs.τ Cert.ShortConvs.sig) → Buf (Elt Bits) ℓ) (g : Dev Cert.ShortConvs.nD → PrngReg), Pre_ShortConvs m →
    θ_run (Cert.ShortConvs.defs (F := Bits)) (onTc (τ := Cert.ShortConvs.τ) (Cert.ShortConvs.main (F := Bits))) ⟨m, fun _ => 0, g⟩ (fun r => (∀ c : Dev Cert.ShortConvs.nD,
      r.2.mem ((c.tc : Thread Cert.ShortConvs.nD Cert.ShortConvs.τ).loc Cert.ShortConvs.main_arg0) = m ((c.tc : Thread Cert.ShortConvs.nD Cert.ShortConvs.τ).loc Cert.ShortConvs.main_arg0)
      ∧ r.2.mem ((c.tc : Thread Cert.ShortConvs.nD Cert.ShortConvs.τ).loc Cert.ShortConvs.main_arg1) = m ((c.tc : Thread Cert.ShortConvs.nD Cert.ShortConvs.τ).loc Cert.ShortConvs.main_arg1)
      ∧ r.2.mem ((c.tc : Thread Cert.ShortConvs.nD Cert.ShortConvs.τ).loc Cert.ShortConvs.main_arg2) = m ((c.tc : Thread Cert.ShortConvs.nD Cert.ShortConvs.τ).loc Cert.ShortConvs.main_arg2))
      ∧ r.2.sem = fun _ => 0)

def quiescent_ShortConvsIdeal [hShortConvsIdeal : Cert.ShortConvsIdeal.Facts] : Prop :=
  ∀ (m : (ℓ : Loc Cert.ShortConvsIdeal.nD Cert.ShortConvsIdeal.τ Cert.ShortConvsIdeal.sig) → Buf (Elt Ideal) ℓ) (g : Dev Cert.ShortConvsIdeal.nD → PrngReg), Pre_ShortConvsIdeal m →
    θ_run (Cert.ShortConvsIdeal.defs (F := Ideal)) (onTc (τ := Cert.ShortConvsIdeal.τ) (Cert.ShortConvsIdeal.main (F := Ideal))) ⟨m, fun _ => 0, g⟩ (fun r => (∀ c : Dev Cert.ShortConvsIdeal.nD,
      r.2.mem ((c.tc : Thread Cert.ShortConvsIdeal.nD Cert.ShortConvsIdeal.τ).loc Cert.ShortConvsIdeal.main_arg0) = m ((c.tc : Thread Cert.ShortConvsIdeal.nD Cert.ShortConvsIdeal.τ).loc Cert.ShortConvsIdeal.main_arg0)
      ∧ r.2.mem ((c.tc : Thread Cert.ShortConvsIdeal.nD Cert.ShortConvsIdeal.τ).loc Cert.ShortConvsIdeal.main_arg1) = m ((c.tc : Thread Cert.ShortConvsIdeal.nD Cert.ShortConvsIdeal.τ).loc Cert.ShortConvsIdeal.main_arg1)
      ∧ r.2.mem ((c.tc : Thread Cert.ShortConvsIdeal.nD Cert.ShortConvsIdeal.τ).loc Cert.ShortConvsIdeal.main_arg2) = m ((c.tc : Thread Cert.ShortConvsIdeal.nD Cert.ShortConvsIdeal.τ).loc Cert.ShortConvsIdeal.main_arg2))
      ∧ r.2.sem = fun _ => 0)

def quiescent_ShortConvsRefIdeal [hShortConvsRefIdeal : Cert.ShortConvsRefIdeal.Facts] : Prop :=
  ∀ (m : (ℓ : Loc Cert.ShortConvsRefIdeal.nD Cert.ShortConvsRefIdeal.τ Cert.ShortConvsRefIdeal.sig) → Buf (Elt Ideal) ℓ) (g : Dev Cert.ShortConvsRefIdeal.nD → PrngReg), Pre_ShortConvsRefIdeal m →
    θ_run (Cert.ShortConvsRefIdeal.defs (F := Ideal)) (onTc (τ := Cert.ShortConvsRefIdeal.τ) (Cert.ShortConvsRefIdeal.main (F := Ideal))) ⟨m, fun _ => 0, g⟩ (fun r => (∀ c : Dev Cert.ShortConvsRefIdeal.nD,
      r.2.mem ((c.tc : Thread Cert.ShortConvsRefIdeal.nD Cert.ShortConvsRefIdeal.τ).loc Cert.ShortConvsRefIdeal.main_arg0) = m ((c.tc : Thread Cert.ShortConvsRefIdeal.nD Cert.ShortConvsRefIdeal.τ).loc Cert.ShortConvsRefIdeal.main_arg0)
      ∧ r.2.mem ((c.tc : Thread Cert.ShortConvsRefIdeal.nD Cert.ShortConvsRefIdeal.τ).loc Cert.ShortConvsRefIdeal.main_arg1) = m ((c.tc : Thread Cert.ShortConvsRefIdeal.nD Cert.ShortConvsRefIdeal.τ).loc Cert.ShortConvsRefIdeal.main_arg1)
      ∧ r.2.mem ((c.tc : Thread Cert.ShortConvsRefIdeal.nD Cert.ShortConvsRefIdeal.τ).loc Cert.ShortConvsRefIdeal.main_arg2) = m ((c.tc : Thread Cert.ShortConvsRefIdeal.nD Cert.ShortConvsRefIdeal.τ).loc Cert.ShortConvsRefIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ r.2.sem = fun _ => 0)

def quiescent_FoldRefIdeal [hFoldRefIdeal : Cert.FoldRefIdeal.Facts] : Prop :=
  ∀ (m : (ℓ : Loc Cert.FoldRefIdeal.nD Cert.FoldRefIdeal.τ Cert.FoldRefIdeal.sig) → Buf (Elt Ideal) ℓ) (g : Dev Cert.FoldRefIdeal.nD → PrngReg), Pre_FoldRefIdeal m →
    θ_run (Cert.FoldRefIdeal.defs (F := Ideal)) (onTc (τ := Cert.FoldRefIdeal.τ) (Cert.FoldRefIdeal.main (F := Ideal))) ⟨m, fun _ => 0, g⟩ (fun r => (∀ c : Dev Cert.FoldRefIdeal.nD,
      r.2.mem ((c.tc : Thread Cert.FoldRefIdeal.nD Cert.FoldRefIdeal.τ).loc Cert.FoldRefIdeal.main_arg0) = m ((c.tc : Thread Cert.FoldRefIdeal.nD Cert.FoldRefIdeal.τ).loc Cert.FoldRefIdeal.main_arg0)
      ∧ r.2.mem ((c.tc : Thread Cert.FoldRefIdeal.nD Cert.FoldRefIdeal.τ).loc Cert.FoldRefIdeal.main_arg1) = m ((c.tc : Thread Cert.FoldRefIdeal.nD Cert.FoldRefIdeal.τ).loc Cert.FoldRefIdeal.main_arg1))
      ∧ r.2.sem = fun _ => 0)

def quiescent_FilterDft [hFilterDft : Cert.FilterDft.Facts] : Prop :=
  ∀ (m : (ℓ : Loc Cert.FilterDft.nD Cert.FilterDft.τ Cert.FilterDft.sig) → Buf (Elt Bits) ℓ) (g : Dev Cert.FilterDft.nD → PrngReg), Pre_FilterDft m →
    θ_run (Cert.FilterDft.defs (F := Bits)) (onTc (τ := Cert.FilterDft.τ) (Cert.FilterDft.main (F := Bits))) ⟨m, fun _ => 0, g⟩ (fun r => (∀ c : Dev Cert.FilterDft.nD,
      r.2.mem ((c.tc : Thread Cert.FilterDft.nD Cert.FilterDft.τ).loc Cert.FilterDft.main_arg0) = m ((c.tc : Thread Cert.FilterDft.nD Cert.FilterDft.τ).loc Cert.FilterDft.main_arg0)
      ∧ r.2.mem ((c.tc : Thread Cert.FilterDft.nD Cert.FilterDft.τ).loc Cert.FilterDft.main_arg1) = m ((c.tc : Thread Cert.FilterDft.nD Cert.FilterDft.τ).loc Cert.FilterDft.main_arg1))
      ∧ r.2.sem = fun _ => 0)

def quiescent_FilterDftIdeal [hFilterDftIdeal : Cert.FilterDftIdeal.Facts] : Prop :=
  ∀ (m : (ℓ : Loc Cert.FilterDftIdeal.nD Cert.FilterDftIdeal.τ Cert.FilterDftIdeal.sig) → Buf (Elt Ideal) ℓ) (g : Dev Cert.FilterDftIdeal.nD → PrngReg), Pre_FilterDftIdeal m →
    θ_run (Cert.FilterDftIdeal.defs (F := Ideal)) (onTc (τ := Cert.FilterDftIdeal.τ) (Cert.FilterDftIdeal.main (F := Ideal))) ⟨m, fun _ => 0, g⟩ (fun r => (∀ c : Dev Cert.FilterDftIdeal.nD,
      r.2.mem ((c.tc : Thread Cert.FilterDftIdeal.nD Cert.FilterDftIdeal.τ).loc Cert.FilterDftIdeal.main_arg0) = m ((c.tc : Thread Cert.FilterDftIdeal.nD Cert.FilterDftIdeal.τ).loc Cert.FilterDftIdeal.main_arg0)
      ∧ r.2.mem ((c.tc : Thread Cert.FilterDftIdeal.nD Cert.FilterDftIdeal.τ).loc Cert.FilterDftIdeal.main_arg1) = m ((c.tc : Thread Cert.FilterDftIdeal.nD Cert.FilterDftIdeal.τ).loc Cert.FilterDftIdeal.main_arg1))
      ∧ r.2.sem = fun _ => 0)

def quiescent_FilterDftRefIdeal [hFilterDftRefIdeal : Cert.FilterDftRefIdeal.Facts] : Prop :=
  ∀ (m : (ℓ : Loc Cert.FilterDftRefIdeal.nD Cert.FilterDftRefIdeal.τ Cert.FilterDftRefIdeal.sig) → Buf (Elt Ideal) ℓ) (g : Dev Cert.FilterDftRefIdeal.nD → PrngReg), Pre_FilterDftRefIdeal m →
    θ_run (Cert.FilterDftRefIdeal.defs (F := Ideal)) (onTc (τ := Cert.FilterDftRefIdeal.τ) (Cert.FilterDftRefIdeal.main (F := Ideal))) ⟨m, fun _ => 0, g⟩ (fun r => (∀ c : Dev Cert.FilterDftRefIdeal.nD,
      r.2.mem ((c.tc : Thread Cert.FilterDftRefIdeal.nD Cert.FilterDftRefIdeal.τ).loc Cert.FilterDftRefIdeal.main_arg0) = m ((c.tc : Thread Cert.FilterDftRefIdeal.nD Cert.FilterDftRefIdeal.τ).loc Cert.FilterDftRefIdeal.main_arg0)
      ∧ r.2.mem ((c.tc : Thread Cert.FilterDftRefIdeal.nD Cert.FilterDftRefIdeal.τ).loc Cert.FilterDftRefIdeal.main_arg1) = m ((c.tc : Thread Cert.FilterDftRefIdeal.nD Cert.FilterDftRefIdeal.τ).loc Cert.FilterDftRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1))
      ∧ r.2.sem = fun _ => 0)

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v69) = v0 c
          ∧ r.2.mem ((c.tc : Thread Cert.ScanRefIdeal.nD Cert.ScanRefIdeal.τ).loc Cert.ScanRefIdeal.main_v74) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v6) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_QueryProj_QueryProjIdeal : Prop :=
  True

def algebraic_QueryProjIdeal_QueryProjRefIdeal [hQueryProjIdeal : Cert.QueryProjIdeal.Facts] [hQueryProjRefIdeal : Cert.QueryProjRefIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg)
    (m' : (ℓ : Loc Cert.QueryProjRefIdeal.nD Cert.QueryProjRefIdeal.τ Cert.QueryProjRefIdeal.sig) → Buf (Elt Ideal) ℓ) (g' : Dev Cert.QueryProjRefIdeal.nD → PrngReg), Pre_QueryProjIdeal m →
    (∀ c : Dev Cert.QueryProjIdeal.nD,
      m' ((c.tc : Thread Cert.QueryProjRefIdeal.nD Cert.QueryProjRefIdeal.τ).loc Cert.QueryProjRefIdeal.main_arg0) = m ((c.tc : Thread Cert.QueryProjIdeal.nD Cert.QueryProjIdeal.τ).loc Cert.QueryProjIdeal.main_arg0)
      ∧ m' ((c.tc : Thread Cert.QueryProjRefIdeal.nD Cert.QueryProjRefIdeal.τ).loc Cert.QueryProjRefIdeal.main_arg1) = m ((c.tc : Thread Cert.QueryProjIdeal.nD Cert.QueryProjIdeal.τ).loc Cert.QueryProjIdeal.main_arg1)) →
    ∃ (v0 : (c : Dev Cert.QueryProjIdeal.nD) → Buf (Elt Ideal) ((c.tc : Thread Cert.QueryProjIdeal.nD Cert.QueryProjIdeal.τ).loc Cert.QueryProjIdeal.main_v1)),
      θ_run (Cert.QueryProjIdeal.defs (F := Ideal)) (onTc (τ := Cert.QueryProjIdeal.τ) (Cert.QueryProjIdeal.main (F := Ideal))) ⟨m, fun _ => 0, g⟩ (fun r => ∀ c : Dev Cert.QueryProjIdeal.nD,
          r.2.mem ((c.tc : Thread Cert.QueryProjIdeal.nD Cert.QueryProjIdeal.τ).loc Cert.QueryProjIdeal.main_v1) = v0 c
          ∧ r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
          ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ θ_run (Cert.QueryProjRefIdeal.defs (F := Ideal)) (onTc (τ := Cert.QueryProjRefIdeal.τ) (Cert.QueryProjRefIdeal.main (F := Ideal))) ⟨m', fun _ => 0, g'⟩ (fun r => ∀ c : Dev Cert.QueryProjRefIdeal.nD,
          r.2.mem ((c.tc : Thread Cert.QueryProjRefIdeal.nD Cert.QueryProjRefIdeal.τ).loc Cert.QueryProjRefIdeal.main_v1) = v0 c
          ∧ r.2.mem ((c.tc : Thread Cert.QueryProjRefIdeal.nD Cert.QueryProjRefIdeal.τ).loc Cert.QueryProjRefIdeal.main_arg0) = m' ((c.tc : Thread Cert.QueryProjRefIdeal.nD Cert.QueryProjRefIdeal.τ).loc Cert.QueryProjRefIdeal.main_arg0)
          ∧ r.2.mem ((c.tc : Thread Cert.QueryProjRefIdeal.nD Cert.QueryProjRefIdeal.τ).loc Cert.QueryProjRefIdeal.main_arg1) = m' ((c.tc : Thread Cert.QueryProjRefIdeal.nD Cert.QueryProjRefIdeal.τ).loc Cert.QueryProjRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)
      ∧ m' ((c.tc : Thread Cert.FinalNormRefIdeal.nD Cert.FinalNormRefIdeal.τ).loc Cert.FinalNormRefIdeal.main_arg2) = m ((c.tc : Thread Cert.FinalNormIdeal.nD Cert.FinalNormIdeal.τ).loc Cert.FinalNormIdeal.main_arg2)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1)
          ∧ r.2.mem ((c.tc : Thread Cert.FinalNormRefIdeal.nD Cert.FinalNormRefIdeal.τ).loc Cert.FinalNormRefIdeal.main_arg2) = m' ((c.tc : Thread Cert.FinalNormRefIdeal.nD Cert.FinalNormRefIdeal.τ).loc Cert.FinalNormRefIdeal.main_arg2))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v1) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v13) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_AddNorm_AddNormIdeal : Prop :=
  True

def algebraic_AddNormIdeal_AddNormRefIdeal [hAddNormIdeal : Cert.AddNormIdeal.Facts] [hAddNormRefIdeal : Cert.AddNormRefIdeal.Facts] : Prop :=
  ∀ (m : (ℓ : Loc Cert.AddNormIdeal.nD Cert.AddNormIdeal.τ Cert.AddNormIdeal.sig) → Buf (Elt Ideal) ℓ) (g : Dev Cert.AddNormIdeal.nD → PrngReg)
    (m' : (ℓ : Loc Cert.AddNormRefIdeal.nD Cert.AddNormRefIdeal.τ Cert.AddNormRefIdeal.sig) → Buf (Elt Ideal) ℓ) (g' : Dev Cert.AddNormRefIdeal.nD → PrngReg), Pre_AddNormIdeal m →
    (∀ c : Dev Cert.AddNormIdeal.nD,
      m' ((c.tc : Thread Cert.AddNormRefIdeal.nD Cert.AddNormRefIdeal.τ).loc Cert.AddNormRefIdeal.main_arg0) = m ((c.tc : Thread Cert.AddNormIdeal.nD Cert.AddNormIdeal.τ).loc Cert.AddNormIdeal.main_arg0)
      ∧ m' ((c.tc : Thread Cert.AddNormRefIdeal.nD Cert.AddNormRefIdeal.τ).loc Cert.AddNormRefIdeal.main_arg1) = m ((c.tc : Thread Cert.AddNormIdeal.nD Cert.AddNormIdeal.τ).loc Cert.AddNormIdeal.main_arg1)
      ∧ m' ((c.tc : Thread Cert.AddNormRefIdeal.nD Cert.AddNormRefIdeal.τ).loc Cert.AddNormRefIdeal.main_arg2) = m ((c.tc : Thread Cert.AddNormIdeal.nD Cert.AddNormIdeal.τ).loc Cert.AddNormIdeal.main_arg2)) →
    ∃ (v0 : (c : Dev Cert.AddNormIdeal.nD) → Buf (Elt Ideal) ((c.tc : Thread Cert.AddNormIdeal.nD Cert.AddNormIdeal.τ).loc Cert.AddNormIdeal.main_v1_0)) (v1 : (c : Dev Cert.AddNormIdeal.nD) → Buf (Elt Ideal) ((c.tc : Thread Cert.AddNormIdeal.nD Cert.AddNormIdeal.τ).loc Cert.AddNormIdeal.main_v1_1)),
      θ_run (Cert.AddNormIdeal.defs (F := Ideal)) (onTc (τ := Cert.AddNormIdeal.τ) (Cert.AddNormIdeal.main (F := Ideal))) ⟨m, fun _ => 0, g⟩ (fun r => ∀ c : Dev Cert.AddNormIdeal.nD,
          r.2.mem ((c.tc : Thread Cert.AddNormIdeal.nD Cert.AddNormIdeal.τ).loc Cert.AddNormIdeal.main_v1_0) = v0 c
          ∧ r.2.mem ((c.tc : Thread Cert.AddNormIdeal.nD Cert.AddNormIdeal.τ).loc Cert.AddNormIdeal.main_v1_1) = v1 c
          ∧ r.2.mem ((c.tc : Thread Cert.AddNormIdeal.nD Cert.AddNormIdeal.τ).loc Cert.AddNormIdeal.main_arg0) = m ((c.tc : Thread Cert.AddNormIdeal.nD Cert.AddNormIdeal.τ).loc Cert.AddNormIdeal.main_arg0)
          ∧ r.2.mem ((c.tc : Thread Cert.AddNormIdeal.nD Cert.AddNormIdeal.τ).loc Cert.AddNormIdeal.main_arg1) = m ((c.tc : Thread Cert.AddNormIdeal.nD Cert.AddNormIdeal.τ).loc Cert.AddNormIdeal.main_arg1)
          ∧ r.2.mem ((c.tc : Thread Cert.AddNormIdeal.nD Cert.AddNormIdeal.τ).loc Cert.AddNormIdeal.main_arg2) = m ((c.tc : Thread Cert.AddNormIdeal.nD Cert.AddNormIdeal.τ).loc Cert.AddNormIdeal.main_arg2))
      ∧ θ_run (Cert.AddNormRefIdeal.defs (F := Ideal)) (onTc (τ := Cert.AddNormRefIdeal.τ) (Cert.AddNormRefIdeal.main (F := Ideal))) ⟨m', fun _ => 0, g'⟩ (fun r => ∀ c : Dev Cert.AddNormRefIdeal.nD,
          r.2.mem ((c.tc : Thread Cert.AddNormRefIdeal.nD Cert.AddNormRefIdeal.τ).loc Cert.AddNormRefIdeal.main_v0) = v0 c
          ∧ r.2.mem ((c.tc : Thread Cert.AddNormRefIdeal.nD Cert.AddNormRefIdeal.τ).loc Cert.AddNormRefIdeal.main_v14) = v1 c
          ∧ r.2.mem ((c.tc : Thread Cert.AddNormRefIdeal.nD Cert.AddNormRefIdeal.τ).loc Cert.AddNormRefIdeal.main_arg0) = m' ((c.tc : Thread Cert.AddNormRefIdeal.nD Cert.AddNormRefIdeal.τ).loc Cert.AddNormRefIdeal.main_arg0)
          ∧ r.2.mem ((c.tc : Thread Cert.AddNormRefIdeal.nD Cert.AddNormRefIdeal.τ).loc Cert.AddNormRefIdeal.main_arg1) = m' ((c.tc : Thread Cert.AddNormRefIdeal.nD Cert.AddNormRefIdeal.τ).loc Cert.AddNormRefIdeal.main_arg1)
          ∧ r.2.mem ((c.tc : Thread Cert.AddNormRefIdeal.nD Cert.AddNormRefIdeal.τ).loc Cert.AddNormRefIdeal.main_arg2) = m' ((c.tc : Thread Cert.AddNormRefIdeal.nD Cert.AddNormRefIdeal.τ).loc Cert.AddNormRefIdeal.main_arg2))

def preserves_HeadNorm_HeadNormIdeal : Prop :=
  True

def algebraic_HeadNormIdeal_HeadNormRefIdeal [hHeadNormIdeal : Cert.HeadNormIdeal.Facts] [hHeadNormRefIdeal : Cert.HeadNormRefIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg)
    (m' : (ℓ : Loc Cert.HeadNormRefIdeal.nD Cert.HeadNormRefIdeal.τ Cert.HeadNormRefIdeal.sig) → Buf (Elt Ideal) ℓ) (g' : Dev Cert.HeadNormRefIdeal.nD → PrngReg), Pre_HeadNormIdeal m →
    (∀ c : Dev Cert.HeadNormIdeal.nD,
      m' ((c.tc : Thread Cert.HeadNormRefIdeal.nD Cert.HeadNormRefIdeal.τ).loc Cert.HeadNormRefIdeal.main_arg0) = m ((c.tc : Thread Cert.HeadNormIdeal.nD Cert.HeadNormIdeal.τ).loc Cert.HeadNormIdeal.main_arg0)
      ∧ m' ((c.tc : Thread Cert.HeadNormRefIdeal.nD Cert.HeadNormRefIdeal.τ).loc Cert.HeadNormRefIdeal.main_arg1) = m ((c.tc : Thread Cert.HeadNormIdeal.nD Cert.HeadNormIdeal.τ).loc Cert.HeadNormIdeal.main_arg1)
      ∧ m' ((c.tc : Thread Cert.HeadNormRefIdeal.nD Cert.HeadNormRefIdeal.τ).loc Cert.HeadNormRefIdeal.main_arg2) = m ((c.tc : Thread Cert.HeadNormIdeal.nD Cert.HeadNormIdeal.τ).loc Cert.HeadNormIdeal.main_arg2)
      ∧ m' ((c.tc : Thread Cert.HeadNormRefIdeal.nD Cert.HeadNormRefIdeal.τ).loc Cert.HeadNormRefIdeal.main_arg3) = m ((c.tc : Thread Cert.HeadNormIdeal.nD Cert.HeadNormIdeal.τ).loc Cert.HeadNormIdeal.main_arg3)) →
    ∃ (v0 : (c : Dev Cert.HeadNormIdeal.nD) → Buf (Elt Ideal) ((c.tc : Thread Cert.HeadNormIdeal.nD Cert.HeadNormIdeal.τ).loc Cert.HeadNormIdeal.main_v1)),
      θ_run (Cert.HeadNormIdeal.defs (F := Ideal)) (onTc (τ := Cert.HeadNormIdeal.τ) (Cert.HeadNormIdeal.main (F := Ideal))) ⟨m, fun _ => 0, g⟩ (fun r => ∀ c : Dev Cert.HeadNormIdeal.nD,
          r.2.mem ((c.tc : Thread Cert.HeadNormIdeal.nD Cert.HeadNormIdeal.τ).loc Cert.HeadNormIdeal.main_v1) = v0 c
          ∧ r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
          ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
          ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2)
          ∧ r.2.mem ((c.tc : Thread Cert.HeadNormIdeal.nD Cert.HeadNormIdeal.τ).loc Cert.HeadNormIdeal.main_arg3) = m ((c.tc : Thread Cert.HeadNormIdeal.nD Cert.HeadNormIdeal.τ).loc Cert.HeadNormIdeal.main_arg3))
      ∧ θ_run (Cert.HeadNormRefIdeal.defs (F := Ideal)) (onTc (τ := Cert.HeadNormRefIdeal.τ) (Cert.HeadNormRefIdeal.main (F := Ideal))) ⟨m', fun _ => 0, g'⟩ (fun r => ∀ c : Dev Cert.HeadNormRefIdeal.nD,
          r.2.mem ((c.tc : Thread Cert.HeadNormRefIdeal.nD Cert.HeadNormRefIdeal.τ).loc Cert.HeadNormRefIdeal.main_v20) = v0 c
          ∧ r.2.mem ((c.tc : Thread Cert.HeadNormRefIdeal.nD Cert.HeadNormRefIdeal.τ).loc Cert.HeadNormRefIdeal.main_arg0) = m' ((c.tc : Thread Cert.HeadNormRefIdeal.nD Cert.HeadNormRefIdeal.τ).loc Cert.HeadNormRefIdeal.main_arg0)
          ∧ r.2.mem ((c.tc : Thread Cert.HeadNormRefIdeal.nD Cert.HeadNormRefIdeal.τ).loc Cert.HeadNormRefIdeal.main_arg1) = m' ((c.tc : Thread Cert.HeadNormRefIdeal.nD Cert.HeadNormRefIdeal.τ).loc Cert.HeadNormRefIdeal.main_arg1)
          ∧ r.2.mem ((c.tc : Thread Cert.HeadNormRefIdeal.nD Cert.HeadNormRefIdeal.τ).loc Cert.HeadNormRefIdeal.main_arg2) = m' ((c.tc : Thread Cert.HeadNormRefIdeal.nD Cert.HeadNormRefIdeal.τ).loc Cert.HeadNormRefIdeal.main_arg2)
          ∧ r.2.mem ((c.tc : Thread Cert.HeadNormRefIdeal.nD Cert.HeadNormRefIdeal.τ).loc Cert.HeadNormRefIdeal.main_arg3) = m' ((c.tc : Thread Cert.HeadNormRefIdeal.nD Cert.HeadNormRefIdeal.τ).loc Cert.HeadNormRefIdeal.main_arg3))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)
      ∧ m' ((c.tc : Thread Cert.FourierRefIdeal.nD Cert.FourierRefIdeal.τ).loc Cert.FourierRefIdeal.main_arg2) = m ((c.tc : Thread Cert.FourierIdeal.nD Cert.FourierIdeal.τ).loc Cert.FourierIdeal.main_arg2)) →
    ∃ (v0 : (c : Dev Cert.FourierIdeal.nD) → Buf (Elt Ideal) ((c.tc : Thread Cert.FourierIdeal.nD Cert.FourierIdeal.τ).loc Cert.FourierIdeal.main_v0)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v0) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v22) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1)
          ∧ r.2.mem ((c.tc : Thread Cert.FourierRefIdeal.nD Cert.FourierRefIdeal.τ).loc Cert.FourierRefIdeal.main_arg2) = m' ((c.tc : Thread Cert.FourierRefIdeal.nD Cert.FourierRefIdeal.τ).loc Cert.FourierRefIdeal.main_arg2))

def preserves_Spectrum_SpectrumIdeal : Prop :=
  True

def algebraic_SpectrumIdeal_SpectrumRefIdeal [hSpectrumIdeal : Cert.SpectrumIdeal.Facts] [hSpectrumRefIdeal : Cert.SpectrumRefIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg)
    (m' : (ℓ : Loc Cert.SpectrumRefIdeal.nD Cert.SpectrumRefIdeal.τ Cert.SpectrumRefIdeal.sig) → Buf (Elt Ideal) ℓ) (g' : Dev Cert.SpectrumRefIdeal.nD → PrngReg), Pre_SpectrumIdeal m →
    (∀ c : Dev Cert.SpectrumIdeal.nD,
      m' ((c.tc : Thread Cert.SpectrumRefIdeal.nD Cert.SpectrumRefIdeal.τ).loc Cert.SpectrumRefIdeal.main_arg0) = m ((c.tc : Thread Cert.SpectrumIdeal.nD Cert.SpectrumIdeal.τ).loc Cert.SpectrumIdeal.main_arg0)
      ∧ m' ((c.tc : Thread Cert.SpectrumRefIdeal.nD Cert.SpectrumRefIdeal.τ).loc Cert.SpectrumRefIdeal.main_arg1) = m ((c.tc : Thread Cert.SpectrumIdeal.nD Cert.SpectrumIdeal.τ).loc Cert.SpectrumIdeal.main_arg1)
      ∧ m' ((c.tc : Thread Cert.SpectrumRefIdeal.nD Cert.SpectrumRefIdeal.τ).loc Cert.SpectrumRefIdeal.main_arg2) = m ((c.tc : Thread Cert.SpectrumIdeal.nD Cert.SpectrumIdeal.τ).loc Cert.SpectrumIdeal.main_arg2)) →
    ∃ (v0 : (c : Dev Cert.SpectrumIdeal.nD) → Buf (Elt Ideal) ((c.tc : Thread Cert.SpectrumIdeal.nD Cert.SpectrumIdeal.τ).loc Cert.SpectrumIdeal.main_v0)),
      θ_run (Cert.SpectrumIdeal.defs (F := Ideal)) (onTc (τ := Cert.SpectrumIdeal.τ) (Cert.SpectrumIdeal.main (F := Ideal))) ⟨m, fun _ => 0, g⟩ (fun r => ∀ c : Dev Cert.SpectrumIdeal.nD,
          r.2.mem ((c.tc : Thread Cert.SpectrumIdeal.nD Cert.SpectrumIdeal.τ).loc Cert.SpectrumIdeal.main_v0) = v0 c
          ∧ r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
          ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
          ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2))
      ∧ θ_run (Cert.SpectrumRefIdeal.defs (F := Ideal)) (onTc (τ := Cert.SpectrumRefIdeal.τ) (Cert.SpectrumRefIdeal.main (F := Ideal))) ⟨m', fun _ => 0, g'⟩ (fun r => ∀ c : Dev Cert.SpectrumRefIdeal.nD,
          r.2.mem ((c.tc : Thread Cert.SpectrumRefIdeal.nD Cert.SpectrumRefIdeal.τ).loc Cert.SpectrumRefIdeal.main_v49) = v0 c
          ∧ r.2.mem ((c.tc : Thread Cert.SpectrumRefIdeal.nD Cert.SpectrumRefIdeal.τ).loc Cert.SpectrumRefIdeal.main_arg0) = m' ((c.tc : Thread Cert.SpectrumRefIdeal.nD Cert.SpectrumRefIdeal.τ).loc Cert.SpectrumRefIdeal.main_arg0)
          ∧ r.2.mem ((c.tc : Thread Cert.SpectrumRefIdeal.nD Cert.SpectrumRefIdeal.τ).loc Cert.SpectrumRefIdeal.main_arg1) = m' ((c.tc : Thread Cert.SpectrumRefIdeal.nD Cert.SpectrumRefIdeal.τ).loc Cert.SpectrumRefIdeal.main_arg1)
          ∧ r.2.mem ((c.tc : Thread Cert.SpectrumRefIdeal.nD Cert.SpectrumRefIdeal.τ).loc Cert.SpectrumRefIdeal.main_arg2) = m' ((c.tc : Thread Cert.SpectrumRefIdeal.nD Cert.SpectrumRefIdeal.τ).loc Cert.SpectrumRefIdeal.main_arg2))

def preserves_LongConv_LongConvIdeal : Prop :=
  True

def algebraic_LongConvIdeal_LongConvRefIdeal [hLongConvIdeal : Cert.LongConvIdeal.Facts] [hLongConvRefIdeal : Cert.LongConvRefIdeal.Facts] : Prop :=
  ∀ (m : (ℓ : Loc Cert.LongConvIdeal.nD Cert.LongConvIdeal.τ Cert.LongConvIdeal.sig) → Buf (Elt Ideal) ℓ) (g : Dev Cert.LongConvIdeal.nD → PrngReg)
    (m' : (ℓ : Loc Cert.LongConvRefIdeal.nD Cert.LongConvRefIdeal.τ Cert.LongConvRefIdeal.sig) → Buf (Elt Ideal) ℓ) (g' : Dev Cert.LongConvRefIdeal.nD → PrngReg), Pre_LongConvIdeal m →
    (∀ c : Dev Cert.LongConvIdeal.nD,
      m' ((c.tc : Thread Cert.LongConvRefIdeal.nD Cert.LongConvRefIdeal.τ).loc Cert.LongConvRefIdeal.main_arg0) = m ((c.tc : Thread Cert.LongConvIdeal.nD Cert.LongConvIdeal.τ).loc Cert.LongConvIdeal.main_arg0)
      ∧ m' ((c.tc : Thread Cert.LongConvRefIdeal.nD Cert.LongConvRefIdeal.τ).loc Cert.LongConvRefIdeal.main_arg1) = m ((c.tc : Thread Cert.LongConvIdeal.nD Cert.LongConvIdeal.τ).loc Cert.LongConvIdeal.main_arg1)
      ∧ m' ((c.tc : Thread Cert.LongConvRefIdeal.nD Cert.LongConvRefIdeal.τ).loc Cert.LongConvRefIdeal.main_arg2) = m ((c.tc : Thread Cert.LongConvIdeal.nD Cert.LongConvIdeal.τ).loc Cert.LongConvIdeal.main_arg2)
      ∧ m' ((c.tc : Thread Cert.LongConvRefIdeal.nD Cert.LongConvRefIdeal.τ).loc Cert.LongConvRefIdeal.main_arg3) = m ((c.tc : Thread Cert.LongConvIdeal.nD Cert.LongConvIdeal.τ).loc Cert.LongConvIdeal.main_arg3)
      ∧ m' ((c.tc : Thread Cert.LongConvRefIdeal.nD Cert.LongConvRefIdeal.τ).loc Cert.LongConvRefIdeal.main_arg4) = m ((c.tc : Thread Cert.LongConvIdeal.nD Cert.LongConvIdeal.τ).loc Cert.LongConvIdeal.main_arg4)) →
    ∃ (v0 : (c : Dev Cert.LongConvIdeal.nD) → Buf (Elt Ideal) ((c.tc : Thread Cert.LongConvIdeal.nD Cert.LongConvIdeal.τ).loc Cert.LongConvIdeal.main_v1)),
      θ_run (Cert.LongConvIdeal.defs (F := Ideal)) (onTc (τ := Cert.LongConvIdeal.τ) (Cert.LongConvIdeal.main (F := Ideal))) ⟨m, fun _ => 0, g⟩ (fun r => ∀ c : Dev Cert.LongConvIdeal.nD,
          r.2.mem ((c.tc : Thread Cert.LongConvIdeal.nD Cert.LongConvIdeal.τ).loc Cert.LongConvIdeal.main_v1) = v0 c
          ∧ r.2.mem ((c.tc : Thread Cert.LongConvIdeal.nD Cert.LongConvIdeal.τ).loc Cert.LongConvIdeal.main_arg0) = m ((c.tc : Thread Cert.LongConvIdeal.nD Cert.LongConvIdeal.τ).loc Cert.LongConvIdeal.main_arg0)
          ∧ r.2.mem ((c.tc : Thread Cert.LongConvIdeal.nD Cert.LongConvIdeal.τ).loc Cert.LongConvIdeal.main_arg1) = m ((c.tc : Thread Cert.LongConvIdeal.nD Cert.LongConvIdeal.τ).loc Cert.LongConvIdeal.main_arg1)
          ∧ r.2.mem ((c.tc : Thread Cert.LongConvIdeal.nD Cert.LongConvIdeal.τ).loc Cert.LongConvIdeal.main_arg2) = m ((c.tc : Thread Cert.LongConvIdeal.nD Cert.LongConvIdeal.τ).loc Cert.LongConvIdeal.main_arg2)
          ∧ r.2.mem ((c.tc : Thread Cert.LongConvIdeal.nD Cert.LongConvIdeal.τ).loc Cert.LongConvIdeal.main_arg3) = m ((c.tc : Thread Cert.LongConvIdeal.nD Cert.LongConvIdeal.τ).loc Cert.LongConvIdeal.main_arg3)
          ∧ r.2.mem ((c.tc : Thread Cert.LongConvIdeal.nD Cert.LongConvIdeal.τ).loc Cert.LongConvIdeal.main_arg4) = m ((c.tc : Thread Cert.LongConvIdeal.nD Cert.LongConvIdeal.τ).loc Cert.LongConvIdeal.main_arg4))
      ∧ θ_run (Cert.LongConvRefIdeal.defs (F := Ideal)) (onTc (τ := Cert.LongConvRefIdeal.τ) (Cert.LongConvRefIdeal.main (F := Ideal))) ⟨m', fun _ => 0, g'⟩ (fun r => ∀ c : Dev Cert.LongConvRefIdeal.nD,
          r.2.mem ((c.tc : Thread Cert.LongConvRefIdeal.nD Cert.LongConvRefIdeal.τ).loc Cert.LongConvRefIdeal.main_v20) = v0 c
          ∧ r.2.mem ((c.tc : Thread Cert.LongConvRefIdeal.nD Cert.LongConvRefIdeal.τ).loc Cert.LongConvRefIdeal.main_arg0) = m' ((c.tc : Thread Cert.LongConvRefIdeal.nD Cert.LongConvRefIdeal.τ).loc Cert.LongConvRefIdeal.main_arg0)
          ∧ r.2.mem ((c.tc : Thread Cert.LongConvRefIdeal.nD Cert.LongConvRefIdeal.τ).loc Cert.LongConvRefIdeal.main_arg1) = m' ((c.tc : Thread Cert.LongConvRefIdeal.nD Cert.LongConvRefIdeal.τ).loc Cert.LongConvRefIdeal.main_arg1)
          ∧ r.2.mem ((c.tc : Thread Cert.LongConvRefIdeal.nD Cert.LongConvRefIdeal.τ).loc Cert.LongConvRefIdeal.main_arg2) = m' ((c.tc : Thread Cert.LongConvRefIdeal.nD Cert.LongConvRefIdeal.τ).loc Cert.LongConvRefIdeal.main_arg2)
          ∧ r.2.mem ((c.tc : Thread Cert.LongConvRefIdeal.nD Cert.LongConvRefIdeal.τ).loc Cert.LongConvRefIdeal.main_arg3) = m' ((c.tc : Thread Cert.LongConvRefIdeal.nD Cert.LongConvRefIdeal.τ).loc Cert.LongConvRefIdeal.main_arg3)
          ∧ r.2.mem ((c.tc : Thread Cert.LongConvRefIdeal.nD Cert.LongConvRefIdeal.τ).loc Cert.LongConvRefIdeal.main_arg4) = m' ((c.tc : Thread Cert.LongConvRefIdeal.nD Cert.LongConvRefIdeal.τ).loc Cert.LongConvRefIdeal.main_arg4))

def preserves_Experts_ExpertsIdeal : Prop :=
  IdealRules.named_const.Statement Cert.ExpertsIdeal.κ "inv_sqrt2" .f32 0x3F3504F3#32 (((Real.sqrt 2)⁻¹ : ℝ) : EReal)

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v31) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_ShortConvs_ShortConvsIdeal : Prop :=
  True

def algebraic_ShortConvsIdeal_ShortConvsRefIdeal [hShortConvsIdeal : Cert.ShortConvsIdeal.Facts] [hShortConvsRefIdeal : Cert.ShortConvsRefIdeal.Facts] : Prop :=
  ∀ (m : (ℓ : Loc Cert.ShortConvsIdeal.nD Cert.ShortConvsIdeal.τ Cert.ShortConvsIdeal.sig) → Buf (Elt Ideal) ℓ) (g : Dev Cert.ShortConvsIdeal.nD → PrngReg)
    (m' : (ℓ : Loc Cert.ShortConvsRefIdeal.nD Cert.ShortConvsRefIdeal.τ Cert.ShortConvsRefIdeal.sig) → Buf (Elt Ideal) ℓ) (g' : Dev Cert.ShortConvsRefIdeal.nD → PrngReg), Pre_ShortConvsIdeal m →
    (∀ c : Dev Cert.ShortConvsIdeal.nD,
      m' ((c.tc : Thread Cert.ShortConvsRefIdeal.nD Cert.ShortConvsRefIdeal.τ).loc Cert.ShortConvsRefIdeal.main_arg0) = m ((c.tc : Thread Cert.ShortConvsIdeal.nD Cert.ShortConvsIdeal.τ).loc Cert.ShortConvsIdeal.main_arg0)
      ∧ m' ((c.tc : Thread Cert.ShortConvsRefIdeal.nD Cert.ShortConvsRefIdeal.τ).loc Cert.ShortConvsRefIdeal.main_arg1) = m ((c.tc : Thread Cert.ShortConvsIdeal.nD Cert.ShortConvsIdeal.τ).loc Cert.ShortConvsIdeal.main_arg1)
      ∧ m' ((c.tc : Thread Cert.ShortConvsRefIdeal.nD Cert.ShortConvsRefIdeal.τ).loc Cert.ShortConvsRefIdeal.main_arg2) = m ((c.tc : Thread Cert.ShortConvsIdeal.nD Cert.ShortConvsIdeal.τ).loc Cert.ShortConvsIdeal.main_arg2)) →
    ∃ (v0 : (c : Dev Cert.ShortConvsIdeal.nD) → Buf (Elt Ideal) ((c.tc : Thread Cert.ShortConvsIdeal.nD Cert.ShortConvsIdeal.τ).loc Cert.ShortConvsIdeal.main_v3_0)) (v1 : (c : Dev Cert.ShortConvsIdeal.nD) → Buf (Elt Ideal) ((c.tc : Thread Cert.ShortConvsIdeal.nD Cert.ShortConvsIdeal.τ).loc Cert.ShortConvsIdeal.main_v3_1)),
      θ_run (Cert.ShortConvsIdeal.defs (F := Ideal)) (onTc (τ := Cert.ShortConvsIdeal.τ) (Cert.ShortConvsIdeal.main (F := Ideal))) ⟨m, fun _ => 0, g⟩ (fun r => ∀ c : Dev Cert.ShortConvsIdeal.nD,
          r.2.mem ((c.tc : Thread Cert.ShortConvsIdeal.nD Cert.ShortConvsIdeal.τ).loc Cert.ShortConvsIdeal.main_v3_0) = v0 c
          ∧ r.2.mem ((c.tc : Thread Cert.ShortConvsIdeal.nD Cert.ShortConvsIdeal.τ).loc Cert.ShortConvsIdeal.main_v3_1) = v1 c
          ∧ r.2.mem ((c.tc : Thread Cert.ShortConvsIdeal.nD Cert.ShortConvsIdeal.τ).loc Cert.ShortConvsIdeal.main_arg0) = m ((c.tc : Thread Cert.ShortConvsIdeal.nD Cert.ShortConvsIdeal.τ).loc Cert.ShortConvsIdeal.main_arg0)
          ∧ r.2.mem ((c.tc : Thread Cert.ShortConvsIdeal.nD Cert.ShortConvsIdeal.τ).loc Cert.ShortConvsIdeal.main_arg1) = m ((c.tc : Thread Cert.ShortConvsIdeal.nD Cert.ShortConvsIdeal.τ).loc Cert.ShortConvsIdeal.main_arg1)
          ∧ r.2.mem ((c.tc : Thread Cert.ShortConvsIdeal.nD Cert.ShortConvsIdeal.τ).loc Cert.ShortConvsIdeal.main_arg2) = m ((c.tc : Thread Cert.ShortConvsIdeal.nD Cert.ShortConvsIdeal.τ).loc Cert.ShortConvsIdeal.main_arg2))
      ∧ θ_run (Cert.ShortConvsRefIdeal.defs (F := Ideal)) (onTc (τ := Cert.ShortConvsRefIdeal.τ) (Cert.ShortConvsRefIdeal.main (F := Ideal))) ⟨m', fun _ => 0, g'⟩ (fun r => ∀ c : Dev Cert.ShortConvsRefIdeal.nD,
          r.2.mem ((c.tc : Thread Cert.ShortConvsRefIdeal.nD Cert.ShortConvsRefIdeal.τ).loc Cert.ShortConvsRefIdeal.main_v27) = v0 c
          ∧ r.2.mem ((c.tc : Thread Cert.ShortConvsRefIdeal.nD Cert.ShortConvsRefIdeal.τ).loc Cert.ShortConvsRefIdeal.main_v28) = v1 c
          ∧ r.2.mem ((c.tc : Thread Cert.ShortConvsRefIdeal.nD Cert.ShortConvsRefIdeal.τ).loc Cert.ShortConvsRefIdeal.main_arg0) = m' ((c.tc : Thread Cert.ShortConvsRefIdeal.nD Cert.ShortConvsRefIdeal.τ).loc Cert.ShortConvsRefIdeal.main_arg0)
          ∧ r.2.mem ((c.tc : Thread Cert.ShortConvsRefIdeal.nD Cert.ShortConvsRefIdeal.τ).loc Cert.ShortConvsRefIdeal.main_arg1) = m' ((c.tc : Thread Cert.ShortConvsRefIdeal.nD Cert.ShortConvsRefIdeal.τ).loc Cert.ShortConvsRefIdeal.main_arg1)
          ∧ r.2.mem ((c.tc : Thread Cert.ShortConvsRefIdeal.nD Cert.ShortConvsRefIdeal.τ).loc Cert.ShortConvsRefIdeal.main_arg2) = m' ((c.tc : Thread Cert.ShortConvsRefIdeal.nD Cert.ShortConvsRefIdeal.τ).loc Cert.ShortConvsRefIdeal.main_arg2))

def preserves_Heads_HeadsIdeal : Prop :=
  IdealRules.named_const.Statement Cert.HeadsIdeal.κ "inv_sqrt128" .f32 0x3DB504F3#32 (((Real.sqrt 128)⁻¹ : ℝ) : EReal)

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v0)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v49) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1))

def preserves_Fold_FoldIdeal : Prop :=
  IdealRules.named_const.Statement Cert.FoldIdeal.κ "inv_sqrt_size" .f32 0x3AB504F3#32 (((Real.sqrt 524288)⁻¹ : ℝ) : EReal)
  ∧ IdealRules.named_const.Statement Cert.FoldIdeal.κ "neg_inv_sqrt_size" .f32 0xBAB504F3#32 ((-((Real.sqrt 524288)⁻¹) : ℝ) : EReal)

def algebraic_FoldIdeal_FoldRefIdeal [hFoldIdeal : Cert.FoldIdeal.Facts] [hFoldRefIdeal : Cert.FoldRefIdeal.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldRefIdeal.nD Cert.FoldRefIdeal.τ Cert.FoldRefIdeal.sig) → Buf (Elt Ideal) ℓ) (g' : Dev Cert.FoldRefIdeal.nD → PrngReg), Pre_FoldIdeal m →
    (∀ c : Dev Cert.FoldIdeal.nD,
      m' ((c.tc : Thread Cert.FoldRefIdeal.nD Cert.FoldRefIdeal.τ).loc Cert.FoldRefIdeal.main_arg0) = m ((c.tc : Thread Cert.FoldIdeal.nD Cert.FoldIdeal.τ).loc Cert.FoldIdeal.main_arg0)
      ∧ m' ((c.tc : Thread Cert.FoldRefIdeal.nD Cert.FoldRefIdeal.τ).loc Cert.FoldRefIdeal.main_arg1) = m ((c.tc : Thread Cert.FoldIdeal.nD Cert.FoldIdeal.τ).loc Cert.FoldIdeal.main_arg1)) →
    ∃ (v0 : (c : Dev Cert.FoldIdeal.nD) → Buf (Elt Ideal) ((c.tc : Thread Cert.FoldIdeal.nD Cert.FoldIdeal.τ).loc Cert.FoldIdeal.main_v0)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v0) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ θ_run (Cert.FoldRefIdeal.defs (F := Ideal)) (onTc (τ := Cert.FoldRefIdeal.τ) (Cert.FoldRefIdeal.main (F := Ideal))) ⟨m', fun _ => 0, g'⟩ (fun r => ∀ c : Dev Cert.FoldRefIdeal.nD,
          r.2.mem ((c.tc : Thread Cert.FoldRefIdeal.nD Cert.FoldRefIdeal.τ).loc Cert.FoldRefIdeal.main_v17) = v0 c
          ∧ r.2.mem ((c.tc : Thread Cert.FoldRefIdeal.nD Cert.FoldRefIdeal.τ).loc Cert.FoldRefIdeal.main_arg0) = m' ((c.tc : Thread Cert.FoldRefIdeal.nD Cert.FoldRefIdeal.τ).loc Cert.FoldRefIdeal.main_arg0)
          ∧ r.2.mem ((c.tc : Thread Cert.FoldRefIdeal.nD Cert.FoldRefIdeal.τ).loc Cert.FoldRefIdeal.main_arg1) = m' ((c.tc : Thread Cert.FoldRefIdeal.nD Cert.FoldRefIdeal.τ).loc Cert.FoldRefIdeal.main_arg1))

def preserves_FilterDft_FilterDftIdeal : Prop :=
  True

def algebraic_FilterDftIdeal_FilterDftRefIdeal [hFilterDftIdeal : Cert.FilterDftIdeal.Facts] [hFilterDftRefIdeal : Cert.FilterDftRefIdeal.Facts] : Prop :=
  ∀ (m : (ℓ : Loc Cert.FilterDftIdeal.nD Cert.FilterDftIdeal.τ Cert.FilterDftIdeal.sig) → Buf (Elt Ideal) ℓ) (g : Dev Cert.FilterDftIdeal.nD → PrngReg)
    (m' : (ℓ : Loc Cert.FilterDftRefIdeal.nD Cert.FilterDftRefIdeal.τ Cert.FilterDftRefIdeal.sig) → Buf (Elt Ideal) ℓ) (g' : Dev Cert.FilterDftRefIdeal.nD → PrngReg), Pre_FilterDftIdeal m →
    (∀ c : Dev Cert.FilterDftIdeal.nD,
      m' ((c.tc : Thread Cert.FilterDftRefIdeal.nD Cert.FilterDftRefIdeal.τ).loc Cert.FilterDftRefIdeal.main_arg0) = m ((c.tc : Thread Cert.FilterDftIdeal.nD Cert.FilterDftIdeal.τ).loc Cert.FilterDftIdeal.main_arg0)
      ∧ m' ((c.tc : Thread Cert.FilterDftRefIdeal.nD Cert.FilterDftRefIdeal.τ).loc Cert.FilterDftRefIdeal.main_arg1) = m ((c.tc : Thread Cert.FilterDftIdeal.nD Cert.FilterDftIdeal.τ).loc Cert.FilterDftIdeal.main_arg1)) →
    ∃ (v0 : (c : Dev Cert.FilterDftIdeal.nD) → Buf (Elt Ideal) ((c.tc : Thread Cert.FilterDftIdeal.nD Cert.FilterDftIdeal.τ).loc Cert.FilterDftIdeal.main_v0)),
      θ_run (Cert.FilterDftIdeal.defs (F := Ideal)) (onTc (τ := Cert.FilterDftIdeal.τ) (Cert.FilterDftIdeal.main (F := Ideal))) ⟨m, fun _ => 0, g⟩ (fun r => ∀ c : Dev Cert.FilterDftIdeal.nD,
          r.2.mem ((c.tc : Thread Cert.FilterDftIdeal.nD Cert.FilterDftIdeal.τ).loc Cert.FilterDftIdeal.main_v0) = v0 c
          ∧ r.2.mem ((c.tc : Thread Cert.FilterDftIdeal.nD Cert.FilterDftIdeal.τ).loc Cert.FilterDftIdeal.main_arg0) = m ((c.tc : Thread Cert.FilterDftIdeal.nD Cert.FilterDftIdeal.τ).loc Cert.FilterDftIdeal.main_arg0)
          ∧ r.2.mem ((c.tc : Thread Cert.FilterDftIdeal.nD Cert.FilterDftIdeal.τ).loc Cert.FilterDftIdeal.main_arg1) = m ((c.tc : Thread Cert.FilterDftIdeal.nD Cert.FilterDftIdeal.τ).loc Cert.FilterDftIdeal.main_arg1))
      ∧ θ_run (Cert.FilterDftRefIdeal.defs (F := Ideal)) (onTc (τ := Cert.FilterDftRefIdeal.τ) (Cert.FilterDftRefIdeal.main (F := Ideal))) ⟨m', fun _ => 0, g'⟩ (fun r => ∀ c : Dev Cert.FilterDftRefIdeal.nD,
          r.2.mem ((c.tc : Thread Cert.FilterDftRefIdeal.nD Cert.FilterDftRefIdeal.τ).loc Cert.FilterDftRefIdeal.main_v2) = v0 c
          ∧ r.2.mem ((c.tc : Thread Cert.FilterDftRefIdeal.nD Cert.FilterDftRefIdeal.τ).loc Cert.FilterDftRefIdeal.main_arg0) = m' ((c.tc : Thread Cert.FilterDftRefIdeal.nD Cert.FilterDftRefIdeal.τ).loc Cert.FilterDftRefIdeal.main_arg0)
          ∧ r.2.mem ((c.tc : Thread Cert.FilterDftRefIdeal.nD Cert.FilterDftRefIdeal.τ).loc Cert.FilterDftRefIdeal.main_arg1) = m' ((c.tc : Thread Cert.FilterDftRefIdeal.nD Cert.FilterDftRefIdeal.τ).loc Cert.FilterDftRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v32) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1))

def Claim : Prop :=
  ∃ (hScan : Cert.Scan.Facts) (hScanIdeal : Cert.ScanIdeal.Facts) (hScanRefIdeal : Cert.ScanRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQueryProj : Cert.QueryProj.Facts) (hQueryProjIdeal : Cert.QueryProjIdeal.Facts) (hQueryProjRefIdeal : Cert.QueryProjRefIdeal.Facts) (hFinalNorm : Cert.FinalNorm.Facts) (hFinalNormIdeal : Cert.FinalNormIdeal.Facts) (hFinalNormRefIdeal : Cert.FinalNormRefIdeal.Facts) (hFirstNorm : Cert.FirstNorm.Facts) (hFirstNormIdeal : Cert.FirstNormIdeal.Facts) (hFirstNormRefIdeal : Cert.FirstNormRefIdeal.Facts) (hAddNorm : Cert.AddNorm.Facts) (hAddNormIdeal : Cert.AddNormIdeal.Facts) (hAddNormRefIdeal : Cert.AddNormRefIdeal.Facts) (hHeadNorm : Cert.HeadNorm.Facts) (hHeadNormIdeal : Cert.HeadNormIdeal.Facts) (hHeadNormRefIdeal : Cert.HeadNormRefIdeal.Facts) (hFourier : Cert.Fourier.Facts) (hFourierIdeal : Cert.FourierIdeal.Facts) (hFourierRefIdeal : Cert.FourierRefIdeal.Facts) (hSpectrum : Cert.Spectrum.Facts) (hSpectrumIdeal : Cert.SpectrumIdeal.Facts) (hSpectrumRefIdeal : Cert.SpectrumRefIdeal.Facts) (hLongConv : Cert.LongConv.Facts) (hLongConvIdeal : Cert.LongConvIdeal.Facts) (hLongConvRefIdeal : Cert.LongConvRefIdeal.Facts) (hExperts : Cert.Experts.Facts) (hExpertsIdeal : Cert.ExpertsIdeal.Facts) (hExpertsRefIdeal : Cert.ExpertsRefIdeal.Facts) (hShortConvs : Cert.ShortConvs.Facts) (hShortConvsIdeal : Cert.ShortConvsIdeal.Facts) (hShortConvsRefIdeal : Cert.ShortConvsRefIdeal.Facts) (hHeads : Cert.Heads.Facts) (hHeadsIdeal : Cert.HeadsIdeal.Facts) (hHeadsRefIdeal : Cert.HeadsRefIdeal.Facts) (hFold : Cert.Fold.Facts) (hFoldIdeal : Cert.FoldIdeal.Facts) (hFoldRefIdeal : Cert.FoldRefIdeal.Facts) (hFilterDft : Cert.FilterDft.Facts) (hFilterDftIdeal : Cert.FilterDftIdeal.Facts) (hFilterDftRefIdeal : Cert.FilterDftRefIdeal.Facts) (hCombine : Cert.Combine.Facts) (hCombineIdeal : Cert.CombineIdeal.Facts) (hCombineRefIdeal : Cert.CombineRefIdeal.Facts),
    quiescent_Scan (hScan := hScan)
    ∧ quiescent_ScanIdeal (hScanIdeal := hScanIdeal)
    ∧ quiescent_ScanRefIdeal (hScanRefIdeal := hScanRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QueryProj (hQueryProj := hQueryProj)
    ∧ quiescent_QueryProjIdeal (hQueryProjIdeal := hQueryProjIdeal)
    ∧ quiescent_QueryProjRefIdeal (hQueryProjRefIdeal := hQueryProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_AddNorm (hAddNorm := hAddNorm)
    ∧ quiescent_AddNormIdeal (hAddNormIdeal := hAddNormIdeal)
    ∧ quiescent_AddNormRefIdeal (hAddNormRefIdeal := hAddNormRefIdeal)
    ∧ quiescent_HeadNorm (hHeadNorm := hHeadNorm)
    ∧ quiescent_HeadNormIdeal (hHeadNormIdeal := hHeadNormIdeal)
    ∧ quiescent_HeadNormRefIdeal (hHeadNormRefIdeal := hHeadNormRefIdeal)
    ∧ quiescent_Fourier (hFourier := hFourier)
    ∧ quiescent_FourierIdeal (hFourierIdeal := hFourierIdeal)
    ∧ quiescent_FourierRefIdeal (hFourierRefIdeal := hFourierRefIdeal)
    ∧ quiescent_Spectrum (hSpectrum := hSpectrum)
    ∧ quiescent_SpectrumIdeal (hSpectrumIdeal := hSpectrumIdeal)
    ∧ quiescent_SpectrumRefIdeal (hSpectrumRefIdeal := hSpectrumRefIdeal)
    ∧ quiescent_LongConv (hLongConv := hLongConv)
    ∧ quiescent_LongConvIdeal (hLongConvIdeal := hLongConvIdeal)
    ∧ quiescent_LongConvRefIdeal (hLongConvRefIdeal := hLongConvRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_ShortConvs (hShortConvs := hShortConvs)
    ∧ quiescent_ShortConvsIdeal (hShortConvsIdeal := hShortConvsIdeal)
    ∧ quiescent_ShortConvsRefIdeal (hShortConvsRefIdeal := hShortConvsRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_Fold (hFold := hFold)
    ∧ quiescent_FoldIdeal (hFoldIdeal := hFoldIdeal)
    ∧ quiescent_FoldRefIdeal (hFoldRefIdeal := hFoldRefIdeal)
    ∧ quiescent_FilterDft (hFilterDft := hFilterDft)
    ∧ quiescent_FilterDftIdeal (hFilterDftIdeal := hFilterDftIdeal)
    ∧ quiescent_FilterDftRefIdeal (hFilterDftRefIdeal := hFilterDftRefIdeal)
    ∧ quiescent_Combine (hCombine := hCombine)
    ∧ quiescent_CombineIdeal (hCombineIdeal := hCombineIdeal)
    ∧ quiescent_CombineRefIdeal (hCombineRefIdeal := hCombineRefIdeal)
    ∧ preserves_Scan_ScanIdeal
    ∧ algebraic_ScanIdeal_ScanRefIdeal (hScanIdeal := hScanIdeal) (hScanRefIdeal := hScanRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_QueryProj_QueryProjIdeal
    ∧ algebraic_QueryProjIdeal_QueryProjRefIdeal (hQueryProjIdeal := hQueryProjIdeal) (hQueryProjRefIdeal := hQueryProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_AddNorm_AddNormIdeal
    ∧ algebraic_AddNormIdeal_AddNormRefIdeal (hAddNormIdeal := hAddNormIdeal) (hAddNormRefIdeal := hAddNormRefIdeal)
    ∧ preserves_HeadNorm_HeadNormIdeal
    ∧ algebraic_HeadNormIdeal_HeadNormRefIdeal (hHeadNormIdeal := hHeadNormIdeal) (hHeadNormRefIdeal := hHeadNormRefIdeal)
    ∧ preserves_Fourier_FourierIdeal
    ∧ algebraic_FourierIdeal_FourierRefIdeal (hFourierIdeal := hFourierIdeal) (hFourierRefIdeal := hFourierRefIdeal)
    ∧ preserves_Spectrum_SpectrumIdeal
    ∧ algebraic_SpectrumIdeal_SpectrumRefIdeal (hSpectrumIdeal := hSpectrumIdeal) (hSpectrumRefIdeal := hSpectrumRefIdeal)
    ∧ preserves_LongConv_LongConvIdeal
    ∧ algebraic_LongConvIdeal_LongConvRefIdeal (hLongConvIdeal := hLongConvIdeal) (hLongConvRefIdeal := hLongConvRefIdeal)
    ∧ preserves_Experts_ExpertsIdeal
    ∧ algebraic_ExpertsIdeal_ExpertsRefIdeal (hExpertsIdeal := hExpertsIdeal) (hExpertsRefIdeal := hExpertsRefIdeal)
    ∧ preserves_ShortConvs_ShortConvsIdeal
    ∧ algebraic_ShortConvsIdeal_ShortConvsRefIdeal (hShortConvsIdeal := hShortConvsIdeal) (hShortConvsRefIdeal := hShortConvsRefIdeal)
    ∧ preserves_Heads_HeadsIdeal
    ∧ algebraic_HeadsIdeal_HeadsRefIdeal (hHeadsIdeal := hHeadsIdeal) (hHeadsRefIdeal := hHeadsRefIdeal)
    ∧ preserves_Fold_FoldIdeal
    ∧ algebraic_FoldIdeal_FoldRefIdeal (hFoldIdeal := hFoldIdeal) (hFoldRefIdeal := hFoldRefIdeal)
    ∧ preserves_FilterDft_FilterDftIdeal
    ∧ algebraic_FilterDftIdeal_FilterDftRefIdeal (hFilterDftIdeal := hFilterDftIdeal) (hFilterDftRefIdeal := hFilterDftRefIdeal)
    ∧ preserves_Combine_CombineIdeal
    ∧ algebraic_CombineIdeal_CombineRefIdeal (hCombineIdeal := hCombineIdeal) (hCombineRefIdeal := hCombineRefIdeal)
-- ==== Scan.lean ====
abbrev S2x8x4096x1024 : Shape := ⟨4, ![2, 8, 4096, 1024]⟩
abbrev S2x8x8x4096x64 : Shape := ⟨5, ![2, 8, 8, 4096, 64]⟩
abbrev S2x8x8x64x1x128 : Shape := ⟨6, ![2, 8, 8, 64, 1, 128]⟩
abbrev S8x4096x1024 : Shape := ⟨3, ![8, 4096, 1024]⟩
abbrev S1x1x64x1024 : Shape := ⟨4, ![1, 1, 64, 1024]⟩
abbrev S1x1x8x64x64 : Shape := ⟨5, ![1, 1, 8, 64, 64]⟩
abbrev S1x1x8x1x1x128 : Shape := ⟨6, ![1, 1, 8, 1, 1, 128]⟩
abbrev S1x64x1024 : Shape := ⟨3, ![1, 64, 1024]⟩
abbrev S2x8x128x128 : Shape := ⟨4, ![2, 8, 128, 128]⟩
abbrev S1x1x128x128 : Shape := ⟨4, ![1, 1, 128, 128]⟩
abbrev S128x128 : Shape := ⟨2, ![128, 128]⟩
abbrev S1x1x64x128 : Shape := ⟨4, ![1, 1, 64, 128]⟩
abbrev S64x128 : Shape := ⟨2, ![64, 128]⟩
abbrev S1x1x1x64x64 : Shape := ⟨5, ![1, 1, 1, 64, 64]⟩
abbrev S64x64 : Shape := ⟨2, ![64, 64]⟩
abbrev S1x64x128 : Shape := ⟨3, ![1, 64, 128]⟩
abbrev S1x1x1x1x1x128 : Shape := ⟨6, ![1, 1, 1, 1, 1, 128]⟩
abbrev S1x128 : Shape := ⟨2, ![1, 128]⟩

abbrev nBuf : Space → Nat
  | .hbm => 8
  | .vmem => 29
  | .smem => 0
  | _ => 0

abbrev bufTy : (tb : Table) → Fin (tcTables nBuf tb) → BufTy
  | .hbm, ⟨0, _⟩ => ⟨S2x8x4096x1024, .f32⟩
  | .hbm, ⟨1, _⟩ => ⟨S2x8x4096x1024, .bf16⟩
  | .hbm, ⟨2, _⟩ => ⟨S2x8x8x4096x64, .bf16⟩
  | .hbm, ⟨3, _⟩ => ⟨S2x8x4096x1024, .bf16⟩
  | .hbm, ⟨4, _⟩ => ⟨S2x8x4096x1024, .bf16⟩
  | .hbm, ⟨5, _⟩ => ⟨S2x8x8x64x1x128, .f32⟩
  | .hbm, ⟨6, _⟩ => ⟨S8x4096x1024, .f32⟩
  | .hbm, ⟨7, _⟩ => ⟨S8x4096x1024, .f32⟩
  | .local _ .vmem, ⟨0, _⟩ => ⟨S1x1x64x1024, .f32⟩
  | .local _ .vmem, ⟨1, _⟩ => ⟨S1x1x64x1024, .f32⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x8x64x64, .bf16⟩
  | .local _ .vmem, ⟨5, _⟩ => ⟨S1x1x8x64x64, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x8x1x1x128, .f32⟩
  | .local _ .vmem, ⟨11, _⟩ => ⟨S1x1x8x1x1x128, .f32⟩
  | .local _ .vmem, ⟨12, _⟩ => ⟨S1x1x64x1024, .f32⟩
  | .local _ .vmem, ⟨13, _⟩ => ⟨S1x1x64x1024, .f32⟩
  | .local _ .vmem, ⟨14, _⟩ => ⟨S1x1x64x1024, .bf16⟩
  | .local _ .vmem, ⟨15, _⟩ => ⟨S1x1x64x1024, .bf16⟩
  | .local _ .vmem, ⟨16, _⟩ => ⟨S1x1x8x64x64, .bf16⟩
  | .local _ .vmem, ⟨17, _⟩ => ⟨S1x1x8x64x64, .bf16⟩
  | .local _ .vmem, ⟨18, _⟩ => ⟨S1x1x64x1024, .bf16⟩
  | .local _ .vmem, ⟨19, _⟩ => ⟨S1x1x64x1024, .bf16⟩
  | .local _ .vmem, ⟨20, _⟩ => ⟨S1x1x64x1024, .bf16⟩
  | .local _ .vmem, ⟨21, _⟩ => ⟨S1x1x64x1024, .bf16⟩
  | .local _ .vmem, ⟨22, _⟩ => ⟨S1x1x8x1x1x128, .f32⟩
  | .local _ .vmem, ⟨23, _⟩ => ⟨S1x1x8x1x1x128, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S2x8x128x128, .f32⟩
  | _, _ => ⟨S2x8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![8, 1, 64], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, arg2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, arg2.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c1_i32 : BitVec 32 := 1#32
  let c0_i32 : BitVec 32 := 0#32
  ![c1_i32.toNat, arg0.toNat, v0.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c1_i32 : BitVec 32 := 1#32
  let c0_i32 : BitVec 32 := 0#32
  ![c1_i32.toNat, arg0.toNat, v0.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c1_i32 : BitVec 32 := 1#32
  let c0_i32 : BitVec 32 := 0#32
  let c0_i32_0 : BitVec 32 := 0#32
  ![c1_i32.toNat, arg0.toNat, arg1.toNat, v0.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c1_i32 : BitVec 32 := 1#32
  let c0_i32 : BitVec 32 := 0#32
  ![c1_i32.toNat, arg0.toNat, v0.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c1_i32 : BitVec 32 := 1#32
  let c0_i32 : BitVec 32 := 0#32
  ![c1_i32.toNat, arg0.toNat, v0.toNat, arg1.toNat]

def cc0_transform_11 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c1_i32 : BitVec 32 := 1#32
  let c0_i32 : BitVec 32 := 0#32
  let c0_i32_0 : BitVec 32 := 0#32
  let c0_i32_1 : BitVec 32 := 0#32
  ![c1_i32.toNat, arg0.toNat, arg1.toNat, v0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c0_i32 : BitVec 32 := 0#32
  ![arg0.toNat, v0.toNat, arg1.toNat]

abbrev stage0_0 : Fin 2 → Memref sig .tc .vmem S1x1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8x64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x8x64x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x8x1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ScanRefIdeal.lean ====
abbrev S2x8x4096x1024 : Shape := ⟨4, ![2, 8, 4096, 1024]⟩
abbrev S2x8x8x4096x64 : Shape := ⟨5, ![2, 8, 8, 4096, 64]⟩
abbrev S2x8x8x64x1x128 : Shape := ⟨6, ![2, 8, 8, 64, 1, 128]⟩
abbrev S2x8x8x64x64x64 : Shape := ⟨6, ![2, 8, 8, 64, 64, 64]⟩
abbrev S64x2x8x8x64x64 : Shape := ⟨6, ![64, 2, 8, 8, 64, 64]⟩
abbrev S64x1x8x8x64x64 : Shape := ⟨6, ![64, 1, 8, 8, 64, 64]⟩
abbrev S64x8x8x64x64 : Shape := ⟨5, ![64, 8, 8, 64, 64]⟩
abbrev S64x2x8x8x1x128 : Shape := ⟨6, ![64, 2, 8, 8, 1, 128]⟩
abbrev S64x1x8x8x1x128 : Shape := ⟨6, ![64, 1, 8, 8, 1, 128]⟩
abbrev S64x8x8x1x128 : Shape := ⟨5, ![64, 8, 8, 1, 128]⟩
abbrev S2x8x64x64x8x128 : Shape := ⟨6, ![2, 8, 64, 64, 8, 128]⟩
abbrev S64x2x8x8x64x128 : Shape := ⟨6, ![64, 2, 8, 8, 64, 128]⟩
abbrev S64x1x8x8x64x128 : Shape := ⟨6, ![64, 1, 8, 8, 64, 128]⟩
abbrev S64x8x8x64x128 : Shape := ⟨5, ![64, 8, 8, 64, 128]⟩
abbrev S_ : Shape := ⟨0, ![]⟩
abbrev S2x8x8x128x128 : Shape := ⟨5, ![2, 8, 8, 128, 128]⟩
abbrev S1x2x8x8x64x128 : Shape := ⟨6, ![1, 2, 8, 8, 64, 128]⟩
abbrev S2x8x8x64x128 : Shape := ⟨5, ![2, 8, 8, 64, 128]⟩
abbrev S1x2x8x8x64x64 : Shape := ⟨6, ![1, 2, 8, 8, 64, 64]⟩
abbrev S2x8x8x64x64 : Shape := ⟨5, ![2, 8, 8, 64, 64]⟩
abbrev S1x2x8x8x1x128 : Shape := ⟨6, ![1, 2, 8, 8, 1, 128]⟩
abbrev S2x8x8x1x128 : Shape := ⟨5, ![2, 8, 8, 1, 128]⟩
abbrev S8x64x64x8x128 : Shape := ⟨5, ![8, 64, 64, 8, 128]⟩
abbrev S8x4096x1024 : Shape := ⟨3, ![8, 4096, 1024]⟩

abbrev nBuf : Space → Nat
  | .hbm => 154
  | .vmem => 0
  | .smem => 0
  | _ => 0

abbrev hbmTy0_0 (i : Nat) : BufTy := match i % 128 with
  | 0 => ⟨S2x8x4096x1024, .f32⟩
  | 1 => ⟨S2x8x4096x1024, .bf16⟩
  | 2 => ⟨S2x8x8x4096x64, .bf16⟩
  | 3 => ⟨S2x8x4096x1024, .bf16⟩
  | 4 => ⟨S2x8x4096x1024, .bf16⟩
  | 5 => ⟨S2x8x8x64x1x128, .f32⟩
  | 6 => ⟨S2x8x8x4096x64, .f32⟩
  | 7 => ⟨S2x8x8x64x64x64, .f32⟩
  | 8 => ⟨S64x2x8x8x64x64, .f32⟩
  | 9 => ⟨S64x1x8x8x64x64, .f32⟩
  | 10 => ⟨S64x8x8x64x64, .f32⟩
  | 11 => ⟨S64x1x8x8x64x64, .f32⟩
  | 12 => ⟨S64x1x8x8x64x64, .f32⟩
  | 13 => ⟨S64x8x8x64x64, .f32⟩
  | 14 => ⟨S64x1x8x8x64x64, .f32⟩
  | 15 => ⟨S64x1x8x8x64x64, .f32⟩
  | 16 => ⟨S64x2x8x8x64x64, .f32⟩
  | 17 => ⟨S64x2x8x8x1x128, .f32⟩
  | 18 => ⟨S64x1x8x8x1x128, .f32⟩
  | 19 => ⟨S64x8x8x1x128, .f32⟩
  | 20 => ⟨S64x1x8x8x1x128, .f32⟩
  | 21 => ⟨S64x1x8x8x1x128, .f32⟩
  | 22 => ⟨S64x8x8x1x128, .f32⟩
  | 23 => ⟨S64x1x8x8x1x128, .f32⟩
  | 24 => ⟨S64x1x8x8x1x128, .f32⟩
  | 25 => ⟨S64x2x8x8x1x128, .f32⟩
  | 26 => ⟨S2x8x64x64x8x128, .f32⟩
  | 27 => ⟨S64x2x8x8x64x128, .f32⟩
  | 28 => ⟨S64x1x8x8x64x128, .f32⟩
  | 29 => ⟨S64x8x8x64x128, .f32⟩
  | 30 => ⟨S64x1x8x8x64x128, .f32⟩
  | 31 => ⟨S64x1x8x8x64x128, .f32⟩
  | 32 => ⟨S64x8x8x64x128, .f32⟩
  | 33 => ⟨S64x1x8x8x64x128, .f32⟩
  | 34 => ⟨S64x1x8x8x64x128, .f32⟩
  | 35 => ⟨S64x2x8x8x64x128, .f32⟩
  | 36 => ⟨S2x8x4096x1024, .f32⟩
  | 37 => ⟨S2x8x64x64x8x128, .f32⟩
  | 38 => ⟨S64x2x8x8x64x128, .f32⟩
  | 39 => ⟨S64x1x8x8x64x128, .f32⟩
  | 40 => ⟨S64x8x8x64x128, .f32⟩
  | 41 => ⟨S64x1x8x8x64x128, .f32⟩
  | 42 => ⟨S64x1x8x8x64x128, .f32⟩
  | 43 => ⟨S64x8x8x64x128, .f32⟩
  | 44 => ⟨S64x1x8x8x64x128, .f32⟩
  | 45 => ⟨S64x1x8x8x64x128, .f32⟩
  | 46 => ⟨S64x2x8x8x64x128, .f32⟩
  | 47 => ⟨S2x8x4096x1024, .f32⟩
  | 48 => ⟨S2x8x64x64x8x128, .f32⟩
  | 49 => ⟨S64x2x8x8x64x128, .f32⟩
  | 50 => ⟨S64x1x8x8x64x128, .f32⟩
  | 51 => ⟨S64x8x8x64x128, .f32⟩
  | 52 => ⟨S64x1x8x8x64x128, .f32⟩
  | 53 => ⟨S64x1x8x8x64x128, .f32⟩
  | 54 => ⟨S64x8x8x64x128, .f32⟩
  | 55 => ⟨S64x1x8x8x64x128, .f32⟩
  | 56 => ⟨S64x1x8x8x64x128, .f32⟩
  | 57 => ⟨S64x2x8x8x64x128, .f32⟩
  | 58 => ⟨S2x8x4096x1024, .f32⟩
  | 59 => ⟨S2x8x64x64x8x128, .f32⟩
  | 60 => ⟨S64x2x8x8x64x128, .f32⟩
  | 61 => ⟨S64x1x8x8x64x128, .f32⟩
  | 62 => ⟨S64x8x8x64x128, .f32⟩
  | 63 => ⟨S64x1x8x8x64x128, .f32⟩
  | 64 => ⟨S64x1x8x8x64x128, .f32⟩
  | 65 => ⟨S64x8x8x64x128, .f32⟩
  | 66 => ⟨S64x1x8x8x64x128, .f32⟩
  | 67 => ⟨S64x1x8x8x64x128, .f32⟩
  | 68 => ⟨S64x2x8x8x64x128, .f32⟩
  | 69 => ⟨S_, .f32⟩
  | 70 => ⟨S2x8x8x128x128, .f32⟩
  | 71 => ⟨S_, .f32⟩
  | 72 => ⟨S64x2x8x8x64x128, .f32⟩
  | 73 => ⟨S_, .i32⟩
  | 74 => ⟨S64x2x8x8x64x128, .f32⟩
  | 75 => ⟨S64x2x8x8x64x128, .f32⟩
  | 76 => ⟨S64x2x8x8x64x64, .f32⟩
  | 77 => ⟨S64x2x8x8x64x128, .f32⟩
  | 78 => ⟨S64x2x8x8x64x128, .f32⟩
  | 79 => ⟨S64x2x8x8x1x128, .f32⟩
  | 80 => ⟨S_, .i32⟩
  | 81 => ⟨S2x8x8x128x128, .f32⟩
  | 82 => ⟨S64x2x8x8x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x2x8x8x64x128, .f32⟩
  | 91 => ⟨S2x8x8x64x128, .f32⟩
  | 92 => ⟨S_, .i32⟩
  | 93 => ⟨S_, .i32⟩
  | 94 => ⟨S_, .i32⟩
  | 95 => ⟨S_, .i32⟩
  | 96 => ⟨S_, .i32⟩
  | 97 => ⟨S1x2x8x8x64x128, .f32⟩
  | 98 => ⟨S2x8x8x64x128, .f32⟩
  | 99 => ⟨S_, .i32⟩
  | 100 => ⟨S_, .i32⟩
  | 101 => ⟨S_, .i32⟩
  | 102 => ⟨S_, .i32⟩
  | 103 => ⟨S_, .i32⟩
  | 104 => ⟨S1x2x8x8x64x64, .f32⟩
  | 105 => ⟨S2x8x8x64x64, .f32⟩
  | 106 => ⟨S_, .i32⟩
  | 107 => ⟨S_, .i32⟩
  | 108 => ⟨S_, .i32⟩
  | 109 => ⟨S_, .i32⟩
  | 110 => ⟨S_, .i32⟩
  | 111 => ⟨S1x2x8x8x64x128, .f32⟩
  | 112 => ⟨S2x8x8x64x128, .f32⟩
  | 113 => ⟨S_, .i32⟩
  | 114 => ⟨S_, .i32⟩
  | 115 => ⟨S_, .i32⟩
  | 116 => ⟨S_, .i32⟩
  | 117 => ⟨S_, .i32⟩
  | 118 => ⟨S1x2x8x8x64x128, .f32⟩
  | 119 => ⟨S2x8x8x64x128, .f32⟩
  | 120 => ⟨S_, .i32⟩
  | 121 => ⟨S_, .i32⟩
  | 122 => ⟨S_, .i32⟩
  | 123 => ⟨S_, .i32⟩
  | 124 => ⟨S_, .i32⟩
  | 125 => ⟨S1x2x8x8x1x128, .f32⟩
  | 126 => ⟨S2x8x8x1x128, .f32⟩
  | 127 => ⟨S2x8x8x64x128, .f32⟩
  | _ => ⟨S2x8x4096x1024, .f32⟩

abbrev hbmTy0_1 (i : Nat) : BufTy := match i % 128 with
  | 0 => ⟨S2x8x8x64x128, .f32⟩
  | 1 => ⟨S2x8x8x64x128, .f32⟩
  | 2 => ⟨S2x8x8x64x128, .f32⟩
  | 3 => ⟨S2x8x8x64x128, .f32⟩
  | 4 => ⟨S2x8x8x128x128, .f32⟩
  | 5 => ⟨S2x8x8x128x128, .f32⟩
  | 6 => ⟨S2x8x8x128x128, .f32⟩
  | 7 => ⟨S2x8x8x128x128, .f32⟩
  | 8 => ⟨S1x2x8x8x64x128, .f32⟩
  | 9 => ⟨S_, .i32⟩
  | 10 => ⟨S_, .i32⟩
  | 11 => ⟨S_, .i32⟩
  | 12 => ⟨S_, .i32⟩
  | 13 => ⟨S_, .i32⟩
  | 14 => ⟨S64x2x8x8x64x128, .f32⟩
  | 15 => ⟨S_, .i32⟩
  | 16 => ⟨S_, .i32⟩
  | 17 => ⟨S64x1x8x8x64x128, .f32⟩
  | 18 => ⟨S64x8x8x64x128, .f32⟩
  | 19 => ⟨S8x64x64x8x128, .f32⟩
  | 20 => ⟨S8x4096x1024, .f32⟩
  | 21 => ⟨S64x1x8x8x64x128, .f32⟩
  | 22 => ⟨S64x1x8x8x64x128, .f32⟩
  | 23 => ⟨S64x8x8x64x128, .f32⟩
  | 24 => ⟨S8x64x64x8x128, .f32⟩
  | 25 => ⟨S8x4096x1024, .f32⟩
  | _ => ⟨S2x8x4096x1024, .f32⟩

abbrev hbmTy (i : Nat) : BufTy := match i / 128 with
  | 0 => hbmTy0_0 i
  | 1 => hbmTy0_1 i
  | _ => ⟨S2x8x4096x1024, .f32⟩

abbrev bufTy : (tb : Table) → Fin (tcTables nBuf tb) → BufTy
  | .hbm, ⟨i, _⟩ => hbmTy i
  | _, _ => ⟨S2x8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst : Ref sig .tc := ⟨.hbm, 69, rfl⟩
abbrev main_v63 : Ref sig .tc := ⟨.hbm, 70, rfl⟩
abbrev main_cst_0 : Ref sig .tc := ⟨.hbm, 71, rfl⟩
abbrev main_v64 : Ref sig .tc := ⟨.hbm, 72, rfl⟩
abbrev main_c : Ref sig .tc := ⟨.hbm, 73, rfl⟩
abbrev main_v65_0 : Ref sig .tc := ⟨.hbm, 74, rfl⟩
abbrev main_v65_1 : Ref sig .tc := ⟨.hbm, 75, rfl⟩
abbrev main_v65_2 : Ref sig .tc := ⟨.hbm, 76, rfl⟩
abbrev main_v65_3 : Ref sig .tc := ⟨.hbm, 77, rfl⟩
abbrev main_v65_4 : Ref sig .tc := ⟨.hbm, 78, rfl⟩
abbrev main_v65_5 : Ref sig .tc := ⟨.hbm, 79, rfl⟩
abbrev main_v65_6 : Ref sig .tc := ⟨.hbm, 80, rfl⟩
abbrev main_v65_7 : Ref sig .tc := ⟨.hbm, 81, rfl⟩
abbrev main_v65_8 : Ref sig .tc := ⟨.hbm, 82, rfl⟩
abbrev main_while0c_c_9 : Ref sig .tc := ⟨.hbm, 83, rfl⟩
abbrev main_while0c_v75 : Ref sig .tc := ⟨.hbm, 84, rfl⟩
abbrev main_while0b_call0_c : Ref sig .tc := ⟨.hbm, 85, rfl⟩
abbrev main_while0b_call0_c_0 : Ref sig .tc := ⟨.hbm, 86, rfl⟩
abbrev main_while0b_call0_c_1 : Ref sig .tc := ⟨.hbm, 87, rfl⟩
abbrev main_while0b_call0_c_2 : Ref sig .tc := ⟨.hbm, 88, rfl⟩
abbrev main_while0b_call0_c_3 : Ref sig .tc := ⟨.hbm, 89, rfl⟩
abbrev main_while0b_call0_v0 : Ref sig .tc := ⟨.hbm, 90, rfl⟩
abbrev main_while0b_v75 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_c_3 : Ref sig .tc := ⟨.hbm, 96, rfl⟩
abbrev main_while0b_call1_v0 : Ref sig .tc := ⟨.hbm, 97, rfl⟩
abbrev main_while0b_v76 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_c_1 : Ref sig .tc := ⟨.hbm, 101, rfl⟩
abbrev main_while0b_call2_c_2 : Ref sig .tc := ⟨.hbm, 102, rfl⟩
abbrev main_while0b_call2_c_3 : Ref sig .tc := ⟨.hbm, 103, rfl⟩
abbrev main_while0b_call2_v0 : Ref sig .tc := ⟨.hbm, 104, rfl⟩
abbrev main_while0b_v77 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_c_3 : Ref sig .tc := ⟨.hbm, 110, rfl⟩
abbrev main_while0b_call3_v0 : Ref sig .tc := ⟨.hbm, 111, rfl⟩
abbrev main_while0b_v78 : Ref sig .tc := ⟨.hbm, 112, rfl⟩
abbrev main_while0b_call4_c : Ref sig .tc := ⟨.hbm, 113, rfl⟩
abbrev main_while0b_call4_c_0 : Ref sig .tc := ⟨.hbm, 114, rfl⟩
abbrev main_while0b_call4_c_1 : Ref sig .tc := ⟨.hbm, 115, rfl⟩
abbrev main_while0b_call4_c_2 : Ref sig .tc := ⟨.hbm, 116, rfl⟩
abbrev main_while0b_call4_c_3 : Ref sig .tc := ⟨.hbm, 117, rfl⟩
abbrev main_while0b_call4_v0 : Ref sig .tc := ⟨.hbm, 118, rfl⟩
abbrev main_while0b_v79 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_c_2 : Ref sig .tc := ⟨.hbm, 123, rfl⟩
abbrev main_while0b_call5_c_3 : Ref sig .tc := ⟨.hbm, 124, rfl⟩
abbrev main_while0b_call5_v0 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_call6_v0 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_call6_c_3 : Ref sig .tc := ⟨.hbm, 141, rfl⟩
abbrev main_while0b_v90 : Ref sig .tc := ⟨.hbm, 142, rfl⟩
abbrev main_while0b_c_9 : Ref sig .tc := ⟨.hbm, 143, rfl⟩
abbrev main_while0b_v91 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩

abbrev nD : Nat := 1
abbrev τ : Topo := Topo.v7x

variable {F : FTy → Type} [FloatOps F]

abbrev main_while0_count : Scf.Loop 32 := ⟨0#32, 64#32, 1#32⟩
-- ==== InProj.lean ====
abbrev S32768x2048 : Shape := ⟨2, ![32768, 2048]⟩
abbrev S2048x6176 : Shape := ⟨2, ![2048, 6176]⟩
abbrev S_ : Shape := ⟨0, ![]⟩
abbrev S2048x96 : Shape := ⟨2, ![2048, 96]⟩
abbrev S2048x3072 : Shape := ⟨2, ![2048, 3072]⟩
abbrev S2048x1024 : Shape := ⟨2, ![2048, 1024]⟩
abbrev S2048x1536 : Shape := ⟨2, ![2048, 1536]⟩
abbrev S2048x512 : Shape := ⟨2, ![2048, 512]⟩
abbrev S2048x32 : Shape := ⟨2, ![2048, 32]⟩
abbrev S2048x6272 : Shape := ⟨2, ![2048, 6272]⟩
abbrev S32768x6272 : Shape := ⟨2, ![32768, 6272]⟩
abbrev S512x2048 : Shape := ⟨2, ![512, 2048]⟩
abbrev S2048x896 : Shape := ⟨2, ![2048, 896]⟩
abbrev S512x896 : Shape := ⟨2, ![512, 896]⟩

abbrev nBuf : Space → Nat
  | .hbm => 12
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x6176, .f32⟩
  | .hbm, ⟨2, _⟩ => ⟨S_, .f32⟩
  | .hbm, ⟨3, _⟩ => ⟨S2048x96, .f32⟩
  | .hbm, ⟨4, _⟩ => ⟨S2048x3072, .f32⟩
  | .hbm, ⟨5, _⟩ => ⟨S2048x1024, .f32⟩
  | .hbm, ⟨6, _⟩ => ⟨S2048x1536, .f32⟩
  | .hbm, ⟨7, _⟩ => ⟨S2048x512, .f32⟩
  | .hbm, ⟨8, _⟩ => ⟨S2048x32, .f32⟩
  | .hbm, ⟨9, _⟩ => ⟨S2048x6272, .f32⟩
  | .hbm, ⟨10, _⟩ => ⟨S2048x6272, .bf16⟩
  | .hbm, ⟨11, _⟩ => ⟨S32768x6272, .f32⟩
  | .local _ .vmem, ⟨0, _⟩ => ⟨S512x2048, .bf16⟩
  | .local _ .vmem, ⟨1, _⟩ => ⟨S512x2048, .bf16⟩
  | .local _ .vmem, ⟨2, _⟩ => ⟨S2048x896, .bf16⟩
  | .local _ .vmem, ⟨3, _⟩ => ⟨S2048x896, .bf16⟩
  | .local _ .vmem, ⟨4, _⟩ => ⟨S512x896, .f32⟩
  | .local _ .vmem, ⟨5, _⟩ => ⟨S512x896, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S32768x2048 : Shape := ⟨2, ![32768, 2048]⟩
abbrev S2048x6176 : Shape := ⟨2, ![2048, 6176]⟩
abbrev S32768x6176 : Shape := ⟨2, ![32768, 6176]⟩
abbrev S32768x4096 : Shape := ⟨2, ![32768, 4096]⟩
abbrev S32768x32 : Shape := ⟨2, ![32768, 32]⟩
abbrev S_ : Shape := ⟨0, ![]⟩
abbrev S32768x96 : Shape := ⟨2, ![32768, 96]⟩
abbrev S32768x6272 : Shape := ⟨2, ![32768, 6272]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6176, .f32⟩
  | .hbm, ⟨2, _⟩ => ⟨S32768x2048, .f32⟩
  | .hbm, ⟨3, _⟩ => ⟨S32768x6176, .f32⟩
  | .hbm, ⟨4, _⟩ => ⟨S32768x4096, .f32⟩
  | .hbm, ⟨5, _⟩ => ⟨S32768x2048, .f32⟩
  | .hbm, ⟨6, _⟩ => ⟨S32768x32, .f32⟩
  | .hbm, ⟨7, _⟩ => ⟨S_, .f32⟩
  | .hbm, ⟨8, _⟩ => ⟨S32768x96, .f32⟩
  | .hbm, ⟨9, _⟩ => ⟨S32768x6272, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S32768x1024 : Shape := ⟨2, ![32768, 1024]⟩
abbrev S8x4096x512 : Shape := ⟨3, ![8, 4096, 512]⟩
abbrev S32768x2048 : Shape := ⟨2, ![32768, 2048]⟩
abbrev S2048x2048 : Shape := ⟨2, ![2048, 2048]⟩
abbrev S1024x2048 : Shape := ⟨2, ![1024, 2048]⟩
abbrev S32768x512 : Shape := ⟨2, ![32768, 512]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S8x4096x512, .bf16⟩
  | .hbm, ⟨2, _⟩ => ⟨S8x4096x512, .bf16⟩
  | .hbm, ⟨3, _⟩ => ⟨S32768x2048, .f32⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S32768x512, .bf16⟩
  | .hbm, ⟨8, _⟩ => ⟨S512x2048, .bf16⟩
  | .hbm, ⟨9, _⟩ => ⟨S32768x512, .bf16⟩
  | .hbm, ⟨10, _⟩ => ⟨S512x2048, .bf16⟩
  | .hbm, ⟨11, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S32768x1024 : Shape := ⟨2, ![32768, 1024]⟩
abbrev S8x4096x512 : Shape := ⟨3, ![8, 4096, 512]⟩
abbrev S32768x2048 : Shape := ⟨2, ![32768, 2048]⟩
abbrev S2048x2048 : Shape := ⟨2, ![2048, 2048]⟩
abbrev S32768x512 : Shape := ⟨2, ![32768, 512]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S8x4096x512, .bf16⟩
  | .hbm, ⟨2, _⟩ => ⟨S8x4096x512, .bf16⟩
  | .hbm, ⟨3, _⟩ => ⟨S32768x2048, .f32⟩
  | .hbm, ⟨4, _⟩ => ⟨S2048x2048, .f32⟩
  | .hbm, ⟨5, _⟩ => ⟨S32768x512, .bf16⟩
  | .hbm, ⟨6, _⟩ => ⟨S32768x512, .bf16⟩
  | .hbm, ⟨7, _⟩ => ⟨S32768x2048, .bf16⟩
  | .hbm, ⟨8, _⟩ => ⟨S32768x2048, .f32⟩
  | .hbm, ⟨9, _⟩ => ⟨S32768x2048, .f32⟩
  | .hbm, ⟨10, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== QueryProj.lean ====
abbrev S32768x2048 : Shape := ⟨2, ![32768, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048x2048, .bf16⟩
  | .hbm, ⟨3, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryProjRefIdeal.lean ====
abbrev S32768x2048 : Shape := ⟨2, ![32768, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FinalNorm.lean ====
abbrev S32768x2048 : Shape := ⟨2, ![32768, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalNormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FirstNorm.lean ====
abbrev S32768x2048 : Shape := ⟨2, ![32768, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AddNorm.lean ====
abbrev S32768x2048 : Shape := ⟨2, ![32768, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S32768x2048, .f32⟩
  | .hbm, ⟨5, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AddNormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== HeadNorm.lean ====
abbrev S32768x1024 : Shape := ⟨2, ![32768, 1024]⟩
abbrev S32768x7040 : Shape := ⟨2, ![32768, 7040]⟩
abbrev S128 : Shape := ⟨1, ![128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x7040, .f32⟩
  | .hbm, ⟨3, _⟩ => ⟨S128, .f32⟩
  | .hbm, ⟨4, _⟩ => ⟨S1x128, .f32⟩
  | .hbm, ⟨5, _⟩ => ⟨S32768x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .bf16⟩
  | .local _ .vmem, ⟨8, _⟩ => ⟨S1024x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HeadNormRefIdeal.lean ====
abbrev S32768x1024 : Shape := ⟨2, ![32768, 1024]⟩
abbrev S32768x7040 : Shape := ⟨2, ![32768, 7040]⟩
abbrev S128 : Shape := ⟨1, ![128]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x7040, .f32⟩
  | .hbm, ⟨3, _⟩ => ⟨S128, .f32⟩
  | .hbm, ⟨4, _⟩ => ⟨S32768x1024, .f32⟩
  | .hbm, ⟨5, _⟩ => ⟨S32768x8x128, .f32⟩
  | .hbm, ⟨6, _⟩ => ⟨S32768x1024, .f32⟩
  | .hbm, ⟨7, _⟩ => ⟨S32768x8x128, .f32⟩
  | .hbm, ⟨8, _⟩ => ⟨S32768x8x128, .f32⟩
  | .hbm, ⟨9, _⟩ => ⟨S_, .f32⟩
  | .hbm, ⟨10, _⟩ => ⟨S32768x8, .f32⟩
  | .hbm, ⟨11, _⟩ => ⟨S32768x8x1, .f32⟩
  | .hbm, ⟨12, _⟩ => ⟨S_, .f32⟩
  | .hbm, ⟨13, _⟩ => ⟨S32768x8x1, .f32⟩
  | .hbm, ⟨14, _⟩ => ⟨S32768x8x1, .f32⟩
  | .hbm, ⟨15, _⟩ => ⟨S_, .f32⟩
  | .hbm, ⟨16, _⟩ => ⟨S32768x8x1, .f32⟩
  | .hbm, ⟨17, _⟩ => ⟨S32768x8x1, .f32⟩
  | .hbm, ⟨18, _⟩ => ⟨S32768x8x1, .f32⟩
  | .hbm, ⟨19, _⟩ => ⟨S32768x8x128, .f32⟩
  | .hbm, ⟨20, _⟩ => ⟨S32768x8x128, .f32⟩
  | .hbm, ⟨21, _⟩ => ⟨S1x1x128, .f32⟩
  | .hbm, ⟨22, _⟩ => ⟨S32768x8x128, .f32⟩
  | .hbm, ⟨23, _⟩ => ⟨S32768x8x128, .f32⟩
  | .hbm, ⟨24, _⟩ => ⟨S32768x8x128, .f32⟩
  | .hbm, ⟨25, _⟩ => ⟨S32768x8x128, .f32⟩
  | .hbm, ⟨26, _⟩ => ⟨S_, .f32⟩
  | .hbm, ⟨27, _⟩ => ⟨S32768x8x128, .f32⟩
  | .hbm, ⟨28, _⟩ => ⟨S32768x8x128, .f32⟩
  | .hbm, ⟨29, _⟩ => ⟨S_, .f32⟩
  | .hbm, ⟨30, _⟩ => ⟨S32768x8x128, .f32⟩
  | .hbm, ⟨31, _⟩ => ⟨S32768x8x128, .f32⟩
  | .hbm, ⟨32, _⟩ => ⟨S32768x8x128, .f32⟩
  | .hbm, ⟨33, _⟩ => ⟨S32768x8x128, .f32⟩
  | .hbm, ⟨34, _⟩ => ⟨S32768x1024, .f32⟩
  | .hbm, ⟨35, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Fourier.lean ====
abbrev S8x4096x7040 : Shape := ⟨3, ![8, 4096, 7040]⟩
abbrev S2x4096x4096 : Shape := ⟨3, ![2, 4096, 4096]⟩
abbrev S2x4x128x128 : Shape := ⟨4, ![2, 4, 128, 128]⟩
abbrev S8x4096x512 : Shape := ⟨3, ![8, 4096, 512]⟩
abbrev S2x512x512 : Shape := ⟨3, ![2, 512, 512]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x7040, .f32⟩
  | .hbm, ⟨1, _⟩ => ⟨S2x4096x4096, .bf16⟩
  | .hbm, ⟨2, _⟩ => ⟨S2x4x128x128, .bf16⟩
  | .hbm, ⟨3, _⟩ => ⟨S8x4096x512, .bf16⟩
  | .local _ .vmem, ⟨0, _⟩ => ⟨S2x512x512, .bf16⟩
  | .local _ .vmem, ⟨1, _⟩ => ⟨S2x512x512, .bf16⟩
  | .local _ .vmem, ⟨2, _⟩ => ⟨S1x512x512, .f32⟩
  | .local _ .vmem, ⟨3, _⟩ => ⟨S1x512x512, .f32⟩
  | .local _ .vmem, ⟨4, _⟩ => ⟨S2x4x128x128, .bf16⟩
  | .local _ .vmem, ⟨5, _⟩ => ⟨S1x512x512, .bf16⟩
  | .local _ .vmem, ⟨6, _⟩ => ⟨S1x512x512, .bf16⟩
  | .local _ .vmem, ⟨7, _⟩ => ⟨S2x512x512, .f32⟩
  | _, _ => ⟨S8x4096x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_21 : BitVec 32 := 0#32
  let v26 : BitVec 1 := Scalar.cmpi .ne v25 c0_i32_21
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg0.toNat, arg2.toNat, c11_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2x4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FourierRefIdeal.lean ====
abbrev S8x4096x7040 : Shape := ⟨3, ![8, 4096, 7040]⟩
abbrev S2x4096x4096 : Shape := ⟨3, ![2, 4096, 4096]⟩
abbrev S2x4x128x128 : Shape := ⟨4, ![2, 4, 128, 128]⟩
abbrev S8x4096x512 : Shape := ⟨3, ![8, 4096, 512]⟩
abbrev S8x4096x4x128 : Shape := ⟨4, ![8, 4096, 4, 128]⟩
abbrev S1x4096x4096 : Shape := ⟨3, ![1, 4096, 4096]⟩
abbrev S4096x4096 : Shape := ⟨2, ![4096, 4096]⟩
abbrev S8x4x128x4096 : Shape := ⟨4, ![8, 4, 128, 4096]⟩
abbrev S1x4x128x128 : Shape := ⟨4, ![1, 4, 128, 128]⟩
abbrev S4x128x128 : Shape := ⟨3, ![4, 128, 128]⟩
abbrev S4x128x8x4096 : Shape := ⟨4, ![4, 128, 8, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x7040, .f32⟩
  | .hbm, ⟨1, _⟩ => ⟨S2x4096x4096, .bf16⟩
  | .hbm, ⟨2, _⟩ => ⟨S2x4x128x128, .bf16⟩
  | .hbm, ⟨3, _⟩ => ⟨S8x4096x512, .f32⟩
  | .hbm, ⟨4, _⟩ => ⟨S8x4096x4x128, .f32⟩
  | .hbm, ⟨5, _⟩ => ⟨S2x4096x4096, .f32⟩
  | .hbm, ⟨6, _⟩ => ⟨S2x4x128x128, .f32⟩
  | .hbm, ⟨7, _⟩ => ⟨S1x4096x4096, .f32⟩
  | .hbm, ⟨8, _⟩ => ⟨S4096x4096, .f32⟩
  | .hbm, ⟨9, _⟩ => ⟨S8x4x128x4096, .f32⟩
  | .hbm, ⟨10, _⟩ => ⟨S8x4096x4x128, .f32⟩
  | .hbm, ⟨11, _⟩ => ⟨S1x4096x4096, .f32⟩
  | .hbm, ⟨12, _⟩ => ⟨S4096x4096, .f32⟩
  | .hbm, ⟨13, _⟩ => ⟨S8x4x128x4096, .f32⟩
  | .hbm, ⟨14, _⟩ => ⟨S8x4096x4x128, .f32⟩
  | .hbm, ⟨15, _⟩ => ⟨S1x4x128x128, .f32⟩
  | .hbm, ⟨16, _⟩ => ⟨S4x128x128, .f32⟩
  | .hbm, ⟨17, _⟩ => ⟨S4x128x8x4096, .f32⟩
  | .hbm, ⟨18, _⟩ => ⟨S8x4096x4x128, .f32⟩
  | .hbm, ⟨19, _⟩ => ⟨S1x4x128x128, .f32⟩
  | .hbm, ⟨20, _⟩ => ⟨S4x128x128, .f32⟩
  | .hbm, ⟨21, _⟩ => ⟨S4x128x8x4096, .f32⟩
  | .hbm, ⟨22, _⟩ => ⟨S8x4096x4x128, .f32⟩
  | .hbm, ⟨23, _⟩ => ⟨S8x4096x4x128, .f32⟩
  | .hbm, ⟨24, _⟩ => ⟨S8x4096x512, .f32⟩
  | .hbm, ⟨25, _⟩ => ⟨S8x4096x512, .bf16⟩
  | _, _ => ⟨S8x4096x7040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Spectrum.lean ====
abbrev S2x4096x4096 : Shape := ⟨3, ![2, 4096, 4096]⟩
abbrev S8x4096x512 : Shape := ⟨3, ![8, 4096, 512]⟩
abbrev S2x4096x512 : Shape := ⟨3, ![2, 4096, 512]⟩
abbrev S8x2x4096x512 : Shape := ⟨4, ![8, 2, 4096, 512]⟩
abbrev S2x512x512 : Shape := ⟨3, ![2, 512, 512]⟩
abbrev S1x512x512 : Shape := ⟨3, ![1, 512, 512]⟩
abbrev S1x2x512x512 : Shape := ⟨4, ![1, 2, 512, 512]⟩
abbrev S512x512 : Shape := ⟨2, ![512, 512]⟩
abbrev S1x1x512x512 : Shape := ⟨4, ![1, 1, 512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2x4096x4096, .bf16⟩
  | .hbm, ⟨1, _⟩ => ⟨S8x4096x512, .f32⟩
  | .hbm, ⟨2, _⟩ => ⟨S2x4096x512, .f32⟩
  | .hbm, ⟨3, _⟩ => ⟨S8x2x4096x512, .bf16⟩
  | .local _ .vmem, ⟨0, _⟩ => ⟨S2x512x512, .bf16⟩
  | .local _ .vmem, ⟨1, _⟩ => ⟨S2x512x512, .bf16⟩
  | .local _ .vmem, ⟨2, _⟩ => ⟨S1x512x512, .f32⟩
  | .local _ .vmem, ⟨3, _⟩ => ⟨S1x512x512, .f32⟩
  | .local _ .vmem, ⟨4, _⟩ => ⟨S2x512x512, .f32⟩
  | .local _ .vmem, ⟨5, _⟩ => ⟨S2x512x512, .f32⟩
  | .local _ .vmem, ⟨6, _⟩ => ⟨S1x2x512x512, .bf16⟩
  | .local _ .vmem, ⟨7, _⟩ => ⟨S1x2x512x512, .bf16⟩
  | .local _ .vmem, ⟨8, _⟩ => ⟨S2x512x512, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_21 : BitVec 32 := 0#32
  let v26 : BitVec 1 := Scalar.cmpi .ne v25 c0_i32_21
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SpectrumRefIdeal.lean ====
abbrev S2x4096x4096 : Shape := ⟨3, ![2, 4096, 4096]⟩
abbrev S8x4096x512 : Shape := ⟨3, ![8, 4096, 512]⟩
abbrev S2x4096x512 : Shape := ⟨3, ![2, 4096, 512]⟩
abbrev S1x4096x4096 : Shape := ⟨3, ![1, 4096, 4096]⟩
abbrev S4096x4096 : Shape := ⟨2, ![4096, 4096]⟩
abbrev S8x512x4096 : Shape := ⟨3, ![8, 512, 4096]⟩
abbrev S1x4096x512 : Shape := ⟨3, ![1, 4096, 512]⟩
abbrev S4096x512 : Shape := ⟨2, ![4096, 512]⟩
abbrev S4096 : Shape := ⟨1, ![4096]⟩
abbrev S_ : Shape := ⟨0, ![]⟩
abbrev S1x4096x1 : Shape := ⟨3, ![1, 4096, 1]⟩
abbrev S8x1x4096x512 : Shape := ⟨4, ![8, 1, 4096, 512]⟩
abbrev S8x2x4096x512 : Shape := ⟨4, ![8, 2, 4096, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S8x4096x512, .f32⟩
  | .hbm, ⟨2, _⟩ => ⟨S2x4096x512, .f32⟩
  | .hbm, ⟨3, _⟩ => ⟨S2x4096x4096, .f32⟩
  | .hbm, ⟨4, _⟩ => ⟨S1x4096x4096, .f32⟩
  | .hbm, ⟨5, _⟩ => ⟨S4096x4096, .f32⟩
  | .hbm, ⟨6, _⟩ => ⟨S8x512x4096, .f32⟩
  | .hbm, ⟨7, _⟩ => ⟨S8x4096x512, .f32⟩
  | .hbm, ⟨8, _⟩ => ⟨S1x4096x4096, .f32⟩
  | .hbm, ⟨9, _⟩ => ⟨S4096x4096, .f32⟩
  | .hbm, ⟨10, _⟩ => ⟨S8x512x4096, .f32⟩
  | .hbm, ⟨11, _⟩ => ⟨S8x4096x512, .f32⟩
  | .hbm, ⟨12, _⟩ => ⟨S1x4096x512, .f32⟩
  | .hbm, ⟨13, _⟩ => ⟨S4096x512, .f32⟩
  | .hbm, ⟨14, _⟩ => ⟨S1x4096x512, .f32⟩
  | .hbm, ⟨15, _⟩ => ⟨S4096x512, .f32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S1x4096x1, .i1⟩
  | .hbm, ⟨21, _⟩ => ⟨S1x4096x512, .f32⟩
  | .hbm, ⟨22, _⟩ => ⟨S8x4096x512, .f32⟩
  | .hbm, ⟨23, _⟩ => ⟨S8x4096x512, .f32⟩
  | .hbm, ⟨24, _⟩ => ⟨S1x4096x512, .f32⟩
  | .hbm, ⟨25, _⟩ => ⟨S8x4096x512, .f32⟩
  | .hbm, ⟨26, _⟩ => ⟨S8x4096x512, .f32⟩
  | .hbm, ⟨27, _⟩ => ⟨S1x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .i1⟩
  | .hbm, ⟨32, _⟩ => ⟨S8x4096x512, .f32⟩
  | .hbm, ⟨33, _⟩ => ⟨S1x4096x512, .f32⟩
  | .hbm, ⟨34, _⟩ => ⟨S8x4096x512, .f32⟩
  | .hbm, ⟨35, _⟩ => ⟨S8x4096x512, .f32⟩
  | .hbm, ⟨36, _⟩ => ⟨S1x4096x512, .f32⟩
  | .hbm, ⟨37, _⟩ => ⟨S8x4096x512, .f32⟩
  | .hbm, ⟨38, _⟩ => ⟨S8x4096x512, .f32⟩
  | .hbm, ⟨39, _⟩ => ⟨S1x4096x512, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S8x4096x512, .i1⟩
  | .hbm, ⟨44, _⟩ => ⟨S8x4096x512, .f32⟩
  | .hbm, ⟨45, _⟩ => ⟨S_, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S1x4096x1, .f32⟩
  | .hbm, ⟨50, _⟩ => ⟨S1x4096x1, .f32⟩
  | .hbm, ⟨51, _⟩ => ⟨S8x4096x512, .f32⟩
  | .hbm, ⟨52, _⟩ => ⟨S8x4096x512, .f32⟩
  | .hbm, ⟨53, _⟩ => ⟨S1x4096x1, .f32⟩
  | .hbm, ⟨54, _⟩ => ⟨S8x4096x512, .f32⟩
  | .hbm, ⟨55, _⟩ => ⟨S8x4096x512, .f32⟩
  | .hbm, ⟨56, _⟩ => ⟨S8x1x4096x512, .f32⟩
  | .hbm, ⟨57, _⟩ => ⟨S8x1x4096x512, .f32⟩
  | .hbm, ⟨58, _⟩ => ⟨S8x2x4096x512, .f32⟩
  | .hbm, ⟨59, _⟩ => ⟨S8x2x4096x512, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_call1_v0 : Ref sig .tc := ⟨.hbm, 43, rfl⟩
abbrev main_v38 : Ref sig .tc := ⟨.hbm, 44, rfl⟩
abbrev main_cst : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== LongConv.lean ====
abbrev S2x4096x4096 : Shape := ⟨3, ![2, 4096, 4096]⟩
abbrev S8x2x4096x512 : Shape := ⟨4, ![8, 2, 4096, 512]⟩
abbrev S8x4096x512 : Shape := ⟨3, ![8, 4096, 512]⟩
abbrev S512 : Shape := ⟨1, ![512]⟩
abbrev S1x512 : Shape := ⟨2, ![1, 512]⟩
abbrev S2x512x512 : Shape := ⟨3, ![2, 512, 512]⟩
abbrev S1x2x512x512 : Shape := ⟨4, ![1, 2, 512, 512]⟩
abbrev S1x512x512 : Shape := ⟨3, ![1, 512, 512]⟩
abbrev S512x512 : Shape := ⟨2, ![512, 512]⟩
abbrev S1x1x512x512 : Shape := ⟨4, ![1, 1, 512, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x4096x4096, .bf16⟩
  | .hbm, ⟨1, _⟩ => ⟨S8x2x4096x512, .bf16⟩
  | .hbm, ⟨2, _⟩ => ⟨S8x4096x512, .f32⟩
  | .hbm, ⟨3, _⟩ => ⟨S8x4096x512, .f32⟩
  | .hbm, ⟨4, _⟩ => ⟨S512, .f32⟩
  | .hbm, ⟨5, _⟩ => ⟨S1x512, .f32⟩
  | .hbm, ⟨6, _⟩ => ⟨S8x4096x512, .bf16⟩
  | .local _ .vmem, ⟨0, _⟩ => ⟨S2x512x512, .bf16⟩
  | .local _ .vmem, ⟨1, _⟩ => ⟨S2x512x512, .bf16⟩
  | .local _ .vmem, ⟨2, _⟩ => ⟨S1x2x512x512, .bf16⟩
  | .local _ .vmem, ⟨3, _⟩ => ⟨S1x2x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S512x512, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_18 : BitVec 32 := 0#32
  let v21 : BitVec 1 := Scalar.cmpi .ne v20 c0_i32_18
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== LongConvRefIdeal.lean ====
abbrev S2x4096x4096 : Shape := ⟨3, ![2, 4096, 4096]⟩
abbrev S8x2x4096x512 : Shape := ⟨4, ![8, 2, 4096, 512]⟩
abbrev S8x4096x512 : Shape := ⟨3, ![8, 4096, 512]⟩
abbrev S512 : Shape := ⟨1, ![512]⟩
abbrev S1x4096x4096 : Shape := ⟨3, ![1, 4096, 4096]⟩
abbrev S4096x4096 : Shape := ⟨2, ![4096, 4096]⟩
abbrev S8x1x4096x512 : Shape := ⟨4, ![8, 1, 4096, 512]⟩
abbrev S8x512x4096 : Shape := ⟨3, ![8, 512, 4096]⟩
abbrev S1x1x512 : Shape := ⟨3, ![1, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S8x2x4096x512, .bf16⟩
  | .hbm, ⟨2, _⟩ => ⟨S8x4096x512, .f32⟩
  | .hbm, ⟨3, _⟩ => ⟨S8x4096x512, .f32⟩
  | .hbm, ⟨4, _⟩ => ⟨S512, .f32⟩
  | .hbm, ⟨5, _⟩ => ⟨S2x4096x4096, .f32⟩
  | .hbm, ⟨6, _⟩ => ⟨S8x2x4096x512, .f32⟩
  | .hbm, ⟨7, _⟩ => ⟨S1x4096x4096, .f32⟩
  | .hbm, ⟨8, _⟩ => ⟨S4096x4096, .f32⟩
  | .hbm, ⟨9, _⟩ => ⟨S8x1x4096x512, .f32⟩
  | .hbm, ⟨10, _⟩ => ⟨S8x4096x512, .f32⟩
  | .hbm, ⟨11, _⟩ => ⟨S8x512x4096, .f32⟩
  | .hbm, ⟨12, _⟩ => ⟨S8x4096x512, .f32⟩
  | .hbm, ⟨13, _⟩ => ⟨S1x4096x4096, .f32⟩
  | .hbm, ⟨14, _⟩ => ⟨S4096x4096, .f32⟩
  | .hbm, ⟨15, _⟩ => ⟨S8x1x4096x512, .f32⟩
  | .hbm, ⟨16, _⟩ => ⟨S8x4096x512, .f32⟩
  | .hbm, ⟨17, _⟩ => ⟨S8x512x4096, .f32⟩
  | .hbm, ⟨18, _⟩ => ⟨S8x4096x512, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x512, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Experts.lean ====
abbrev S32768x2048 : Shape := ⟨2, ![32768, 2048]⟩
abbrev S16384x2048 : Shape := ⟨2, ![16384, 2048]⟩
abbrev S2048x16384 : Shape := ⟨2, ![2048, 16384]⟩
abbrev S8x128x32768 : Shape := ⟨3, ![8, 128, 32768]⟩
abbrev S8x1x32768 : Shape := ⟨3, ![8, 1, 32768]⟩
abbrev S512x2048 : Shape := ⟨2, ![512, 2048]⟩
abbrev S2048x512 : Shape := ⟨2, ![2048, 512]⟩
abbrev S8x128x512 : Shape := ⟨3, ![8, 128, 512]⟩
abbrev S8x1x512 : Shape := ⟨3, ![8, 1, 512]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 9
  | .vmem => 19
  | .smem => 0
  | _ => 0

abbrev bufTy : (tb : Table) → Fin (tcTables nBuf tb) → BufTy
  | .hbm, ⟨0, _⟩ => ⟨S32768x2048, .bf16⟩
  | .hbm, ⟨1, _⟩ => ⟨S16384x2048, .bf16⟩
  | .hbm, ⟨2, _⟩ => ⟨S2048x16384, .bf16⟩
  | .hbm, ⟨3, _⟩ => ⟨S8x128x32768, .f32⟩
  | .hbm, ⟨4, _⟩ => ⟨S8x128x32768, .f32⟩
  | .hbm, ⟨5, _⟩ => ⟨S8x128x32768, .f32⟩
  | .hbm, ⟨6, _⟩ => ⟨S8x128x32768, .f32⟩
  | .hbm, ⟨7, _⟩ => ⟨S8x1x32768, .f32⟩
  | .hbm, ⟨8, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S8x1x512, .f32⟩
  | .local _ .vmem, ⟨15, _⟩ => ⟨S8x1x512, .f32⟩
  | .local _ .vmem, ⟨16, _⟩ => ⟨S512x2048, .f32⟩
  | .local _ .vmem, ⟨17, _⟩ => ⟨S512x2048, .f32⟩
  | .local _ .vmem, ⟨18, _⟩ => ⟨S2048x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![64, 32], ![false, false]⟩

def k0_off1 (i : grid0.Coords) (c0_i32_7 : BitVec 32) : Fin 3 → Nat :=
  let c0_8 : Index := 0#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v16 : Index := Scalar.indexCast v15
  let c0_9 : Index := 0#32
  ![0, v16.toNat, 0]
def k0_off2 (i : grid0.Coords) (c0_i32_7 : BitVec 32) : Fin 3 → Nat :=
  let c1 : Index := 1#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v36 : Index := Scalar.indexCast v15
  let c0_22 : Index := 0#32
  ![1, v36.toNat, 0]
def k0_off3 (i : grid0.Coords) (c0_i32_7 : BitVec 32) : Fin 3 → Nat :=
  let c2 : Index := 2#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v57 : Index := Scalar.indexCast v15
  let c0_35 : Index := 0#32
  ![2, v57.toNat, 0]
def k0_off4 (i : grid0.Coords) (c0_i32_7 : BitVec 32) : Fin 3 → Nat :=
  let c3 : Index := 3#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v78 : Index := Scalar.indexCast v15
  let c0_48 : Index := 0#32
  ![3, v78.toNat, 0]
def k0_off5 (i : grid0.Coords) (c0_i32_7 : BitVec 32) : Fin 3 → Nat :=
  let c4 : Index := 4#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v99 : Index := Scalar.indexCast v15
  let c0_61 : Index := 0#32
  ![4, v99.toNat, 0]
def k0_off6 (i : grid0.Coords) (c0_i32_7 : BitVec 32) : Fin 3 → Nat :=
  let c5 : Index := 5#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v120 : Index := Scalar.indexCast v15
  let c0_74 : Index := 0#32
  ![5, v120.toNat, 0]
def k0_off7 (i : grid0.Coords) (c0_i32_7 : BitVec 32) : Fin 3 → Nat :=
  let c6 : Index := 6#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v141 : Index := Scalar.indexCast v15
  let c0_87 : Index := 0#32
  ![6, v141.toNat, 0]
def k0_off8 (i : grid0.Coords) (c0_i32_7 : BitVec 32) : Fin 3 → Nat :=
  let c7 : Index := 7#32
  let arg1 : BitVec 32 := BitVec.ofNat 32 (i 1).val
  let c4_i32 : BitVec 32 := 4#32
  let v14 : BitVec 32 := Scalar.muli arg1 c4_i32
  let v15 : BitVec 32 := Scalar.addi v14 c0_i32_7
  let v162 : Index := Scalar.indexCast v15
  let c0_100 : Index := 0#32
  ![7, v162.toNat, 0]
def k0_cond2 (i : grid0.Coords) : BitVec 1 :=
  let arg1 : BitVec 32 := BitVec.ofNat 32 (i 1).val
  let c31_i32 : BitVec 32 := 31#32
  let v700 : BitVec 1 := Scalar.cmpi .eq arg1 c31_i32
  let v701 : BitVec 32 := Scalar.extui v700
  let c0_i32_459 : BitVec 32 := 0#32
  let v702 : BitVec 1 := Scalar.cmpi .ne v701 c0_i32_459
  v702

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ExpertsIdeal.lean ====
variable {F : FTy → Type} [FloatOps F] [Named F]
def κ : String → Option EReal := fun
  | "inv_sqrt2" => some (((Real.sqrt 2)⁻¹ : ℝ) : EReal)
  | _ => none
-- ==== ExpertsRefIdeal.lean ====
abbrev S32768x2048 : Shape := ⟨2, ![32768, 2048]⟩
abbrev S16384x2048 : Shape := ⟨2, ![16384, 2048]⟩
abbrev S2048x16384 : Shape := ⟨2, ![2048, 16384]⟩
abbrev S8x128x32768 : Shape := ⟨3, ![8, 128, 32768]⟩
abbrev S8x1x32768 : Shape := ⟨3, ![8, 1, 32768]⟩
abbrev S32768x16384 : Shape := ⟨2, ![32768, 16384]⟩
abbrev S_ : Shape := ⟨0, ![]⟩
abbrev S8x128x1x32768 : Shape := ⟨4, ![8, 128, 1, 32768]⟩
abbrev S8x1x128x32768 : Shape := ⟨4, ![8, 1, 128, 32768]⟩
abbrev S8x128x128x32768 : Shape := ⟨4, ![8, 128, 128, 32768]⟩
abbrev S8x1x1x32768 : Shape := ⟨4, ![8, 1, 1, 32768]⟩
abbrev S128x128x32768 : Shape := ⟨3, ![128, 128, 32768]⟩
abbrev S16384x32768 : Shape := ⟨2, ![16384, 32768]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S16384x2048, .bf16⟩
  | .hbm, ⟨2, _⟩ => ⟨S2048x16384, .bf16⟩
  | .hbm, ⟨3, _⟩ => ⟨S8x128x32768, .f32⟩
  | .hbm, ⟨4, _⟩ => ⟨S8x128x32768, .f32⟩
  | .hbm, ⟨5, _⟩ => ⟨S8x128x32768, .f32⟩
  | .hbm, ⟨6, _⟩ => ⟨S8x128x32768, .f32⟩
  | .hbm, ⟨7, _⟩ => ⟨S8x1x32768, .f32⟩
  | .hbm, ⟨8, _⟩ => ⟨S32768x2048, .f32⟩
  | .hbm, ⟨9, _⟩ => ⟨S16384x2048, .f32⟩
  | .hbm, ⟨10, _⟩ => ⟨S32768x16384, .f32⟩
  | .hbm, ⟨11, _⟩ => ⟨S_, .f32⟩
  | .hbm, ⟨12, _⟩ => ⟨S32768x16384, .f32⟩
  | .hbm, ⟨13, _⟩ => ⟨S32768x16384, .f32⟩
  | .hbm, ⟨14, _⟩ => ⟨S_, .f32⟩
  | .hbm, ⟨15, _⟩ => ⟨S_, .f32⟩
  | .hbm, ⟨16, _⟩ => ⟨S32768x16384, .f32⟩
  | .hbm, ⟨17, _⟩ => ⟨S32768x16384, .f32⟩
  | .hbm, ⟨18, _⟩ => ⟨S32768x16384, .f32⟩
  | .hbm, ⟨19, _⟩ => ⟨S_, .f32⟩
  | .hbm, ⟨20, _⟩ => ⟨S32768x16384, .f32⟩
  | .hbm, ⟨21, _⟩ => ⟨S32768x16384, .f32⟩
  | .hbm, ⟨22, _⟩ => ⟨S32768x16384, .f32⟩
  | .hbm, ⟨23, _⟩ => ⟨S8x128x1x32768, .f32⟩
  | .hbm, ⟨24, _⟩ => ⟨S8x1x128x32768, .f32⟩
  | .hbm, ⟨25, _⟩ => ⟨S8x128x128x32768, .f32⟩
  | .hbm, ⟨26, _⟩ => ⟨S8x128x128x32768, .f32⟩
  | .hbm, ⟨27, _⟩ => ⟨S8x128x128x32768, .f32⟩
  | .hbm, ⟨28, _⟩ => ⟨S8x128x1x32768, .f32⟩
  | .hbm, ⟨29, _⟩ => ⟨S8x1x128x32768, .f32⟩
  | .hbm, ⟨30, _⟩ => ⟨S8x128x128x32768, .f32⟩
  | .hbm, ⟨31, _⟩ => ⟨S8x128x128x32768, .f32⟩
  | .hbm, ⟨32, _⟩ => ⟨S8x128x128x32768, .f32⟩
  | .hbm, ⟨33, _⟩ => ⟨S8x1x1x32768, .f32⟩
  | .hbm, ⟨34, _⟩ => ⟨S8x128x128x32768, .f32⟩
  | .hbm, ⟨35, _⟩ => ⟨S8x128x128x32768, .i1⟩
  | .hbm, ⟨36, _⟩ => ⟨S_, .f32⟩
  | .hbm, ⟨37, _⟩ => ⟨S_, .f32⟩
  | .hbm, ⟨38, _⟩ => ⟨S8x128x128x32768, .f32⟩
  | .hbm, ⟨39, _⟩ => ⟨S8x128x128x32768, .f32⟩
  | .hbm, ⟨40, _⟩ => ⟨S_, .f32⟩
  | .hbm, ⟨41, _⟩ => ⟨S128x128x32768, .f32⟩
  | .hbm, ⟨42, _⟩ => ⟨S16384x32768, .f32⟩
  | .hbm, ⟨43, _⟩ => ⟨S32768x16384, .f32⟩
  | .hbm, ⟨44, _⟩ => ⟨S32768x16384, .f32⟩
  | .hbm, ⟨45, _⟩ => ⟨S2048x16384, .f32⟩
  | .hbm, ⟨46, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== ShortConvs.lean ====
abbrev S8x4096x7040 : Shape := ⟨3, ![8, 4096, 7040]⟩
abbrev S3x1536 : Shape := ⟨2, ![3, 1536]⟩
abbrev S1536 : Shape := ⟨1, ![1536]⟩
abbrev S3x3x512 : Shape := ⟨3, ![3, 3, 512]⟩
abbrev S3x1x512 : Shape := ⟨3, ![3, 1, 512]⟩
abbrev S8x4096x512 : Shape := ⟨3, ![8, 4096, 512]⟩
abbrev S1x512x128 : Shape := ⟨3, ![1, 512, 128]⟩
abbrev S1x8x128 : Shape := ⟨3, ![1, 8, 128]⟩
abbrev S3x3x128 : Shape := ⟨3, ![3, 3, 128]⟩
abbrev S3x1x128 : Shape := ⟨3, ![3, 1, 128]⟩
abbrev S512x128 : Shape := ⟨2, ![512, 128]⟩
abbrev S8x128 : Shape := ⟨2, ![8, 128]⟩
abbrev S1x3x128 : Shape := ⟨3, ![1, 3, 128]⟩
abbrev S3x128 : Shape := ⟨2, ![3, 128]⟩
abbrev S1x128 : Shape := ⟨2, ![1, 128]⟩
abbrev S1x1x128 : Shape := ⟨3, ![1, 1, 128]⟩

abbrev nBuf : Space → Nat
  | .hbm => 8
  | .vmem => 26
  | .smem => 0
  | _ => 0

abbrev bufTy : (tb : Table) → Fin (tcTables nBuf tb) → BufTy
  | .hbm, ⟨0, _⟩ => ⟨S8x4096x7040, .f32⟩
  | .hbm, ⟨1, _⟩ => ⟨S3x1536, .f32⟩
  | .hbm, ⟨2, _⟩ => ⟨S1536, .f32⟩
  | .hbm, ⟨3, _⟩ => ⟨S3x3x512, .f32⟩
  | .hbm, ⟨4, _⟩ => ⟨S3x3x512, .f32⟩
  | .hbm, ⟨5, _⟩ => ⟨S3x1x512, .f32⟩
  | .hbm, ⟨6, _⟩ => ⟨S8x4096x512, .f32⟩
  | .hbm, ⟨7, _⟩ => ⟨S8x4096x512, .f32⟩
  | .local _ .vmem, ⟨0, _⟩ => ⟨S1x512x128, .f32⟩
  | .local _ .vmem, ⟨1, _⟩ => ⟨S1x512x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x512x128, .f32⟩
  | .local _ .vmem, ⟨7, _⟩ => ⟨S1x512x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x512x128, .f32⟩
  | .local _ .vmem, ⟨13, _⟩ => ⟨S1x512x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S3x3x128, .f32⟩
  | .local _ .vmem, ⟨19, _⟩ => ⟨S3x3x128, .f32⟩
  | .local _ .vmem, ⟨20, _⟩ => ⟨S3x1x128, .f32⟩
  | .local _ .vmem, ⟨21, _⟩ => ⟨S3x1x128, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | _, _ => ⟨S8x4096x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c32_i32 : BitVec 32 := 32#32
  let v3 : BitVec 32 := Scalar.addi c32_i32 arg2
  let c0_i32 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c36_i32 : BitVec 32 := 36#32
  let v3 : BitVec 32 := Scalar.addi c36_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c36_i32 : BitVec 32 := 36#32
  let v3 : BitVec 32 := Scalar.addi c36_i32 arg2
  let c0_i32 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let v3 : BitVec 32 := Scalar.addi c40_i32 arg2
  let c0_i32_0 : BitVec 32 := 0#32
  ![arg0.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c40_i32 : BitVec 32 := 40#32
  let v3 : BitVec 32 := Scalar.addi c40_i32 arg2
  let c0_i32 : BitVec 32 := 0#32
  ![arg0.toNat, v2.toNat, v3.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S3x3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ShortConvsRefIdeal.lean ====
abbrev S8x4096x7040 : Shape := ⟨3, ![8, 4096, 7040]⟩
abbrev S3x1536 : Shape := ⟨2, ![3, 1536]⟩
abbrev S1536 : Shape := ⟨1, ![1536]⟩
abbrev S8x4096x1536 : Shape := ⟨3, ![8, 4096, 1536]⟩
abbrev S_ : Shape := ⟨0, ![]⟩
abbrev S8x4098x1536 : Shape := ⟨3, ![8, 4098, 1536]⟩
abbrev S1x1536 : Shape := ⟨2, ![1, 1536]⟩
abbrev S1x1x1536 : Shape := ⟨3, ![1, 1, 1536]⟩
abbrev S8x4096x512 : Shape := ⟨3, ![8, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x7040, .f32⟩
  | .hbm, ⟨1, _⟩ => ⟨S3x1536, .f32⟩
  | .hbm, ⟨2, _⟩ => ⟨S1536, .f32⟩
  | .hbm, ⟨3, _⟩ => ⟨S8x4096x1536, .f32⟩
  | .hbm, ⟨4, _⟩ => ⟨S_, .i32⟩
  | .hbm, ⟨5, _⟩ => ⟨S_, .f32⟩
  | .hbm, ⟨6, _⟩ => ⟨S8x4098x1536, .f32⟩
  | .hbm, ⟨7, _⟩ => ⟨S8x4096x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S8x4096x1536, .f32⟩
  | .hbm, ⟨12, _⟩ => ⟨S8x4096x1536, .f32⟩
  | .hbm, ⟨13, _⟩ => ⟨S8x4096x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S8x4096x1536, .f32⟩
  | .hbm, ⟨18, _⟩ => ⟨S8x4096x1536, .f32⟩
  | .hbm, ⟨19, _⟩ => ⟨S8x4096x1536, .f32⟩
  | .hbm, ⟨20, _⟩ => ⟨S8x4096x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S8x4096x1536, .f32⟩
  | .hbm, ⟨25, _⟩ => ⟨S8x4096x1536, .f32⟩
  | .hbm, ⟨26, _⟩ => ⟨S8x4096x1536, .f32⟩
  | .hbm, ⟨27, _⟩ => ⟨S1x1x1536, .f32⟩
  | .hbm, ⟨28, _⟩ => ⟨S8x4096x1536, .f32⟩
  | .hbm, ⟨29, _⟩ => ⟨S8x4096x1536, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | _, _ => ⟨S8x4096x7040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Heads.lean ====
abbrev S8x4096x7040 : Shape := ⟨3, ![8, 4096, 7040]⟩
abbrev S3x3072 : Shape := ⟨2, ![3, 3072]⟩
abbrev S8x4096x3072 : Shape := ⟨3, ![8, 4096, 3072]⟩
abbrev S1x512x128 : Shape := ⟨3, ![1, 512, 128]⟩
abbrev S1x8x128 : Shape := ⟨3, ![1, 8, 128]⟩
abbrev S3x128 : Shape := ⟨2, ![3, 128]⟩
abbrev S512x128 : Shape := ⟨2, ![512, 128]⟩
abbrev S8x128 : Shape := ⟨2, ![8, 128]⟩
abbrev S1x128 : Shape := ⟨2, ![1, 128]⟩
abbrev S512 : Shape := ⟨1, ![512]⟩
abbrev S512x1 : Shape := ⟨2, ![512, 1]⟩

abbrev nBuf : Space → Nat
  | .hbm => 3
  | .vmem => 10
  | .smem => 0
  | _ => 0

abbrev bufTy : (tb : Table) → Fin (tcTables nBuf tb) → BufTy
  | .hbm, ⟨0, _⟩ => ⟨S8x4096x7040, .f32⟩
  | .hbm, ⟨1, _⟩ => ⟨S3x3072, .f32⟩
  | .hbm, ⟨2, _⟩ => ⟨S8x4096x3072, .f32⟩
  | .local _ .vmem, ⟨0, _⟩ => ⟨S1x512x128, .f32⟩
  | .local _ .vmem, ⟨1, _⟩ => ⟨S1x512x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S3x128, .f32⟩
  | .local _ .vmem, ⟨7, _⟩ => ⟨S3x128, .f32⟩
  | .local _ .vmem, ⟨8, _⟩ => ⟨S1x512x128, .f32⟩
  | .local _ .vmem, ⟨9, _⟩ => ⟨S1x512x128, .f32⟩
  | _, _ => ⟨S8x4096x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 24], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== HeadsIdeal.lean ====
variable {F : FTy → Type} [FloatOps F] [Named F]
def κ : String → Option EReal := fun
  | "inv_sqrt128" => some (((Real.sqrt 128)⁻¹ : ℝ) : EReal)
  | _ => none
-- ==== HeadsRefIdeal.lean ====
abbrev S8x4096x7040 : Shape := ⟨3, ![8, 4096, 7040]⟩
abbrev S3x3072 : Shape := ⟨2, ![3, 3072]⟩
abbrev S8x4096x3072 : Shape := ⟨3, ![8, 4096, 3072]⟩
abbrev S_ : Shape := ⟨0, ![]⟩
abbrev S8x4098x3072 : Shape := ⟨3, ![8, 4098, 3072]⟩
abbrev S1x3072 : Shape := ⟨2, ![1, 3072]⟩
abbrev S3072 : Shape := ⟨1, ![3072]⟩
abbrev S1x1x3072 : Shape := ⟨3, ![1, 1, 3072]⟩
abbrev S8x4096x1024 : Shape := ⟨3, ![8, 4096, 1024]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x7040, .f32⟩
  | .hbm, ⟨1, _⟩ => ⟨S3x3072, .f32⟩
  | .hbm, ⟨2, _⟩ => ⟨S8x4096x3072, .f32⟩
  | .hbm, ⟨3, _⟩ => ⟨S_, .i32⟩
  | .hbm, ⟨4, _⟩ => ⟨S_, .f32⟩
  | .hbm, ⟨5, _⟩ => ⟨S8x4098x3072, .f32⟩
  | .hbm, ⟨6, _⟩ => ⟨S8x4096x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S8x4096x3072, .f32⟩
  | .hbm, ⟨11, _⟩ => ⟨S8x4096x3072, .f32⟩
  | .hbm, ⟨12, _⟩ => ⟨S8x4096x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S8x4096x3072, .f32⟩
  | .hbm, ⟨17, _⟩ => ⟨S8x4096x3072, .f32⟩
  | .hbm, ⟨18, _⟩ => ⟨S8x4096x3072, .f32⟩
  | .hbm, ⟨19, _⟩ => ⟨S8x4096x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S8x4096x3072, .f32⟩
  | .hbm, ⟨24, _⟩ => ⟨S8x4096x3072, .f32⟩
  | .hbm, ⟨25, _⟩ => ⟨S8x4096x3072, .f32⟩
  | .hbm, ⟨26, _⟩ => ⟨S8x4096x3072, .f32⟩
  | .hbm, ⟨27, _⟩ => ⟨S8x4096x3072, .f32⟩
  | .hbm, ⟨28, _⟩ => ⟨S_, .f32⟩
  | .hbm, ⟨29, _⟩ => ⟨S8x4096x3072, .f32⟩
  | .hbm, ⟨30, _⟩ => ⟨S8x4096x3072, .f32⟩
  | .hbm, ⟨31, _⟩ => ⟨S_, .f32⟩
  | .hbm, ⟨32, _⟩ => ⟨S8x4096x3072, .f32⟩
  | .hbm, ⟨33, _⟩ => ⟨S8x4096x3072, .f32⟩
  | .hbm, ⟨34, _⟩ => ⟨S8x4096x3072, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x8x128, .f32⟩
  | .hbm, ⟨39, _⟩ => ⟨S8x4096x8x128, .f32⟩
  | .hbm, ⟨40, _⟩ => ⟨S_, .f32⟩
  | .hbm, ⟨41, _⟩ => ⟨S8x4096x8, .f32⟩
  | .hbm, ⟨42, _⟩ => ⟨S8x4096x8x1, .f32⟩
  | .hbm, ⟨43, _⟩ => ⟨S_, .f32⟩
  | .hbm, ⟨44, _⟩ => ⟨S8x4096x8x1, .f32⟩
  | .hbm, ⟨45, _⟩ => ⟨S8x4096x8x1, .f32⟩
  | .hbm, ⟨46, _⟩ => ⟨S8x4096x8x1, .f32⟩
  | .hbm, ⟨47, _⟩ => ⟨S8x4096x8x128, .f32⟩
  | .hbm, ⟨48, _⟩ => ⟨S8x4096x8x128, .f32⟩
  | .hbm, ⟨49, _⟩ => ⟨S_, .f32⟩
  | .hbm, ⟨50, _⟩ => ⟨S_, .f32⟩
  | .hbm, ⟨51, _⟩ => ⟨S8x4096x8x128, .f32⟩
  | .hbm, ⟨52, _⟩ => ⟨S8x4096x8x128, .f32⟩
  | .hbm, ⟨53, _⟩ => ⟨S8x4096x8x128, .f32⟩
  | .hbm, ⟨54, _⟩ => ⟨S8x4096x8x128, .f32⟩
  | .hbm, ⟨55, _⟩ => ⟨S_, .f32⟩
  | .hbm, ⟨56, _⟩ => ⟨S8x4096x8, .f32⟩
  | .hbm, ⟨57, _⟩ => ⟨S8x4096x8x1, .f32⟩
  | .hbm, ⟨58, _⟩ => ⟨S_, .f32⟩
  | .hbm, ⟨59, _⟩ => ⟨S8x4096x8x1, .f32⟩
  | .hbm, ⟨60, _⟩ => ⟨S8x4096x8x1, .f32⟩
  | .hbm, ⟨61, _⟩ => ⟨S8x4096x8x1, .f32⟩
  | .hbm, ⟨62, _⟩ => ⟨S8x4096x8x128, .f32⟩
  | .hbm, ⟨63, _⟩ => ⟨S8x4096x8x128, .f32⟩
  | .hbm, ⟨64, _⟩ => ⟨S8x4096x1024, .f32⟩
  | .hbm, ⟨65, _⟩ => ⟨S8x4096x1024, .f32⟩
  | .hbm, ⟨66, _⟩ => ⟨S8x4096x3072, .f32⟩
  | _, _ => ⟨S8x4096x7040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Fold.lean ====
abbrev S2x128x128 : Shape := ⟨3, ![2, 128, 128]⟩
abbrev S4x128x128 : Shape := ⟨3, ![4, 128, 128]⟩
abbrev S2x4x128x128 : Shape := ⟨4, ![2, 4, 128, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 3
  | .vmem => 3
  | .smem => 0
  | _ => 0

abbrev bufTy : (tb : Table) → Fin (tcTables nBuf tb) → BufTy
  | .hbm, ⟨0, _⟩ => ⟨S2x128x128, .f32⟩
  | .hbm, ⟨1, _⟩ => ⟨S4x128x128, .f32⟩
  | .hbm, ⟨2, _⟩ => ⟨S2x4x128x128, .bf16⟩
  | .local _ .vmem, ⟨0, _⟩ => ⟨S2x128x128, .f32⟩
  | .local _ .vmem, ⟨1, _⟩ => ⟨S4x128x128, .f32⟩
  | .local _ .vmem, ⟨2, _⟩ => ⟨S2x4x128x128, .bf16⟩
  | _, _ => ⟨S2x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== FoldIdeal.lean ====
variable {F : FTy → Type} [FloatOps F] [Named F]
def κ : String → Option EReal := fun
  | "inv_sqrt_size" => some (((Real.sqrt 524288)⁻¹ : ℝ) : EReal)
  | "neg_inv_sqrt_size" => some ((-((Real.sqrt 524288)⁻¹) : ℝ) : EReal)
  | _ => none
-- ==== FoldRefIdeal.lean ====
abbrev S2x128x128 : Shape := ⟨3, ![2, 128, 128]⟩
abbrev S4x128x128 : Shape := ⟨3, ![4, 128, 128]⟩
abbrev S_ : Shape := ⟨0, ![]⟩
abbrev S1x128x128 : Shape := ⟨3, ![1, 128, 128]⟩
abbrev S128x128 : Shape := ⟨2, ![128, 128]⟩
abbrev S1x4x128x128 : Shape := ⟨4, ![1, 4, 128, 128]⟩
abbrev S2x4x128x128 : Shape := ⟨4, ![2, 4, 128, 128]⟩

abbrev nBuf : Space → Nat
  | .hbm => 21
  | .vmem => 0
  | .smem => 0
  | _ => 0

abbrev bufTy : (tb : Table) → Fin (tcTables nBuf tb) → BufTy
  | .hbm, ⟨0, _⟩ => ⟨S2x128x128, .f32⟩
  | .hbm, ⟨1, _⟩ => ⟨S4x128x128, .f32⟩
  | .hbm, ⟨2, _⟩ => ⟨S_, .f32⟩
  | .hbm, ⟨3, _⟩ => ⟨S_, .f32⟩
  | .hbm, ⟨4, _⟩ => ⟨S1x128x128, .f32⟩
  | .hbm, ⟨5, _⟩ => ⟨S128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x128, .f32⟩
  | .hbm, ⟨10, _⟩ => ⟨S1x128x128, .f32⟩
  | .hbm, ⟨11, _⟩ => ⟨S128x128, .f32⟩
  | .hbm, ⟨12, _⟩ => ⟨S4x128x128, .f32⟩
  | .hbm, ⟨13, _⟩ => ⟨S4x128x128, .f32⟩
  | .hbm, ⟨14, _⟩ => ⟨S4x128x128, .f32⟩
  | .hbm, ⟨15, _⟩ => ⟨S4x128x128, .f32⟩
  | .hbm, ⟨16, _⟩ => ⟨S4x128x128, .f32⟩
  | .hbm, ⟨17, _⟩ => ⟨S1x4x128x128, .f32⟩
  | .hbm, ⟨18, _⟩ => ⟨S1x4x128x128, .f32⟩
  | .hbm, ⟨19, _⟩ => ⟨S2x4x128x128, .f32⟩
  | .hbm, ⟨20, _⟩ => ⟨S2x4x128x128, .bf16⟩
  | _, _ => ⟨S2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== FilterDft.lean ====
abbrev S2x4096x4096 : Shape := ⟨3, ![2, 4096, 4096]⟩
abbrev S2x4096x512 : Shape := ⟨3, ![2, 4096, 512]⟩
abbrev S2x2x4096x512 : Shape := ⟨4, ![2, 2, 4096, 512]⟩
abbrev S2x512x512 : Shape := ⟨3, ![2, 512, 512]⟩
abbrev S1x512x512 : Shape := ⟨3, ![1, 512, 512]⟩
abbrev S1x2x512x512 : Shape := ⟨4, ![1, 2, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x512, .f32⟩
  | .hbm, ⟨2, _⟩ => ⟨S2x2x4096x512, .f32⟩
  | .local _ .vmem, ⟨0, _⟩ => ⟨S2x512x512, .bf16⟩
  | .local _ .vmem, ⟨1, _⟩ => ⟨S2x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x2x512x512, .f32⟩
  | .local _ .vmem, ⟨5, _⟩ => ⟨S1x2x512x512, .f32⟩
  | .local _ .vmem, ⟨6, _⟩ => ⟨S2x512x512, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_21 : BitVec 32 := 0#32
  let v26 : BitVec 1 := Scalar.cmpi .ne v25 c0_i32_21
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FilterDftRefIdeal.lean ====
abbrev S2x4096x4096 : Shape := ⟨3, ![2, 4096, 4096]⟩
abbrev S2x4096x512 : Shape := ⟨3, ![2, 4096, 512]⟩
abbrev S2x512x2x4096 : Shape := ⟨4, ![2, 512, 2, 4096]⟩
abbrev S2x2x4096x512 : Shape := ⟨4, ![2, 2, 4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x512, .f32⟩
  | .hbm, ⟨2, _⟩ => ⟨S2x4096x4096, .f32⟩
  | .hbm, ⟨3, _⟩ => ⟨S2x512x2x4096, .f32⟩
  | .hbm, ⟨4, _⟩ => ⟨S2x2x4096x512, .f32⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Combine.lean ====
abbrev S2x2x4096x512 : Shape := ⟨4, ![2, 2, 4096, 512]⟩
abbrev S1x512 : Shape := ⟨2, ![1, 512]⟩
abbrev S2x4096x512 : Shape := ⟨3, ![2, 4096, 512]⟩
abbrev S2x2x512x512 : Shape := ⟨4, ![2, 2, 512, 512]⟩
abbrev S2x512x512 : Shape := ⟨3, ![2, 512, 512]⟩
abbrev S512x512 : Shape := ⟨2, ![512, 512]⟩
abbrev S1x2x512x512 : Shape := ⟨4, ![1, 2, 512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2x2x4096x512, .f32⟩
  | .hbm, ⟨1, _⟩ => ⟨S1x512, .f32⟩
  | .hbm, ⟨2, _⟩ => ⟨S2x4096x512, .f32⟩
  | .local _ .vmem, ⟨0, _⟩ => ⟨S2x2x512x512, .f32⟩
  | .local _ .vmem, ⟨1, _⟩ => ⟨S2x2x512x512, .f32⟩
  | .local _ .vmem, ⟨2, _⟩ => ⟨S1x512, .f32⟩
  | .local _ .vmem, ⟨3, _⟩ => ⟨S2x512x512, .f32⟩
  | .local _ .vmem, ⟨4, _⟩ => ⟨S2x512x512, .f32⟩
  | _, _ => ⟨S2x2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CombineRefIdeal.lean ====
abbrev S2x2x4096x512 : Shape := ⟨4, ![2, 2, 4096, 512]⟩
abbrev S1x512 : Shape := ⟨2, ![1, 512]⟩
abbrev S4096 : Shape := ⟨1, ![4096]⟩
abbrev S4096x1 : Shape := ⟨2, ![4096, 1]⟩
abbrev S_ : Shape := ⟨0, ![]⟩
abbrev S1x1x4096x512 : Shape := ⟨4, ![1, 1, 4096, 512]⟩
abbrev S4096x512 : Shape := ⟨2, ![4096, 512]⟩
abbrev S1x4096x512 : Shape := ⟨3, ![1, 4096, 512]⟩
abbrev S2x4096x512 : Shape := ⟨3, ![2, 4096, 512]⟩
abbrev S1x1x512 : Shape := ⟨3, ![1, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S2x2x4096x512, .f32⟩
  | .hbm, ⟨1, _⟩ => ⟨S1x512, .f32⟩
  | .hbm, ⟨2, _⟩ => ⟨S4096, .i32⟩
  | .hbm, ⟨3, _⟩ => ⟨S4096x1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S_, .i32⟩
  | .hbm, ⟨19, _⟩ => ⟨S_, .i1⟩
  | .hbm, ⟨20, _⟩ => ⟨S4096x1, .i1⟩
  | .hbm, ⟨21, _⟩ => ⟨S4096x1, .i1⟩
  | .hbm, ⟨22, _⟩ => ⟨S4096x1, .i1⟩
  | .hbm, ⟨23, _⟩ => ⟨S4096x1, .i32⟩
  | .hbm, ⟨24, _⟩ => ⟨S4096x1, .i32⟩
  | .hbm, ⟨25, _⟩ => ⟨S4096x1, .i32⟩
  | .hbm, ⟨26, _⟩ => ⟨S_, .i32⟩
  | .hbm, ⟨27, _⟩ => ⟨S4096x1, .i32⟩
  | .hbm, ⟨28, _⟩ => ⟨S4096x1, .i32⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S4096x1, .f32⟩
  | .hbm, ⟨33, _⟩ => ⟨S1x1x4096x512, .f32⟩
  | .hbm, ⟨34, _⟩ => ⟨S4096x512, .f32⟩
  | .hbm, ⟨35, _⟩ => ⟨S1x1x4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S1x1x4096x512, .f32⟩
  | .hbm, ⟨41, _⟩ => ⟨S4096x512, .f32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S_, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S1x1x4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S1x4096x512, .f32⟩
  | .hbm, ⟨55, _⟩ => ⟨S1x4096x512, .f32⟩
  | .hbm, ⟨56, _⟩ => ⟨S2x4096x512, .f32⟩
  | .hbm, ⟨57, _⟩ => ⟨S_, .f32⟩
  | .hbm, ⟨58, _⟩ => ⟨S1x512, .f32⟩
  | .hbm, ⟨59, _⟩ => ⟨S1x512, .f32⟩
  | .hbm, ⟨60, _⟩ => ⟨S1x1x512, .f32⟩
  | .hbm, ⟨61, _⟩ => ⟨S2x4096x512, .f32⟩
  | .hbm, ⟨62, _⟩ => ⟨S2x4096x512, .f32⟩
  | _, _ => ⟨S2x2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩

abbrev nD : Nat := 1
abbrev τ : Topo := Topo.v7x

variable {F : FTy → Type} [FloatOps F]
-- ==== Proof.ScanMath.lean ====
/-
  The gated delta rule over chunks, written once as mathematics over the extended reals: for each direction `x`, batch `b`
  and head `h` a 128 by 128 state runs over 64 chunks of 64 rows, the backward direction (`x = 1`) taking the chunks last to
  first.  Both programs are shown to compute this recurrence; nothing here depends on either.
-/
module

public import Idealize.ShloMosaic.Lib.Pointwise

@[expose] public section

noncomputable section

open Idealize.ShloMosaic

namespace Cert.ScanMath

/-- Rows of a direction's full width array, rows of the chunk products, and the decays. -/
abbrev Wide : Type := (⟨4, ![2, 8, 4096, 1024]⟩ : Shape).Idx → EReal
abbrev Narrow : Type := (⟨5, ![2, 8, 8, 4096, 64]⟩ : Shape).Idx → EReal
abbrev Decay : Type := (⟨6, ![2, 8, 8, 64, 1, 128]⟩ : Shape).Idx → EReal

/-- The chunk that direction `x` visits at pass `n`. -/
def visit (x : Fin 2) (n : Fin 64) : Fin 64 := if x.val = 0 then n else n.rev

/-- Row `i` of chunk `n`, and feature `e` of head `h`. -/
def row (n i : Fin 64) : Fin 4096 := ⟨64 * n.val + i.val, by omega⟩
def lane (h : Fin 8) (e : Fin 128) : Fin 1024 := ⟨128 * h.val + e.val, by omega⟩

/-- Entry `(i, e)` of the chunk that direction `x` visits at pass `n`. -/
def wide (a : Wide) (n : Fin 64) (x : Fin 2) (b h : Fin 8) (i : Fin 64) (e : Fin 128) : EReal :=
  a (ix4 x b (row (visit x n) i) (lane h e))
def narrow (a : Narrow) (n : Fin 64) (x : Fin 2) (b h : Fin 8) (i k : Fin 64) : EReal :=
  a (ix5 x b h (row (visit x n) i) k)
def decay (a : Decay) (n : Fin 64) (x : Fin 2) (b h : Fin 8) (e : Fin 128) : EReal :=
  a (ix6 x b h (visit x n) 0 e)

/-- The values a chunk writes: its own less what the state already predicts for its keys. -/
def fresh (u w : Wide) (n : Fin 64) (x : Fin 2) (b h : Fin 8) (s : Fin 128 → Fin 128 → EReal) (i : Fin 64) (e : Fin 128) : EReal :=
  wide u n x b h i e - ∑ k : Fin 128, wide w n x b h i k * s k e

/-- The state after a chunk. -/
def advance (u w kg : Wide) (eg : Decay) (n : Fin 64) (x : Fin 2) (b h : Fin 8) (s : Fin 128 → Fin 128 → EReal) (d e : Fin 128) : EReal :=
  s d e * decay eg n x b h e + ∑ k : Fin 64, wide kg n x b h k d * fresh u w n x b h s k e

/-- The outputs of a chunk. -/
def emit (u w : Wide) (qk : Narrow) (qg : Wide) (n : Fin 64) (x : Fin 2) (b h : Fin 8) (s : Fin 128 → Fin 128 → EReal)
    (i : Fin 64) (e : Fin 128) : EReal :=
  ∑ k : Fin 128, wide qg n x b h i k * s k e + ∑ k : Fin 64, narrow qk n x b h i k * fresh u w n x b h s k e

/-- The state before pass `n`. -/
def state (u w kg : Wide) (eg : Decay) (x : Fin 2) (b h : Fin 8) : ℕ → Fin 128 → Fin 128 → EReal
  | 0 => fun _ _ => 0
  | n + 1 => if hn : n < 64 then advance u w kg eg ⟨n, hn⟩ x b h (state u w kg eg x b h n) else fun _ _ => 0

theorem state_zero (u w kg : Wide) (eg : Decay) (x : Fin 2) (b h : Fin 8) (d e : Fin 128) : state u w kg eg x b h 0 d e = 0 := rfl

theorem state_succ (u w kg : Wide) (eg : Decay) (x : Fin 2) (b h : Fin 8) (n : ℕ) (hn : n < 64) :
    state u w kg eg x b h (n + 1) = advance u w kg eg ⟨n, hn⟩ x b h (state u w kg eg x b h n) := by
  rw [state, dif_pos hn]

/-- The outputs of pass `n`. -/
def output (u w : Wide) (qk : Narrow) (qg kg : Wide) (eg : Decay) (n : Fin 64) (x : Fin 2) (b h : Fin 8) (i : Fin 64) (e : Fin 128) : EReal :=
  emit u w qk qg n x b h (state u w kg eg x b h n.val) i e

/-- The result array of a direction: row `t` belongs to chunk `t / 64`, which that direction visits at pass `visit x (t / 64)`. -/
def result (u w : Wide) (qk : Narrow) (qg kg : Wide) (eg : Decay) (x : Fin 2) (b : Fin 8) (t : Fin 4096) (q : Fin 1024) : EReal :=
  output u w qk qg kg eg (visit x ⟨t.val / 64, by omega⟩) x b ⟨q.val / 128, by omega⟩ ⟨t.val % 64, by omega⟩ ⟨q.val % 128, by omega⟩

end Cert.ScanMath

end
-- ==== Proof.ScanRead.lean ====
module

public import proofs.«01_k».proof.Proof.Gen.ScanRefIdeal.Run
public import Idealize.ShloMosaic.Lib.Pipeline.ValueKit
public import Idealize.ShloMosaic.Lib.Claim
public import Idealize.ShloMosaic.Lib.Pointwise
public import Idealize.ShloMosaic.Lib.WordCmp
public import proofs.«01_k».proof.Proof.ScanMath

@[expose] public section

set_option maxRecDepth 16384

noncomputable section

open Idealize.ShloMosaic Idealize.ShloMosaic.TcCoe Idealize.SL.Sem
open Idealize.ShloMosaic.StableHlo
open Idealize.ShloMosaic.WordCmp (toInt_ofNat_of_lt dynamicSlice_eq_extract dynamicUpdateSlice_eq_update)

namespace Cert.ScanRefIdeal.Loop

open Cert.ScanRefIdeal Cert.ScanRefIdeal.Gen Cert.ScanRefIdeal.Value

variable (V0 : Valuation τ sig (Elt Ideal))

/-- The start words of pass `j`. -/
abbrev starts (j : ℕ) : Fin 6 → (⟨S_, .i32⟩ : BufTy).Contents (Elt Ideal) :=
  ![constantI S_ 32 (BitVec.ofNat 32 j), constantI S_ 32 0#32, constantI S_ 32 0#32, constantI S_ 32 0#32,
    constantI S_ 32 0#32, constantI S_ 32 0#32]

/-- Where the loop cuts its operands at pass `j`: chunk `j`, and the rest whole. -/
theorem start_eq (j : ℕ) (hj : j < 64) (k : Fin 6) :
    BitVec.toInt (starts j k (Shape.Idx.first h_S_))
      = ((![j, 0, 0, 0, 0, 0] : Fin 6 → ℕ) k : ℤ) := by
  have e : BitVec.toInt (BitVec.ofNat 32 j) = (j : ℤ) := toInt_ofNat_of_lt (by omega)
  fin_cases k
  · exact e
  all_goals rfl

theorem fits (d0 d1 j : ℕ) (hj : j < 64) : Shape.Slices ⟨6, ![64, 2, 8, 8, d0, d1]⟩ ![j, 0, 0, 0, 0, 0] ⟨6, ![1, 2, 8, 8, d0, d1]⟩ := by
  refine ⟨rfl, fun a => ?_⟩
  fin_cases a <;> simp
  omega

/-- Chunk `j` of a stacked operand. -/
def chunk (j : ℕ) (x : FVec Ideal S64x2x8x8x64x128 .f32) : FVec Ideal S2x8x8x64x128 .f32 :=
  shapeCast S2x8x8x64x128 (Host.dynamicSlice S1x2x8x8x64x128 x (fun k => BitVec.toInt (starts j k (Shape.Idx.first h_S_)))
    sliceFits_S64x2x8x8x64x128_S1x2x8x8x64x128) shapeCasts_S1x2x8x8x64x128_S2x8x8x64x128
def chunkQ (j : ℕ) (x : FVec Ideal S64x2x8x8x64x64 .f32) : FVec Ideal S2x8x8x64x64 .f32 :=
  shapeCast S2x8x8x64x64 (Host.dynamicSlice S1x2x8x8x64x64 x (fun k => BitVec.toInt (starts j k (Shape.Idx.first h_S_)))
    sliceFits_S64x2x8x8x64x64_S1x2x8x8x64x64) shapeCasts_S1x2x8x8x64x64_S2x8x8x64x64
def chunkE (j : ℕ) (x : FVec Ideal S64x2x8x8x1x128 .f32) : FVec Ideal S2x8x8x1x128 .f32 :=
  shapeCast S2x8x8x1x128 (Host.dynamicSlice S1x2x8x8x1x128 x (fun k => BitVec.toInt (starts j k (Shape.Idx.first h_S_)))
    sliceFits_S64x2x8x8x1x128_S1x2x8x8x1x128) shapeCasts_S1x2x8x8x1x128_S2x8x8x1x128

theorem chunk_at (j : ℕ) (hj : j < 64) (y : FVec Ideal S64x2x8x8x64x128 .f32) (x : Fin 2) (b h : Fin 8) (i : Fin 64) (e : Fin 128) :
    chunk j y (ix5 x b h i e) = y (ix6 ⟨j, hj⟩ x b h i e) := by
  unfold chunk
  rw [dynamicSlice_eq_extract _ _ _ _ ![j, 0, 0, 0, 0, 0] (fits _ _ j hj) (start_eq j hj)]
  pointwise
theorem chunkQ_at (j : ℕ) (hj : j < 64) (y : FVec Ideal S64x2x8x8x64x64 .f32) (x : Fin 2) (b h : Fin 8) (i e : Fin 64) :
    chunkQ j y (ix5 x b h i e) = y (ix6 ⟨j, hj⟩ x b h i e) := by
  unfold chunkQ
  rw [dynamicSlice_eq_extract _ _ _ _ ![j, 0, 0, 0, 0, 0] (fits _ _ j hj) (start_eq j hj)]
  pointwise
theorem chunkE_at (j : ℕ) (hj : j < 64) (y : FVec Ideal S64x2x8x8x1x128 .f32) (x : Fin 2) (b h : Fin 8) (i : Fin 1) (e : Fin 128) :
    chunkE j y (ix5 x b h i e) = y (ix6 ⟨j, hj⟩ x b h i e) := by
  obtain rfl : i = 0 := Subsingleton.elim _ _
  unfold chunkE
  rw [dynamicSlice_eq_extract _ _ _ _ ![j, 0, 0, 0, 0, 0] (fits _ _ j hj) (start_eq j hj)]
  pointwise

/-- The corrected values of pass `j`. -/
def newV (j : ℕ) (u w : FVec Ideal S64x2x8x8x64x128 .f32) (s : FVec Ideal S2x8x8x128x128 .f32) : FVec Ideal S2x8x8x64x128 .f32 :=
  subf (chunk j u) (Host.dotGeneral dot_S2x8x8x64x128_S2x8x8x128x128_S2x8x8x64x128_4_3_3_4_012_012 none (chunk j w) s)
/-- The outputs of pass `j`. -/
def newO (j : ℕ) (qk : FVec Ideal S64x2x8x8x64x64 .f32) (qg : FVec Ideal S64x2x8x8x64x128 .f32) (s : FVec Ideal S2x8x8x128x128 .f32)
    (v : FVec Ideal S2x8x8x64x128 .f32) : FVec Ideal S2x8x8x64x128 .f32 :=
  addf (Host.dotGeneral dot_S2x8x8x64x128_S2x8x8x128x128_S2x8x8x64x128_4_3_3_4_012_012 none (chunk j qg) s)
    (Host.dotGeneral dot_S2x8x8x64x64_S2x8x8x64x128_S2x8x8x64x128_4_3_3_4_012_012 none (chunkQ j qk) v)
/-- The state after pass `j`. -/
def newS (j : ℕ) (kg : FVec Ideal S64x2x8x8x64x128 .f32) (eg : FVec Ideal S64x2x8x8x1x128 .f32) (s : FVec Ideal S2x8x8x128x128 .f32)
    (v : FVec Ideal S2x8x8x64x128 .f32) : FVec Ideal S2x8x8x128x128 .f32 :=
  addf (mulf s (broadcastInDim S2x8x8x128x128 ![0, 1, 2, 3, 4] bcast_S2x8x8x1x128_S2x8x8x128x128_0_1_2_3_4 (chunkE j eg)))
    (Host.dotGeneral dot_S2x8x8x64x128_S2x8x8x64x128_S2x8x8x128x128_3_3_4_4_012_012 none (chunk j kg) v)
/-- The stacked outputs with pass `j` written. -/
def putO (j : ℕ) (o : FVec Ideal S64x2x8x8x64x128 .f32) (y : FVec Ideal S2x8x8x64x128 .f32) : FVec Ideal S64x2x8x8x64x128 .f32 :=
  Host.dynamicUpdateSlice o (broadcastInDim S1x2x8x8x64x128 ![1, 2, 3, 4, 5] bcast_S2x8x8x64x128_S1x2x8x8x64x128_1_2_3_4_5 y)
    (fun k => BitVec.toInt (starts j k (Shape.Idx.first h_S_))) updateFits_S64x2x8x8x64x128_S1x2x8x8x64x128

theorem newV_at (j : ℕ) (hj : j < 64) (u w : FVec Ideal S64x2x8x8x64x128 .f32) (s : FVec Ideal S2x8x8x128x128 .f32)
    (x : Fin 2) (b h : Fin 8) (i : Fin 64) (e : Fin 128) : newV j u w s (ix5 x b h i e)
      = (u (ix6 ⟨j, hj⟩ x b h i e) : EReal) - ∑ k : Fin 128, w (ix6 ⟨j, hj⟩ x b h i k) * s (ix5 x b h k e) := by
  pointwise [newV, chunk_at j hj]
theorem newO_at (j : ℕ) (hj : j < 64) (qk : FVec Ideal S64x2x8x8x64x64 .f32) (qg : FVec Ideal S64x2x8x8x64x128 .f32)
    (s : FVec Ideal S2x8x8x128x128 .f32) (v : FVec Ideal S2x8x8x64x128 .f32)
    (x : Fin 2) (b h : Fin 8) (i : Fin 64) (e : Fin 128) : newO j qk qg s v (ix5 x b h i e)
      = ((∑ k : Fin 128, qg (ix6 ⟨j, hj⟩ x b h i k) * s (ix5 x b h k e)
          + ∑ k : Fin 64, qk (ix6 ⟨j, hj⟩ x b h i k) * v (ix5 x b h k e) : EReal)) := by
  pointwise [newO, chunk_at j hj, chunkQ_at j hj]
theorem newS_at (j : ℕ) (hj : j < 64) (kg : FVec Ideal S64x2x8x8x64x128 .f32) (eg : FVec Ideal S64x2x8x8x1x128 .f32)
    (s : FVec Ideal S2x8x8x128x128 .f32) (v : FVec Ideal S2x8x8x64x128 .f32)
    (x : Fin 2) (b h : Fin 8) (d e : Fin 128) : newS j kg eg s v (ix5 x b h d e)
      = ((s (ix5 x b h d e) * eg (ix6 ⟨j, hj⟩ x b h 0 e)
          + ∑ k : Fin 64, kg (ix6 ⟨j, hj⟩ x b h k d) * v (ix5 x b h k e) : EReal)) := by
  pointwise [newS, chunk_at j hj, chunkE_at j hj]
theorem putO_at (j : ℕ) (hj : j < 64) (o : FVec Ideal S64x2x8x8x64x128 .f32) (y : FVec Ideal S2x8x8x64x128 .f32)
    (n : Fin 64) (x : Fin 2) (b h : Fin 8) (i : Fin 64) (e : Fin 128) : putO j o y (ix6 n x b h i e)
      = if n.val = j then y (ix5 x b h i e) else o (ix6 n x b h i e) := by
  unfold putO
  rw [dynamicUpdateSlice_eq_update _ _ _ _ ![j, 0, 0, 0, 0, 0] (fits _ _ j hj) (start_eq j hj)]
  pointwise
  by_cases hn : n.val = j
  · rw [if_pos hn, dif_pos (by omega)]
  · rw [if_neg hn, dif_neg (by omega)]

variable {V0}
theorem step_v (j : ℕ) (h6 : V0 (Proc.devRef .tc main_v65_6) = constantI S_ 32 (BitVec.ofNat 32 j)) :
    res_main_while0b_v82 V0 = newV j (V0 (Proc.devRef .tc main_v65_0)) (V0 (Proc.devRef .tc main_v65_1)) (V0 (Proc.devRef .tc main_v65_7)) := by
  unfold res_main_while0b_v82
  rw [h6]
  rfl
theorem step_s (j : ℕ) (h6 : V0 (Proc.devRef .tc main_v65_6) = constantI S_ 32 (BitVec.ofNat 32 j)) :
    step_main_v65_7 V0 = newS j (V0 (Proc.devRef .tc main_v65_4)) (V0 (Proc.devRef .tc main_v65_5)) (V0 (Proc.devRef .tc main_v65_7))
      (newV j (V0 (Proc.devRef .tc main_v65_0)) (V0 (Proc.devRef .tc main_v65_1)) (V0 (Proc.devRef .tc main_v65_7))) := by
  unfold step_main_v65_7
  rw [step_v j h6, h6]
  rfl
theorem step_o (j : ℕ) (h6 : V0 (Proc.devRef .tc main_v65_6) = constantI S_ 32 (BitVec.ofNat 32 j)) :
    step_main_v65_8 V0 = putO j (V0 (Proc.devRef .tc main_v65_8)) (newO j (V0 (Proc.devRef .tc main_v65_2)) (V0 (Proc.devRef .tc main_v65_3))
      (V0 (Proc.devRef .tc main_v65_7))
      (newV j (V0 (Proc.devRef .tc main_v65_0)) (V0 (Proc.devRef .tc main_v65_1)) (V0 (Proc.devRef .tc main_v65_7)))) := by
  unfold step_main_v65_8
  rw [step_v j h6, h6]
  rfl
theorem step_j (j : ℕ) (h6 : V0 (Proc.devRef .tc main_v65_6) = constantI S_ 32 (BitVec.ofNat 32 j)) :
    step_main_v65_6 V0 = constantI S_ 32 (BitVec.ofNat 32 (j + 1)) := by
  unfold step_main_v65_6
  rw [h6]
  funext i
  show BitVec.ofNat 32 j + 1#32 = BitVec.ofNat 32 (j + 1)
  rw [BitVec.ofNat_add]

open Cert.ScanMath (visit wide narrow decay state state_succ output result)

/-- The chunks in the order each direction visits them, the directions joined again. -/
def turnW (y : FVec Ideal S64x2x8x8x64x128 .f32) : FVec Ideal S64x2x8x8x64x128 .f32 :=
  concatenate S64x2x8x8x64x128 1
    [⟨S64x1x8x8x64x128, broadcastInDim S64x1x8x8x64x128 ![0, 2, 3, 4, 5] bcast_S64x8x8x64x128_S64x1x8x8x64x128_0_2_3_4_5
      (shapeCast S64x8x8x64x128 (extractStridedSlice S64x1x8x8x64x128 ![0, 0, 0, 0, 0, 0] y slices_S64x2x8x8x64x128_S64x1x8x8x64x128_0_0_0_0_0_0)
        shapeCasts_S64x1x8x8x64x128_S64x8x8x64x128)⟩,
     ⟨S64x1x8x8x64x128, broadcastInDim S64x1x8x8x64x128 ![0, 2, 3, 4, 5] bcast_S64x8x8x64x128_S64x1x8x8x64x128_0_2_3_4_5
      (shapeCast S64x8x8x64x128 (Host.reverse [0] (extractStridedSlice S64x1x8x8x64x128 ![0, 1, 0, 0, 0, 0] y slices_S64x2x8x8x64x128_S64x1x8x8x64x128_0_1_0_0_0_0))
        shapeCasts_S64x1x8x8x64x128_S64x8x8x64x128)⟩]
    concatenates_S64x1x8x8x64x128_S64x1x8x8x64x128_S64x2x8x8x64x128_d1

/-- The same for the chunk products. -/
def turnQ (y : FVec Ideal S64x2x8x8x64x64 .f32) : FVec Ideal S64x2x8x8x64x64 .f32 :=
  concatenate S64x2x8x8x64x64 1
    [⟨S64x1x8x8x64x64, broadcastInDim S64x1x8x8x64x64 ![0, 2, 3, 4, 5] bcast_S64x8x8x64x64_S64x1x8x8x64x64_0_2_3_4_5
      (shapeCast S64x8x8x64x64 (extractStridedSlice S64x1x8x8x64x64 ![0, 0, 0, 0, 0, 0] y slices_S64x2x8x8x64x64_S64x1x8x8x64x64_0_0_0_0_0_0)
        shapeCasts_S64x1x8x8x64x64_S64x8x8x64x64)⟩,
     ⟨S64x1x8x8x64x64, broadcastInDim S64x1x8x8x64x64 ![0, 2, 3, 4, 5] bcast_S64x8x8x64x64_S64x1x8x8x64x64_0_2_3_4_5
      (shapeCast S64x8x8x64x64 (Host.reverse [0] (extractStridedSlice S64x1x8x8x64x64 ![0, 1, 0, 0, 0, 0] y slices_S64x2x8x8x64x64_S64x1x8x8x64x64_0_1_0_0_0_0))
        shapeCasts_S64x1x8x8x64x64_S64x8x8x64x64)⟩]
    concatenates_S64x1x8x8x64x64_S64x1x8x8x64x64_S64x2x8x8x64x64_d1

/-- The same for the decays. -/
def turnE (y : FVec Ideal S64x2x8x8x1x128 .f32) : FVec Ideal S64x2x8x8x1x128 .f32 :=
  concatenate S64x2x8x8x1x128 1
    [⟨S64x1x8x8x1x128, broadcastInDim S64x1x8x8x1x128 ![0, 2, 3, 4, 5] bcast_S64x8x8x1x128_S64x1x8x8x1x128_0_2_3_4_5
      (shapeCast S64x8x8x1x128 (extractStridedSlice S64x1x8x8x1x128 ![0, 0, 0, 0, 0, 0] y slices_S64x2x8x8x1x128_S64x1x8x8x1x128_0_0_0_0_0_0)
        shapeCasts_S64x1x8x8x1x128_S64x8x8x1x128)⟩,
     ⟨S64x1x8x8x1x128, broadcastInDim S64x1x8x8x1x128 ![0, 2, 3, 4, 5] bcast_S64x8x8x1x128_S64x1x8x8x1x128_0_2_3_4_5
      (shapeCast S64x8x8x1x128 (Host.reverse [0] (extractStridedSlice S64x1x8x8x1x128 ![0, 1, 0, 0, 0, 0] y slices_S64x2x8x8x1x128_S64x1x8x8x1x128_0_1_0_0_0_0))
        shapeCasts_S64x1x8x8x1x128_S64x8x8x1x128)⟩]
    concatenates_S64x1x8x8x1x128_S64x1x8x8x1x128_S64x2x8x8x1x128_d1

/-- Chunk by chunk, a full width array, the chunk products and the decays. -/
def stackW (a : FVec Ideal S2x8x4096x1024 .f32) : FVec Ideal S64x2x8x8x64x128 .f32 :=
  turnW (transpose S64x2x8x8x64x128 [2, 0, 1, 4, 3, 5] (shapeCast S2x8x64x64x8x128 a shapeCasts_S2x8x4096x1024_S2x8x64x64x8x128)
    transposes_S2x8x64x64x8x128_S64x2x8x8x64x128_2_0_1_4_3_5)
def stackQ (a : FVec Ideal S2x8x8x4096x64 .f32) : FVec Ideal S64x2x8x8x64x64 .f32 :=
  turnQ (transpose S64x2x8x8x64x64 [3, 0, 1, 2, 4, 5] (shapeCast S2x8x8x64x64x64 a shapeCasts_S2x8x8x4096x64_S2x8x8x64x64x64)
    transposes_S2x8x8x64x64x64_S64x2x8x8x64x64_3_0_1_2_4_5)
def stackE (a : FVec Ideal S2x8x8x64x1x128 .f32) : FVec Ideal S64x2x8x8x1x128 .f32 :=
  turnE (transpose S64x2x8x8x1x128 [3, 0, 1, 2, 4, 5] a transposes_S2x8x8x64x1x128_S64x2x8x8x1x128_3_0_1_2_4_5)

theorem turnW_at (y : FVec Ideal S64x2x8x8x64x128 .f32) (n : Fin 64) (x : Fin 2) (b h : Fin 8) (i : Fin 64) (e : Fin 128) :
    turnW y (ix6 n x b h i e) = y (ix6 (visit x n) x b h i e) := by
  pointwise [turnW, visit]
  by_cases hx : x.val = 0
  · obtain rfl : x = 0 := Fin.ext hx
    rfl
  · obtain rfl : x = 1 := Fin.ext (by have := x.isLt; show x.val = 1; omega)
    rfl
theorem turnQ_at (y : FVec Ideal S64x2x8x8x64x64 .f32) (n : Fin 64) (x : Fin 2) (b h : Fin 8) (i e : Fin 64) :
    turnQ y (ix6 n x b h i e) = y (ix6 (visit x n) x b h i e) := by
  pointwise [turnQ, visit]
  by_cases hx : x.val = 0
  · obtain rfl : x = 0 := Fin.ext hx
    rfl
  · obtain rfl : x = 1 := Fin.ext (by have := x.isLt; show x.val = 1; omega)
    rfl
theorem turnE_at (y : FVec Ideal S64x2x8x8x1x128 .f32) (n : Fin 64) (x : Fin 2) (b h : Fin 8) (e : Fin 128) :
    turnE y (ix6 n x b h 0 e) = y (ix6 (visit x n) x b h 0 e) := by
  pointwise [turnE, visit]
  by_cases hx : x.val = 0
  · obtain rfl : x = 0 := Fin.ext hx
    rfl
  · obtain rfl : x = 1 := Fin.ext (by have := x.isLt; show x.val = 1; omega)
    rfl
theorem stackW_at (a : FVec Ideal S2x8x4096x1024 .f32) (n : Fin 64) (x : Fin 2) (b h : Fin 8) (i : Fin 64) (e : Fin 128) :
    stackW a (ix6 n x b h i e) = wide a n x b h i e := by
  unfold stackW
  rw [turnW_at]
  pointwise [wide]
  exact congrArg a (congrArg₂ (ix4 x b) (Fin.ext (congrArg (· + _) (Nat.mul_comm _ _))) (Fin.ext (congrArg (· + _) (Nat.mul_comm _ _))))
theorem stackQ_at (a : FVec Ideal S2x8x8x4096x64 .f32) (n : Fin 64) (x : Fin 2) (b h : Fin 8) (i e : Fin 64) :
    stackQ a (ix6 n x b h i e) = narrow a n x b h i e := by
  unfold stackQ
  rw [turnQ_at]
  pointwise [narrow]
  exact congrArg (fun z => a (ix5 x b h z e)) (Fin.ext (congrArg (· + _) (Nat.mul_comm _ _)))
theorem stackE_at (a : FVec Ideal S2x8x8x64x1x128 .f32) (n : Fin 64) (x : Fin 2) (b h : Fin 8) (e : Fin 128) :
    stackE a (ix6 n x b h 0 e) = decay a n x b h e := by
  unfold stackE
  rw [turnE_at]
  pointwise [decay]

variable (m : (ℓ : Loc nD τ sig) → Buf (Elt Ideal) ℓ) (c : Dev nD)

/-- What the loop starts from. -/
structure Entry (V : Valuation τ sig (Elt Ideal)) : Prop where
  u : V (Proc.devRef .tc main_v65_0) = stackW (m ((c : Thread nD τ).loc main_arg0))
  w : V (Proc.devRef .tc main_v65_1) = stackW (extf .f32 (m ((c : Thread nD τ).loc main_arg1)) bitsLt_bf16_f32)
  qk : V (Proc.devRef .tc main_v65_2) = stackQ (extf .f32 (m ((c : Thread nD τ).loc main_arg2)) bitsLt_bf16_f32)
  qg : V (Proc.devRef .tc main_v65_3) = stackW (extf .f32 (m ((c : Thread nD τ).loc main_arg3)) bitsLt_bf16_f32)
  kg : V (Proc.devRef .tc main_v65_4) = stackW (extf .f32 (m ((c : Thread nD τ).loc main_arg4)) bitsLt_bf16_f32)
  eg : V (Proc.devRef .tc main_v65_5) = stackE (m ((c : Thread nD τ).loc main_arg5))

set_option maxRecDepth 65536 in
set_option maxHeartbeats 400000 in
theorem entry : Entry m c (entryContents preI m c) := by
  constructor <;> (simp only [entryContents, afterL_cons, afterL_nil]; after_reads_simp) <;> rfl

set_option maxRecDepth 65536 in
set_option maxHeartbeats 400000 in
theorem entry_j : entryContents preI m c (Proc.devRef .tc main_v65_6) = constantI S_ 32 (BitVec.ofNat 32 0) := by
  simp only [entryContents, afterL_cons, afterL_nil]
  after_reads_simp <;> rfl
set_option maxRecDepth 65536 in
set_option maxHeartbeats 400000 in
theorem entry_s : entryContents preI m c (Proc.devRef .tc main_v65_7)
    = broadcastInDim S2x8x8x128x128 ![] bcast_S_S2x8x8x128x128 (constant (F := Ideal) S_ .f32 0x00000000#32) := by
  simp only [entryContents, afterL_cons, afterL_nil]
  after_reads_simp <;> rfl

/-- What holds after `j` passes: the operands as at the start, the count, the state, and the outputs of the passes made. -/
structure After (j : ℕ) (V : Valuation τ sig (Elt Ideal)) : Prop where
  fixed : Entry m c V
  count : V (Proc.devRef .tc main_v65_6) = constantI S_ 32 (BitVec.ofNat 32 j)
  carried : ∀ (x : Fin 2) (b h : Fin 8) (d e : Fin 128), V (Proc.devRef .tc main_v65_7) (ix5 x b h d e : S2x8x8x128x128.Idx)
    = state (m ((c : Thread nD τ).loc main_arg0)) (m ((c : Thread nD τ).loc main_arg1)) (m ((c : Thread nD τ).loc main_arg4))
        (m ((c : Thread nD τ).loc main_arg5)) x b h j d e
  written : ∀ (n : Fin 64), n.val < j → ∀ (x : Fin 2) (b h : Fin 8) (i : Fin 64) (e : Fin 128),
    V (Proc.devRef .tc main_v65_8) (ix6 n x b h i e : S64x2x8x8x64x128.Idx)
      = output (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n x b h i e

theorem after_zero : After m c 0 (entryContents preI m c) where
  fixed := entry m c
  count := entry_j m c
  carried x b h d e := by
    rw [entry_s m c]
    pointwise [state]
  written n hn := absurd hn (Nat.not_lt_zero _)

theorem after_succ (j : ℕ) (hj : j < 64) (V : Valuation τ sig (Elt Ideal)) (H : After m c j V) : After m c (j + 1) (STEP V) where
  fixed :=
    { u := (STEP_main_v65_0 V).trans H.fixed.u, w := (STEP_main_v65_1 V).trans H.fixed.w, qk := (STEP_main_v65_2 V).trans H.fixed.qk
      qg := (STEP_main_v65_3 V).trans H.fixed.qg, kg := (STEP_main_v65_4 V).trans H.fixed.kg, eg := (STEP_main_v65_5 V).trans H.fixed.eg }
  count := (STEP_main_v65_6 V).trans (step_j j H.count)
  carried x b h d e := by
    rw [STEP_main_v65_7 V, step_s j H.count, H.fixed.u, H.fixed.w, H.fixed.kg, H.fixed.eg, state_succ _ _ _ _ _ _ _ _ hj]
    refine (newS_at j hj _ _ _ _ x b h d e).trans ?_
    simp only [newV_at j hj, stackW_at, stackE_at, H.carried]
    rfl
  written n hn x b h i e := by
    rw [STEP_main_v65_8 V, step_o j H.count, H.fixed.u, H.fixed.w, H.fixed.qk, H.fixed.qg]
    refine (putO_at j hj _ _ n x b h i e).trans ?_
    by_cases hnj : n.val = j
    · rw [if_pos hnj]
      obtain rfl : n = ⟨j, hj⟩ := Fin.ext hnj
      refine (newO_at j hj _ _ _ _ x b h i e).trans ?_
      simp only [newV_at j hj, stackW_at, stackQ_at, H.carried]
      rfl
    · rw [if_neg hnj]
      exact H.written n (by omega) x b h i e

theorem after_all : ∀ j : ℕ, j ≤ 64 → After m c j (STEP^[j] (entryContents preI m c))
  | 0, _ => after_zero m c
  | j + 1, hj => by
    rw [Function.iterate_succ_apply']
    exact after_succ m c j (by omega) _ (after_all j (by omega))

/-- The reference's results, entry by entry. -/
theorem forward_at (b : Fin 8) (t : Fin 4096) (q : Fin 1024) :
    out_main_v69 (STEP^[64] (entryContents preI m c)) (ix3 b t q : S8x4096x1024.Idx)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) 0 b t q := by
  have H := after_all m c 64 le_rfl
  generalize STEP^[64] (entryContents preI m c) = V at H
  unfold out_main_v69
  pointwise
  exact H.written _ (Fin.isLt _) _ _ _ _ _
theorem backward_at (b : Fin 8) (t : Fin 4096) (q : Fin 1024) :
    out_main_v74 (STEP^[64] (entryContents preI m c)) (ix3 b t q : S8x4096x1024.Idx)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) 1 b t q := by
  have H := after_all m c 64 le_rfl
  generalize STEP^[64] (entryContents preI m c) = V at H
  unfold out_main_v74
  pointwise
  exact H.written _ (Fin.isLt _) _ _ _ _ _

end Cert.ScanRefIdeal.Loop

end
-- ==== Proof.ScanPlace.lean ====
/-
  The recurrence's kernel, point by point: where its blocks sit, and the names its arguments go by below.
-/
module

public import proofs.«01_k».proof.Proof.Gen.ScanIdeal.Frame
public import proofs.«01_k».proof.Proof.ScanMath
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ScanIdeal.Tiles

open Cert.ScanIdeal Cert.ScanIdeal.Gen

variable (m : (ℓ : Loc nD τ sig) → Buf (Elt Ideal) ℓ)

open Cert.ScanMath

/-- The backward windows' chunk runs down while the pass runs up. -/
theorem visit_fore (x : Fin 2) (n : Fin 64) (hx : x.val = 0) : (visit x n).val = n.val := by
  unfold visit; rw [if_pos hx]

theorem visit_back (x : Fin 2) (n : Fin 64) (hx : x.val = 1) : (visit x n).val = 63 - n.val := by
  unfold visit; rw [if_neg (by omega), Fin.val_rev]; omega

/-- Where each window's block sits at grid point `t`: batch `t / 64`, pass `t % 64`. -/
theorem place_fore : ∀ t : Fin cfg0.N,
    (win0_0.index t 0 = 0 ∧ win0_0.index t 1 = t.val / 64 ∧ win0_0.index t 2 = t.val % 64 ∧ win0_0.index t 3 = 0)
    ∧ (win0_1.index t 0 = 0 ∧ win0_1.index t 1 = t.val / 64 ∧ win0_1.index t 2 = t.val % 64 ∧ win0_1.index t 3 = 0)
    ∧ (win0_2.index t 0 = 0 ∧ win0_2.index t 1 = t.val / 64 ∧ win0_2.index t 2 = 0 ∧ win0_2.index t 3 = t.val % 64 ∧ win0_2.index t 4 = 0)
    ∧ (win0_3.index t 0 = 0 ∧ win0_3.index t 1 = t.val / 64 ∧ win0_3.index t 2 = t.val % 64 ∧ win0_3.index t 3 = 0)
    ∧ (win0_4.index t 0 = 0 ∧ win0_4.index t 1 = t.val / 64 ∧ win0_4.index t 2 = t.val % 64 ∧ win0_4.index t 3 = 0)
    ∧ (win0_5.index t 0 = 0 ∧ win0_5.index t 1 = t.val / 64 ∧ win0_5.index t 2 = 0 ∧ win0_5.index t 3 = t.val % 64
        ∧ win0_5.index t 4 = 0 ∧ win0_5.index t 5 = 0)
    ∧ (win0_12.index t 0 = t.val / 64 ∧ win0_12.index t 1 = t.val % 64 ∧ win0_12.index t 2 = 0) :=
  (by decide +kernel : ∀ t : Fin grid0.N, _)

theorem place_back : ∀ t : Fin cfg0.N,
    (win0_6.index t 0 = 1 ∧ win0_6.index t 1 = t.val / 64 ∧ win0_6.index t 2 = 63 - t.val % 64 ∧ win0_6.index t 3 = 0)
    ∧ (win0_7.index t 0 = 1 ∧ win0_7.index t 1 = t.val / 64 ∧ win0_7.index t 2 = 63 - t.val % 64 ∧ win0_7.index t 3 = 0)
    ∧ (win0_8.index t 0 = 1 ∧ win0_8.index t 1 = t.val / 64 ∧ win0_8.index t 2 = 0 ∧ win0_8.index t 3 = 63 - t.val % 64 ∧ win0_8.index t 4 = 0)
    ∧ (win0_9.index t 0 = 1 ∧ win0_9.index t 1 = t.val / 64 ∧ win0_9.index t 2 = 63 - t.val % 64 ∧ win0_9.index t 3 = 0)
    ∧ (win0_10.index t 0 = 1 ∧ win0_10.index t 1 = t.val / 64 ∧ win0_10.index t 2 = 63 - t.val % 64 ∧ win0_10.index t 3 = 0)
    ∧ (win0_11.index t 0 = 1 ∧ win0_11.index t 1 = t.val / 64 ∧ win0_11.index t 2 = 0 ∧ win0_11.index t 3 = 63 - t.val % 64
        ∧ win0_11.index t 4 = 0 ∧ win0_11.index t 5 = 0)
    ∧ (win0_13.index t 0 = t.val / 64 ∧ win0_13.index t 1 = 63 - t.val % 64 ∧ win0_13.index t 2 = 0) :=
  (by decide +kernel : ∀ t : Fin grid0.N, _)

theorem N_eq : cfg0.N = 512 := by decide +kernel

/-- The batch and the pass of a grid point. -/
def batch (t : Fin cfg0.N) : Fin 8 := ⟨t.val / 64, by have := lt_of_lt_of_eq t.isLt N_eq; omega⟩
def pass (t : Fin cfg0.N) : Fin 64 := ⟨t.val % 64, by omega⟩

abbrev arg0 (c : Dev nD) : Wide := m ((c : Thread nD τ).loc main_arg0)
abbrev arg1 (c : Dev nD) : Wide := m ((c : Thread nD τ).loc main_arg1)
abbrev arg2 (c : Dev nD) : Narrow := m ((c : Thread nD τ).loc main_arg2)
abbrev arg3 (c : Dev nD) : Wide := m ((c : Thread nD τ).loc main_arg3)
abbrev arg4 (c : Dev nD) : Wide := m ((c : Thread nD τ).loc main_arg4)
abbrev arg5 (c : Dev nD) : Decay := m ((c : Thread nD τ).loc main_arg5)

/-- One head's part of the carried states. -/
abbrev part (P : S2x8x128x128.Idx → EReal) (x : Fin 2) (h : Fin 8) (d e : Fin 128) : EReal := P (ix4 x h d e)

/-- Reading the carried states back gives what was put there. -/
theorem carried (P : Vec Ideal S2x8x128x128 .f32) :
    View.read (Elt Ideal) (View.whole cc0_scratch0) ((Memref.isWhole_whole cc0_scratch0).unread P) = P :=
  (Memref.isWhole_whole cc0_scratch0).read_unread P

end Cert.ScanIdeal.Tiles

end
-- ==== Proof.ScanStateA.lean ====
/-
  The states the first pass of a batch leaves.
-/
module

public import proofs.«01_k».proof.Proof.Gen.ScanIdeal.Frame
public import proofs.«01_k».proof.Proof.ScanPlace
public import Idealize.ShloMosaic.Lib.Pipeline.ReadBack
public import Idealize.ShloMosaic.Lib.Pipeline.ValueKit
public import Idealize.ShloMosaic.Lib.Claim
public import Idealize.ShloMosaic.Lib.Pointwise

@[expose] public section

set_option maxHeartbeats 4000000
set_option maxRecDepth 16384

noncomputable section

open Idealize.ShloMosaic Idealize.ShloMosaic.TcCoe Idealize.SL.Sem
open Idealize.ShloMosaic.Pipeline (Dat)

namespace Cert.ScanIdeal.Tiles

open Cert.ScanIdeal Cert.ScanIdeal.Gen

variable (m : (ℓ : Loc nD τ sig) → Buf (Elt Ideal) ℓ)

open Cert.ScanMath

/-- An earlier store does not show where later stores lie over it. -/
theorem canon_under {S : Shape} {e : EltTy} (q : View.Piece (Elt Ideal) S e) : ∀ (L : List (View.Piece (Elt Ideal) S e)) (y : S.Idx),
    (∃ p ∈ L, y ∈ p.1.set) → View.canon (L ++ [q]) y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨r, hr, hy⟩ := hy
      rcases List.mem_cons.mp hr with rfl | hr
      · exact absurd hy hm
      · exact canon_under q L y ⟨r, hr, hy⟩

/-- The states the first pass of a batch leaves: the kernel first fills them with its zero. -/
theorem state_A (c : Dev nD) (t : Fin cfg0.N) (h0 : t.val % 64 = 0) (y : S2x8x128x128.Idx)
    (a : Fin 2) (b : Fin 8) (d e : Fin 128) (ha : (y 0 : ℕ) = a) (hb : (y 1 : ℕ) = b) (hd : (y 2 : ℕ) = d) (he : (y 3 : ℕ) = e) :
    (outsAt0 m c t.val t.isLt).2.2 y
      = advance (arg0 m c) (arg1 m c) (arg4 m c) (arg5 m c) (pass t) a (batch t) b
          (part (k0_pay2 (F := Ideal) : S2x8x128x128.Idx → EReal) a b) d e := by
  rw [outsAt0_A m c t h0]; frame_out
  refine Eq.trans (canon_under _ [_, _, _, _, _, _, _, _, _, _, _, _, _, _, _, _] y ?_) ?_
  · exact View.cover_of_tiledL (_ : List (View.Piece (Elt Ideal) S2x8x128x128 .f32)) S1x1x128x128.size (by sl_kernel_rfl) y
  simp (disch := decide) only [↓View.readCov_skip, ↓View.readCov_fill]
  generalize (k0_pay2 (F := Ideal) : S2x8x128x128.Idx → EReal) = P
  unfold advance fresh wide decay row lane
  canon_tiles x h
  iterate 8
    focus
      open_payloads; pointwise
      have hv := visit_back a (pass t) (by omega)
      generalize visit a (pass t) = v at hv ⊢
      unfold pass at hv; unfold batch
      dsimp only at hv
      blk_point [iblk, V_main_arg0 m c, V_main_arg1 m c, V_main_arg2 m c, V_main_arg3 m c, V_main_arg4 m c, V_main_arg5 m c, place_back t, part]
      all_goals (refine congrArg₂ (· * ·) ?_ ?_ <;> first | rfl | blk_ext)
  all_goals
    open_payloads; pointwise
    have hv := visit_fore a (pass t) (by omega)
    generalize visit a (pass t) = v at hv ⊢
    unfold pass at hv; unfold batch
    dsimp only at hv
    blk_point [iblk, V_main_arg0 m c, V_main_arg1 m c, V_main_arg2 m c, V_main_arg3 m c, V_main_arg4 m c, V_main_arg5 m c, place_fore t, part]
    all_goals (refine congrArg₂ (· * ·) ?_ ?_ <;> first | rfl | blk_ext)

end Cert.ScanIdeal.Tiles

end
-- ==== Proof.ScanStateB.lean ====
/-
  The states a later pass of a batch leaves.
-/
module

public import proofs.«01_k».proof.Proof.Gen.ScanIdeal.Frame
public import proofs.«01_k».proof.Proof.ScanPlace
public import Idealize.ShloMosaic.Lib.Pipeline.ValueKit
public import Idealize.ShloMosaic.Lib.Claim
public import Idealize.ShloMosaic.Lib.Pointwise

@[expose] public section

set_option maxHeartbeats 4000000
set_option maxRecDepth 16384

noncomputable section

open Idealize.ShloMosaic Idealize.ShloMosaic.TcCoe Idealize.SL.Sem
open Idealize.ShloMosaic.Pipeline (Dat)

namespace Cert.ScanIdeal.Tiles

open Cert.ScanIdeal Cert.ScanIdeal.Gen

variable (m : (ℓ : Loc nD τ sig) → Buf (Elt Ideal) ℓ)

open Cert.ScanMath

/-- The states a later pass leaves, from the states before it. -/
theorem state_B (c : Dev nD) (t : Fin cfg0.N) (h0 : ¬t.val % 64 = 0) (y : S2x8x128x128.Idx)
    (a : Fin 2) (b : Fin 8) (d e : Fin 128) (ha : (y 0 : ℕ) = a) (hb : (y 1 : ℕ) = b) (hd : (y 2 : ℕ) = d) (he : (y 3 : ℕ) = e) :
    (outsAt0 m c t.val t.isLt).2.2 y
      = advance (arg0 m c) (arg1 m c) (arg4 m c) (arg5 m c) (pass t) a (batch t) b
          (part (outsAt0 m c (t.val - 1) (Nat.lt_of_le_of_lt (Nat.sub_le _ _) t.isLt)).2.2 a b) d e := by
  rw [outsAt0_B m c t h0]; frame_out
  generalize (outsAt0 m c (t.val - 1) (Nat.lt_of_le_of_lt (Nat.sub_le _ _) t.isLt)).2.2 = P
  rw [carried P]
  unfold advance fresh wide decay row lane
  canon_tiles x h
  iterate 8
    focus
      open_payloads; pointwise
      have hv := visit_back a (pass t) (by omega)
      generalize visit a (pass t) = v at hv ⊢
      unfold pass at hv; unfold batch
      dsimp only at hv
      blk_point [iblk, V_main_arg0 m c, V_main_arg1 m c, V_main_arg2 m c, V_main_arg3 m c, V_main_arg4 m c, V_main_arg5 m c, place_back t, part]
      all_goals (refine congrArg₂ (· * ·) ?_ ?_ <;> first | rfl | blk_ext)
  all_goals
    open_payloads; pointwise
    have hv := visit_fore a (pass t) (by omega)
    generalize visit a (pass t) = v at hv ⊢
    unfold pass at hv; unfold batch
    dsimp only at hv
    blk_point [iblk, V_main_arg0 m c, V_main_arg1 m c, V_main_arg2 m c, V_main_arg3 m c, V_main_arg4 m c, V_main_arg5 m c, place_fore t, part]
    all_goals (refine congrArg₂ (· * ·) ?_ ?_ <;> first | rfl | blk_ext)

end Cert.ScanIdeal.Tiles

end
-- ==== Proof.ScanOutA.lean ====
/-
  The rows the first pass of a batch writes.
-/
module

public import proofs.«01_k».proof.Proof.Gen.ScanIdeal.Frame
public import proofs.«01_k».proof.Proof.ScanPlace
public import Idealize.ShloMosaic.Lib.Pipeline.ReadBack
public import Idealize.ShloMosaic.Lib.Pipeline.ValueKit
public import Idealize.ShloMosaic.Lib.Claim
public import Idealize.ShloMosaic.Lib.Pointwise

@[expose] public section

set_option maxHeartbeats 4000000
set_option maxRecDepth 16384

noncomputable section

open Idealize.ShloMosaic Idealize.ShloMosaic.TcCoe Idealize.SL.Sem
open Idealize.ShloMosaic.Pipeline (Dat)

namespace Cert.ScanIdeal.Tiles

open Cert.ScanIdeal Cert.ScanIdeal.Gen

variable (m : (ℓ : Loc nD τ sig) → Buf (Elt Ideal) ℓ)

open Cert.ScanMath

/-- The rows the first pass of a batch writes: direction 0. -/
theorem out_A_12 (c : Dev nD) (t : Fin cfg0.N) (h0 : t.val % 64 = 0) (y : S1x64x1024.Idx)
    (a : Fin 2) (ha : a.val = 0) (b : Fin 8) (i : Fin 64) (e : Fin 128) (hi : (y 1 : ℕ) = i) (he : (y 2 : ℕ) = 128 * b.val + e.val) :
    (outsAt0 m c t.val t.isLt).1 y
      = emit (arg0 m c) (arg1 m c) (arg2 m c) (arg3 m c) (pass t) a (batch t) b
          (part (k0_pay2 (F := Ideal) : S2x8x128x128.Idx → EReal) a b) i e := by
  rw [outsAt0_A m c t h0]; frame_out
  simp (disch := decide) only [↓View.readCov_skip, ↓View.readCov_fill]
  generalize (k0_pay2 (F := Ideal) : S2x8x128x128.Idx → EReal) = P
  unfold emit fresh wide narrow row lane
  have hv := visit_fore a (pass t) ha
  generalize visit a (pass t) = v at hv ⊢
  unfold pass at hv; unfold batch
  dsimp only at hv
  canon_tiles x h
  all_goals
    open_payloads; pointwise
    blk_point [iblk, V_main_arg0 m c, V_main_arg1 m c, V_main_arg2 m c, V_main_arg3 m c, V_main_arg4 m c, V_main_arg5 m c, place_fore t, part]
    all_goals (refine congrArg₂ (· * ·) ?_ ?_ <;> first | rfl | blk_ext)

/-- The rows the first pass of a batch writes: direction 1. -/
theorem out_A_13 (c : Dev nD) (t : Fin cfg0.N) (h0 : t.val % 64 = 0) (y : S1x64x1024.Idx)
    (a : Fin 2) (ha : a.val = 1) (b : Fin 8) (i : Fin 64) (e : Fin 128) (hi : (y 1 : ℕ) = i) (he : (y 2 : ℕ) = 128 * b.val + e.val) :
    (outsAt0 m c t.val t.isLt).2.1 y
      = emit (arg0 m c) (arg1 m c) (arg2 m c) (arg3 m c) (pass t) a (batch t) b
          (part (k0_pay2 (F := Ideal) : S2x8x128x128.Idx → EReal) a b) i e := by
  rw [outsAt0_A m c t h0]; frame_out
  simp (disch := decide) only [↓View.readCov_skip, ↓View.readCov_fill]
  generalize (k0_pay2 (F := Ideal) : S2x8x128x128.Idx → EReal) = P
  unfold emit fresh wide narrow row lane
  have hv := visit_back a (pass t) ha
  generalize visit a (pass t) = v at hv ⊢
  unfold pass at hv; unfold batch
  dsimp only at hv
  canon_tiles x h
  all_goals
    open_payloads; pointwise
    blk_point [iblk, V_main_arg0 m c, V_main_arg1 m c, V_main_arg2 m c, V_main_arg3 m c, V_main_arg4 m c, V_main_arg5 m c, place_back t, part]
    all_goals (refine congrArg₂ (· * ·) ?_ ?_ <;> first | rfl | blk_ext)

end Cert.ScanIdeal.Tiles

end
-- ==== Proof.ScanOutB.lean ====
/-
  The rows a later pass of a batch writes.
-/
module

public import proofs.«01_k».proof.Proof.Gen.ScanIdeal.Frame
public import proofs.«01_k».proof.Proof.ScanPlace
public import Idealize.ShloMosaic.Lib.Pipeline.ValueKit
public import Idealize.ShloMosaic.Lib.Claim
public import Idealize.ShloMosaic.Lib.Pointwise

@[expose] public section

set_option maxHeartbeats 4000000
set_option maxRecDepth 16384

noncomputable section

open Idealize.ShloMosaic Idealize.ShloMosaic.TcCoe Idealize.SL.Sem
open Idealize.ShloMosaic.Pipeline (Dat)

namespace Cert.ScanIdeal.Tiles

open Cert.ScanIdeal Cert.ScanIdeal.Gen

variable (m : (ℓ : Loc nD τ sig) → Buf (Elt Ideal) ℓ)

open Cert.ScanMath

/-- The rows a later pass writes, from the states before it: direction 0. -/
theorem out_B_12 (c : Dev nD) (t : Fin cfg0.N) (h0 : ¬t.val % 64 = 0) (y : S1x64x1024.Idx)
    (a : Fin 2) (ha : a.val = 0) (b : Fin 8) (i : Fin 64) (e : Fin 128) (hi : (y 1 : ℕ) = i) (he : (y 2 : ℕ) = 128 * b.val + e.val) :
    (outsAt0 m c t.val t.isLt).1 y
      = emit (arg0 m c) (arg1 m c) (arg2 m c) (arg3 m c) (pass t) a (batch t) b
          (part (outsAt0 m c (t.val - 1) (Nat.lt_of_le_of_lt (Nat.sub_le _ _) t.isLt)).2.2 a b) i e := by
  rw [outsAt0_B m c t h0]; frame_out
  generalize (outsAt0 m c (t.val - 1) (Nat.lt_of_le_of_lt (Nat.sub_le _ _) t.isLt)).2.2 = P
  rw [carried P]
  unfold emit fresh wide narrow row lane
  have hv := visit_fore a (pass t) ha
  generalize visit a (pass t) = v at hv ⊢
  unfold pass at hv; unfold batch
  dsimp only at hv
  canon_tiles x h
  all_goals
    open_payloads; pointwise
    blk_point [iblk, V_main_arg0 m c, V_main_arg1 m c, V_main_arg2 m c, V_main_arg3 m c, V_main_arg4 m c, V_main_arg5 m c, place_fore t, part]
    all_goals (refine congrArg₂ (· * ·) ?_ ?_ <;> first | rfl | blk_ext)

/-- The rows a later pass writes, from the states before it: direction 1. -/
theorem out_B_13 (c : Dev nD) (t : Fin cfg0.N) (h0 : ¬t.val % 64 = 0) (y : S1x64x1024.Idx)
    (a : Fin 2) (ha : a.val = 1) (b : Fin 8) (i : Fin 64) (e : Fin 128) (hi : (y 1 : ℕ) = i) (he : (y 2 : ℕ) = 128 * b.val + e.val) :
    (outsAt0 m c t.val t.isLt).2.1 y
      = emit (arg0 m c) (arg1 m c) (arg2 m c) (arg3 m c) (pass t) a (batch t) b
          (part (outsAt0 m c (t.val - 1) (Nat.lt_of_le_of_lt (Nat.sub_le _ _) t.isLt)).2.2 a b) i e := by
  rw [outsAt0_B m c t h0]; frame_out
  generalize (outsAt0 m c (t.val - 1) (Nat.lt_of_le_of_lt (Nat.sub_le _ _) t.isLt)).2.2 = P
  rw [carried P]
  unfold emit fresh wide narrow row lane
  have hv := visit_back a (pass t) ha
  generalize visit a (pass t) = v at hv ⊢
  unfold pass at hv; unfold batch
  dsimp only at hv
  canon_tiles x h
  all_goals
    open_payloads; pointwise
    blk_point [iblk, V_main_arg0 m c, V_main_arg1 m c, V_main_arg2 m c, V_main_arg3 m c, V_main_arg4 m c, V_main_arg5 m c, place_back t, part]
    all_goals (refine congrArg₂ (· * ·) ?_ ?_ <;> first | rfl | blk_ext)

end Cert.ScanIdeal.Tiles

end
-- ==== Proof.ScanTiles.lean ====
/-
  The recurrence's kernel: what its two result arrays end holding.  The states a point leaves are the recurrence's states
  after the point's pass, by induction over the points; the rows it writes are the recurrence's rows.
-/
module

public import proofs.«01_k».proof.Proof.ScanStateA
public import proofs.«01_k».proof.Proof.ScanStateB
public import proofs.«01_k».proof.Proof.ScanOutA
public import proofs.«01_k».proof.Proof.ScanOutB

@[expose] public section

set_option maxRecDepth 16384

noncomputable section

open Idealize.ShloMosaic Idealize.ShloMosaic.TcCoe Idealize.SL.Sem
open Idealize.ShloMosaic.Pipeline (Dat)

namespace Cert.ScanIdeal.Tiles

open Cert.ScanIdeal Cert.ScanIdeal.Gen

variable (m : (ℓ : Loc nD τ sig) → Buf (Elt Ideal) ℓ)

open Cert.ScanMath

/-- The fill of the carried states is zero. -/
theorem fill (a : Fin 2) (b : Fin 8) : part (k0_pay2 (F := Ideal) : S2x8x128x128.Idx → EReal) a b = fun _ _ => 0 := by
  funext d e
  show (k0_pay2 (F := Ideal)) (ix4 a b d e : S2x8x128x128.Idx) = 0
  pointwise [k0_pay2]

/-- The states point `n` leaves are those after its pass. -/
theorem states (c : Dev nD) (n : ℕ) (hn : n < cfg0.N) (a : Fin 2) (b : Fin 8) :
    part (outsAt0 m c n hn).2.2 a b
      = state (arg0 m c) (arg1 m c) (arg4 m c) (arg5 m c) a (batch ⟨n, hn⟩) b (n % 64 + 1) := by
  induction n using Nat.strong_induction_on with
  | _ n ih =>
    rw [state_succ _ _ _ _ a _ b (n % 64) (by omega)]
    funext d e
    by_cases h0 : n % 64 = 0
    · refine (state_A m c ⟨n, hn⟩ h0 (ix4 a b d e : S2x8x128x128.Idx) a b d e rfl rfl rfl rfl).trans ?_
      rw [fill a b]
      have hs : state (arg0 m c) (arg1 m c) (arg4 m c) (arg5 m c) a (batch ⟨n, hn⟩) b (n % 64) = fun _ _ => 0 := by rw [h0]; rfl
      rw [hs]; rfl
    · refine (state_B m c ⟨n, hn⟩ h0 (ix4 a b d e : S2x8x128x128.Idx) a b d e rfl rfl rfl rfl).trans ?_
      have hp : n - 1 < cfg0.N := by omega
      have hb : batch ⟨n - 1, hp⟩ = batch ⟨n, hn⟩ := Fin.ext (by show (n - 1) / 64 = n / 64; omega)
      have hq : (n - 1) % 64 + 1 = n % 64 := by omega
      have hs := ih (n - 1) (by omega) hp
      rw [hb, hq] at hs
      exact congrArg (fun s => advance (arg0 m c) (arg1 m c) (arg4 m c) (arg5 m c) (pass ⟨n, hn⟩) a (batch ⟨n, hn⟩) b s d e) hs

/-- The states before a later point's pass. -/
theorem before (c : Dev nD) (t : Fin cfg0.N) (h0 : ¬t.val % 64 = 0) (a : Fin 2) (b : Fin 8) :
    part (outsAt0 m c (t.val - 1) (Nat.lt_of_le_of_lt (Nat.sub_le _ _) t.isLt)).2.2 a b
      = state (arg0 m c) (arg1 m c) (arg4 m c) (arg5 m c) a (batch t) b (pass t).val := by
  have hs := states m c (t.val - 1) (Nat.lt_of_le_of_lt (Nat.sub_le _ _) t.isLt) a b
  have hb : batch ⟨t.val - 1, Nat.lt_of_le_of_lt (Nat.sub_le _ _) t.isLt⟩ = batch t :=
    Fin.ext (by show (t.val - 1) / 64 = t.val / 64; omega)
  have hq : (t.val - 1) % 64 + 1 = (pass t).val := by show _ = t.val % 64; omega
  rw [hb, hq] at hs
  exact hs

/-- The states before a first point's pass. -/
theorem before_first (c : Dev nD) (t : Fin cfg0.N) (h0 : t.val % 64 = 0) (a : Fin 2) (b : Fin 8) :
    part (k0_pay2 (F := Ideal) : S2x8x128x128.Idx → EReal) a b
      = state (arg0 m c) (arg1 m c) (arg4 m c) (arg5 m c) a (batch t) b (pass t).val := by
  have hq : (pass t).val = 0 := h0
  rw [fill a b, hq]; rfl

theorem rows_fore (c : Dev nD) (t : Fin cfg0.N) (y : S1x64x1024.Idx) (b : Fin 8) (i : Fin 64) (e : Fin 128)
    (hi : (y 1 : ℕ) = i) (he : (y 2 : ℕ) = 128 * b.val + e.val) :
    (outsAt0 m c t.val t.isLt).1 y
      = output (arg0 m c) (arg1 m c) (arg2 m c) (arg3 m c) (arg4 m c) (arg5 m c) (pass t) 0 (batch t) b i e := by
  unfold output
  by_cases h0 : t.val % 64 = 0
  · rw [← before_first m c t h0 0 b]
    exact out_A_12 m c t h0 y 0 rfl b i e hi he
  · rw [← before m c t h0 0 b]
    exact out_B_12 m c t h0 y 0 rfl b i e hi he

theorem rows_back (c : Dev nD) (t : Fin cfg0.N) (y : S1x64x1024.Idx) (b : Fin 8) (i : Fin 64) (e : Fin 128)
    (hi : (y 1 : ℕ) = i) (he : (y 2 : ℕ) = 128 * b.val + e.val) :
    (outsAt0 m c t.val t.isLt).2.1 y
      = output (arg0 m c) (arg1 m c) (arg2 m c) (arg3 m c) (arg4 m c) (arg5 m c) (pass t) 1 (batch t) b i e := by
  unfold output
  by_cases h0 : t.val % 64 = 0
  · rw [← before_first m c t h0 1 b]
    exact out_A_13 m c t h0 y 1 rfl b i e hi he
  · rw [← before m c t h0 1 b]
    exact out_B_13 m c t h0 y 1 rfl b i e hi he

/-- An entry of a result array, named by its pass, head, row and feature. -/
theorem result_at (u w : Wide) (qk : Narrow) (qg kg : Wide) (eg : Decay) (x : Fin 2) (b b' : Fin 8) (t : Fin 4096) (q : Fin 1024)
    (n : Fin 64) (h : Fin 8) (i : Fin 64) (e : Fin 128) (hb : b'.val = b.val) (ht : t.val = 64 * (visit x n).val + i.val)
    (hq : q.val = 128 * h.val + e.val) :
    result u w qk qg kg eg x b' t q = output u w qk qg kg eg n x b h i e := by
  have h0 : b' = b := Fin.ext hb
  have h1 : (⟨t.val / 64, by omega⟩ : Fin 64) = visit x n := Fin.ext (by show t.val / 64 = _; omega)
  have h2 : (⟨q.val / 128, by omega⟩ : Fin 8) = h := Fin.ext (by show q.val / 128 = _; omega)
  have h3 : (⟨t.val % 64, by omega⟩ : Fin 64) = i := Fin.ext (by show t.val % 64 = _; omega)
  have h4 : (⟨q.val % 128, by omega⟩ : Fin 128) = e := Fin.ext (by show q.val % 128 = _; omega)
  have h5 : visit x (visit x n) = n := by
    unfold visit
    by_cases hx : x.val = 0
    · rw [if_pos hx, if_pos hx]
    · rw [if_neg hx, if_neg hx, Fin.rev_rev]
  unfold result
  rw [h0, h1, h2, h3, h4, h5]

/-- The forward rows after the run. -/
theorem final_fore (c : Dev nD) : (dats m 0 c).arrAt 12 cfg0.N
    = fun i : S8x4096x1024.Idx => result (arg0 m c) (arg1 m c) (arg2 m c) (arg3 m c) (arg4 m c) (arg5 m c) 0 (i 0) (i 1) (i 2) := by
  refine (dats m 0 c).arrAt_eq_of_covers 12 _ (by decide +kernel) fun t _ y => ?_
  blk_simp
  rw [after0_12]
  have y1 : (y 1 : ℕ) < 64 := (y 1).isLt
  have y2 : (y 2 : ℕ) < 1024 := (y 2).isLt
  refine (rows_fore m c t y ⟨(y 2 : ℕ) / 128, by omega⟩ ⟨(y 1 : ℕ), y1⟩ ⟨(y 2 : ℕ) % 128, by omega⟩ rfl (by dsimp only; omega)).trans ?_
  refine (result_at _ _ _ _ _ _ _ _ _ _ _ _ _ _ _ ?_ ?_ ?_).symm
  · blk_simp [place_fore t, batch]
  · rw [visit_fore 0 (pass t) rfl]; blk_simp [place_fore t, pass]; dsimp only; omega
  · blk_simp [place_fore t]; dsimp only; omega

/-- The backward rows after the run. -/
theorem final_back (c : Dev nD) : (dats m 0 c).arrAt 13 cfg0.N
    = fun i : S8x4096x1024.Idx => result (arg0 m c) (arg1 m c) (arg2 m c) (arg3 m c) (arg4 m c) (arg5 m c) 1 (i 0) (i 1) (i 2) := by
  refine (dats m 0 c).arrAt_eq_of_covers 13 _ (by decide +kernel) fun t _ y => ?_
  blk_simp
  rw [after0_13]
  have y1 : (y 1 : ℕ) < 64 := (y 1).isLt
  have y2 : (y 2 : ℕ) < 1024 := (y 2).isLt
  refine (rows_back m c t y ⟨(y 2 : ℕ) / 128, by omega⟩ ⟨(y 1 : ℕ), y1⟩ ⟨(y 2 : ℕ) % 128, by omega⟩ rfl (by dsimp only; omega)).trans ?_
  refine (result_at _ _ _ _ _ _ _ _ _ _ _ _ _ _ _ ?_ ?_ ?_).symm
  · blk_simp [place_back t, batch]
  · rw [visit_back 1 (pass t) rfl]; blk_simp [place_back t, pass]; dsimp only; omega
  · blk_simp [place_back t]; dsimp only; omega

end Cert.ScanIdeal.Tiles

end
-- ==== Proof.ScanClaims.lean ====
/-
  The claims about the recurrence.
-/
module

public import proofs.«01_k».proof.Defs
public import proofs.«01_k».proof.Proof.ScanRead
public import proofs.«01_k».proof.Proof.ScanTiles
public import proofs.«01_k».proof.Proof.Gen.ScanIdeal.Value
public import Idealize.ShloMosaic.Lib.Quiescent

@[expose] public section

noncomputable section

open Idealize.ShloMosaic Idealize.ShloMosaic.TcCoe Idealize.SL.Sem

namespace Cert.Proof.Scan

/-- The reference's program leaves its arguments as they were and every semaphore at zero. -/
theorem reference_frame : quiescent_ScanRefIdeal (hScanRefIdeal := Cert.ScanRefIdeal.Gen.facts) :=
  fun m ρ _ => (θ_run Cert.ScanRefIdeal.defs _ _).mono
    (fun r h => ⟨fun c => (h c).2.2, Idealize.ShloMosaic.sem_eq_zero_of_no_sems (by decide) r.2⟩)
    (Cert.ScanRefIdeal.Value.run (F := Ideal) m ρ)

/-- A direction's rows, from the arguments in the kernel's memory. -/
def rowsK (m : (ℓ : Loc Cert.ScanIdeal.nD Cert.ScanIdeal.τ Cert.ScanIdeal.sig) → Buf (Elt Ideal) ℓ) (c : Dev Cert.ScanIdeal.nD) (x : Fin 2) :
    Cert.ScanIdeal.S8x4096x1024.Idx → EReal :=
  fun i => Cert.ScanMath.result (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) x (i 0) (i 1) (i 2)

/-- A direction's rows, from the arguments in the reference's memory. -/
def rowsR (m : (ℓ : Loc Cert.ScanRefIdeal.nD Cert.ScanRefIdeal.τ Cert.ScanRefIdeal.sig) → Buf (Elt Ideal) ℓ) (c : Dev Cert.ScanRefIdeal.nD) (x : Fin 2) :
    Cert.ScanRefIdeal.S8x4096x1024.Idx → EReal :=
  fun i => Cert.ScanMath.result (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) x (i 0) (i 1) (i 2)

/-- The kernel ends with both directions' rows. -/
theorem kernel_run (m : (ℓ : Loc Cert.ScanIdeal.nD Cert.ScanIdeal.τ Cert.ScanIdeal.sig) → Buf (Elt Ideal) ℓ) (g : Dev Cert.ScanIdeal.nD → PrngReg) :
    θ_run (Cert.ScanIdeal.defs (F := Ideal)) (onTc (τ := Cert.ScanIdeal.τ) (Cert.ScanIdeal.main (F := Ideal))) ⟨m, fun _ => 0, g⟩ (fun r => ∀ c : Dev Cert.ScanIdeal.nD,
      r.2.mem ((c.tc : Thread Cert.ScanIdeal.nD Cert.ScanIdeal.τ).loc Cert.ScanIdeal.main_v0_0) = rowsK m c 0
      ∧ r.2.mem ((c.tc : Thread Cert.ScanIdeal.nD Cert.ScanIdeal.τ).loc Cert.ScanIdeal.main_v0_1) = rowsK m c 1
      ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)) := by
  refine (θ_run Cert.ScanIdeal.defs _ _).mono (fun r h c => ?_) (Cert.ScanIdeal.Value.run_blocks m g)
  obtain ⟨h0, h1, hk⟩ := h c
  exact ⟨h0.trans (Cert.ScanIdeal.Tiles.final_fore m c), h1.trans (Cert.ScanIdeal.Tiles.final_back m c), hk⟩

/-- So does the reference. -/
theorem reference_run (m : (ℓ : Loc Cert.ScanRefIdeal.nD Cert.ScanRefIdeal.τ Cert.ScanRefIdeal.sig) → Buf (Elt Ideal) ℓ) (g : Dev Cert.ScanRefIdeal.nD → PrngReg) :
    θ_run (Cert.ScanRefIdeal.defs (F := Ideal)) (onTc (τ := Cert.ScanRefIdeal.τ) (Cert.ScanRefIdeal.main (F := Ideal))) ⟨m, fun _ => 0, g⟩ (fun r => ∀ c : Dev Cert.ScanRefIdeal.nD,
      r.2.mem ((c.tc : Thread Cert.ScanRefIdeal.nD Cert.ScanRefIdeal.τ).loc Cert.ScanRefIdeal.main_v69) = rowsR m c 0
      ∧ r.2.mem ((c.tc : Thread Cert.ScanRefIdeal.nD Cert.ScanRefIdeal.τ).loc Cert.ScanRefIdeal.main_v74) = rowsR m c 1
      ∧ r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)) := by
  refine (θ_run Cert.ScanRefIdeal.defs _ _).mono (fun r h c => ?_) (Cert.ScanRefIdeal.Value.run (F := Ideal) m g)
  obtain ⟨h0, h1, hk⟩ := h c
  refine ⟨h0.trans (funext fun i => ?_), h1.trans (funext fun i => ?_), hk⟩
  · rw [eq_ix3 i]; exact Cert.ScanRefIdeal.Loop.forward_at m c (i 0) (i 1) (i 2)
  · rw [eq_ix3 i]; exact Cert.ScanRefIdeal.Loop.backward_at m c (i 0) (i 1) (i 2)

/-- Both result arrays hold what the reference's recurrence gives. -/
theorem value : algebraic_ScanIdeal_ScanRefIdeal (hScanIdeal := Cert.ScanIdeal.Gen.facts) (hScanRefIdeal := Cert.ScanRefIdeal.Gen.facts) := by
  intro m g m' g' _ hagree
  have hr : ∀ (c : Dev Cert.ScanIdeal.nD) (x : Fin 2), rowsR m' c x = rowsK m c x := by
    intro c x
    obtain ⟨h0, h1, h2, h3, h4, h5⟩ := hagree c
    unfold rowsR rowsK
    rw [h0, h1, h2, h3, h4, h5]
  refine ⟨fun c => rowsK m c 0, fun c => rowsK m c 1, kernel_run m g, ?_⟩
  refine (θ_run Cert.ScanRefIdeal.defs _ _).mono (fun r h c => ?_) (reference_run m' g')
  obtain ⟨h0, h1, hk⟩ := h c
  exact ⟨h0.trans (hr c 0), h1.trans (hr c 1), hk⟩

end Cert.Proof.Scan

end
-- ==== Proof.InTiles.lean ====
/-
  The input projection: what its result array ends holding.  The call multiplies the rounded hidden states by the weight
  with its columns put into another order and 96 zero columns appended, one 512 by 896 tile of the result per grid point;
  the reference multiplies by the weight as given and then puts the columns of the product into that order.
-/
module

public import proofs.«01_k».proof.Proof.Gen.InProjIdeal.Frame
public import proofs.«01_k».proof.Proof.Gen.InProjRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tiles

open Cert.InProjIdeal Cert.InProjIdeal.Gen

variable (m : (ℓ : Loc nD τ sig) → Buf (Elt Ideal) ℓ)

/-- The product with its columns rearranged, in the reference's own operations. -/
abbrev prod (x : FVec Ideal S32768x2048 .bf16) (w : FVec Ideal S2048x6176 .f32) : FVec Ideal S32768x6272 .f32 :=
  Cert.InProjRefIdeal.Read.val_main_v6 (F := Ideal) x w

/-- The weight's entry that column `q` of the rearranged weight holds: three runs of columns, then zeros. -/
def col (w : FVec Ideal S2048x6176 .f32) (k : Fin 2048) (q : Fin 6272) : EReal :=
  if h : q.val < 4096 then w (ix2 k ⟨q.val, by omega⟩)
  else if h : q.val < 6144 then w (ix2 k ⟨q.val + 32, by omega⟩)
  else if h : q.val < 6176 then w (ix2 k ⟨q.val - 2048, by omega⟩) else 0

/-- Where each window's block sits: the grid runs over seven column tiles, and over the 64 row tiles inside each. -/
theorem place : ∀ t : Fin cfg0.N, (win0_0.index t 0 = t.val % 64 ∧ win0_0.index t 1 = 0)
    ∧ (win0_1.index t 0 = 0 ∧ win0_1.index t 1 = t.val / 64)
    ∧ (win0_2.index t 0 = t.val % 64 ∧ win0_2.index t 1 = t.val / 64) :=
  (by decide +kernel : ∀ t : Fin grid0.N, _)

/-- The rearranged weight, in the kernel's own host operations: five runs of columns and the zeros beside one another. -/
abbrev cols (w : FVec Ideal S2048x6176 .f32) : FVec Ideal S2048x6272 .f32 :=
  concatenate S2048x6272 1
    [⟨S2048x3072, extractStridedSlice S2048x3072 ![0, 0] w slices_S2048x6176_S2048x3072_0_0⟩,
     ⟨S2048x1024, extractStridedSlice S2048x1024 ![0, 3072] w slices_S2048x6176_S2048x1024_0_3072⟩,
     ⟨S2048x1536, extractStridedSlice S2048x1536 ![0, 4128] w slices_S2048x6176_S2048x1536_0_4128⟩,
     ⟨S2048x512, extractStridedSlice S2048x512 ![0, 5664] w slices_S2048x6176_S2048x512_0_5664⟩,
     ⟨S2048x32, extractStridedSlice S2048x32 ![0, 4096] w slices_S2048x6176_S2048x32_0_4096⟩,
     ⟨S2048x96, broadcastInDim S2048x96 ![] bcast_S_S2048x96 (constant (F := Ideal) S_ .f32 0x00000000#32)⟩]
    concatenates_S2048x3072_S2048x1024_S2048x1536_S2048x512_S2048x32_S2048x96_S2048x6272_d1

/-- The region's weight operand, as the host line leaves it. -/
theorem operand (c : Dev nD) :
    V m c main_v7 = (cols (m ((c : Thread nD τ).loc main_arg1)) : S2048x6272.Idx → EReal) := by
  unfold V hostOps0
  simp only [StableHlo.after_cons, StableHlo.after_nil]
  rfl

/-- The rearranged weight as the region finds it. -/
theorem weight (c : Dev nD) (k : Fin 2048) (q : Fin 6272) :
    V m c main_v7 (ix2 k q : S2048x6272.Idx) = col (m ((c : Thread nD τ).loc main_arg1)) k q := by
  rw [operand m c]
  pointwise [cols]
  generalize m ((c : Thread nD τ).loc main_arg1) = w
  have hq := q.isLt
  have pick : ∀ a b : ℕ, ∀ (h : a < 6176) (h' : b < 6176), a = b → w (ix2 k ⟨a, h⟩) = w (ix2 k ⟨b, h'⟩) := by
    intro a b h h' e; subst e; rfl
  unfold col
  split
  · rw [dif_pos (by omega : q.val < 4096)]
  split
  · rw [dif_pos (by omega : q.val < 4096)]; exact pick _ _ _ _ (by omega)
  split
  · rw [dif_neg (by omega : ¬ q.val < 4096), dif_pos (by omega : q.val < 6144)]; exact pick _ _ _ _ (by omega)
  split
  · rw [dif_neg (by omega : ¬ q.val < 4096), dif_pos (by omega : q.val < 6144)]; exact pick _ _ _ _ (by omega)
  rw [dif_neg (by omega : ¬ q.val < 4096), dif_neg (by omega : ¬ q.val < 6144)]
  split
  · rw [dif_pos (by omega : q.val < 6176)]; exact pick _ _ _ _ (by omega)
  · rw [dif_neg (by omega : ¬ q.val < 6176)]

/-- The reference's entry is the contraction against the same column. -/
theorem prod_at (x : FVec Ideal S32768x2048 .bf16) (w : FVec Ideal S2048x6176 .f32) (r : Fin 32768) (q : Fin 6272) :
    prod x w (ix2 r q) = ∑ k : Fin 2048, (x (ix2 r k) : EReal) * col w k q := by
  pointwise [prod, Cert.InProjRefIdeal.Read.val_main_v6, Cert.InProjRefIdeal.Read.val_main_v5, Cert.InProjRefIdeal.Read.val_main_v4,
    Cert.InProjRefIdeal.Read.val_main_v3, Cert.InProjRefIdeal.Read.val_main_v2, Cert.InProjRefIdeal.Read.val_main_v1,
    Cert.InProjRefIdeal.Read.val_main_v0, Cert.InProjRefIdeal.Read.val_main_cst]
  have hq := q.isLt
  have pick : ∀ k k' : ℕ, ∀ (h : k < 6176) (h' : k' < 6176), k = k' → ∀ i : Fin 2048, w (ix2 i ⟨k, h⟩) = w (ix2 i ⟨k', h'⟩) := by
    intro k k' h h' e i; subst e; rfl
  by_cases h1 : q.val < 4096
  · rw [dif_pos h1]
    exact Finset.sum_congr rfl fun k _ => by unfold col; rw [dif_pos h1]
  rw [dif_neg h1]
  by_cases h2 : q.val - 4096 < 2048
  · rw [dif_pos h2]
    exact Finset.sum_congr rfl fun k _ => by
      unfold col; rw [dif_neg h1, dif_pos (by omega : q.val < 6144)]; exact congrArg _ (pick _ _ _ _ (by omega) k)
  rw [dif_neg h2]
  by_cases h3 : q.val - 4096 - 2048 < 32
  · rw [dif_pos h3]
    exact Finset.sum_congr rfl fun k _ => by
      unfold col; rw [dif_neg h1, dif_neg (by omega : ¬ q.val < 6144), dif_pos (by omega : q.val < 6176)]
      exact congrArg _ (pick _ _ _ _ (by omega) k)
  rw [dif_neg h3]
  exact (Finset.sum_eq_zero fun k _ => by
    unfold col; rw [dif_neg h1, dif_neg (by omega : ¬ q.val < 6144), dif_neg (by omega : ¬ q.val < 6176), mul_zero]).symm

/-- One tile's entry is the whole product's entry at the tile's place. -/
theorem tile (c : Dev nD) (t : Fin cfg0.N) (y : S512x896.Idx) :
    k0_pay1 (F := Ideal) (iblk m c 0 t) (iblk m c 1 t) y
      = prod (m ((c : Thread nD τ).loc main_arg0)) (m ((c : Thread nD τ).loc main_arg1)) (((cfg0.win 2).blk t).view.emb y) := by
  rw [eq_ix2 (((cfg0.win 2).blk t).view.emb y : S32768x6272.Idx)]
  refine Eq.trans ?_ (prod_at _ _ _ _).symm
  pointwise [k0_pay1]
  refine Finset.sum_congr rfl fun k _ => ?_
  refine Eq.trans ?_ (congrArg _ (weight m c k _))
  blk_point [iblk, V_main_arg0 m c, place t]

/-- The result array after the run is the whole product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

end Cert.InProjIdeal.Tiles

end
-- ==== Proof.InProjClaims.lean ====
/-
  The claims about the input projection.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.InTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.InProj

/-- The reference's program leaves its arguments as they were and every semaphore at zero. -/
theorem reference_frame : quiescent_InProjRefIdeal (hInProjRefIdeal := Cert.InProjRefIdeal.Gen.facts) :=
  fun m ρ _ => (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- Over the extended reals the call's result array is the reference's. -/
theorem value : algebraic_InProjIdeal_InProjRefIdeal (hInProjIdeal := Cert.InProjIdeal.Gen.facts) (hInProjRefIdeal := Cert.InProjRefIdeal.Gen.facts) := by
  pair_intro
  · run_from Cert.InProjIdeal.Gen.run_main m g
  · run_from Cert.InProjRefIdeal.Value.run m' g'
    exact (Cert.InProjIdeal.Tiles.final m c).symm

end Cert.Proof.InProj

end
-- ==== Proof.OutTiles.lean ====
/-
  The output projection: what its result array ends holding.  The call adds to one 512 by 512 tile of the residual stream the
  three products of the branches' rows with their own rows of the weight; the reference lays the three branches beside one
  another and multiplies once, so its one contraction is the sum of the kernel's three.
-/
module

public import proofs.«01_k».proof.Proof.Gen.OutProjIdeal.Frame
public import proofs.«01_k».proof.Proof.Gen.OutProjRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Tiles

open Cert.OutProjIdeal Cert.OutProjIdeal.Gen

variable (m : (ℓ : Loc nD τ sig) → Buf (Elt Ideal) ℓ)

/-- The residual stream after the mixing branches, in the reference's own operations. -/
abbrev whole (a : FVec Ideal S32768x1024 .bf16) (f h : FVec Ideal S8x4096x512 .bf16) (x : FVec Ideal S32768x2048 .f32)
    (w : FVec Ideal S2048x2048 .f32) : FVec Ideal S32768x2048 .f32 :=
  Cert.OutProjRefIdeal.Read.val_main_v5 (F := Ideal) a f h x w

/-- Where each window's block sits: the grid runs over four column tiles, and over the 64 row tiles inside each. -/
theorem place : ∀ t : Fin cfg0.N, (win0_0.index t 0 = t.val % 64 ∧ win0_0.index t 1 = 0)
    ∧ (win0_1.index t 0 = 0 ∧ win0_1.index t 1 = t.val / 64)
    ∧ (win0_2.index t 0 = t.val % 64 ∧ win0_2.index t 1 = 0)
    ∧ (win0_3.index t 0 = 0 ∧ win0_3.index t 1 = t.val / 64)
    ∧ (win0_4.index t 0 = t.val % 64 ∧ win0_4.index t 1 = 0)
    ∧ (win0_5.index t 0 = 0 ∧ win0_5.index t 1 = t.val / 64)
    ∧ (win0_6.index t 0 = t.val % 64 ∧ win0_6.index t 1 = t.val / 64)
    ∧ (win0_7.index t 0 = t.val % 64 ∧ win0_7.index t 1 = t.val / 64) :=
  (by decide +kernel : ∀ t : Fin grid0.N, _)

/-- A contraction over the joined axis is the sum of the three branches' contractions. -/
theorem split_sum (f : Fin 2048 → EReal) :
    ∑ x, f x = (∑ k : Fin 1024, f ⟨k.val, by omega⟩ + ∑ k : Fin 512, f ⟨1024 + k.val, by omega⟩)
      + ∑ k : Fin 512, f ⟨1536 + k.val, by omega⟩ := by
  refine (Fin.sum_univ_add (a := 1024 + 512) (b := 512) f).trans ?_
  exact congrArg₂ _ (Fin.sum_univ_add (a := 1024) (b := 512) _) rfl

/-- The attention branch's rows of the weight. -/
theorem rows0 (c : Dev nD) (k : Fin 1024) (q : Fin 2048) : V m c main_v1 (ix2 k q : S1024x2048.Idx)
    = m ((c : Thread nD τ).loc main_arg4) (ix2 ⟨k.val, by omega⟩ q : S2048x2048.Idx) := by
  entry_read
  pointwise
theorem rows1 (c : Dev nD) (k : Fin 512) (q : Fin 2048) : V m c main_v3 (ix2 k q : S512x2048.Idx)
    = m ((c : Thread nD τ).loc main_arg4) (ix2 ⟨1024 + k.val, by omega⟩ q : S2048x2048.Idx) := by
  entry_read
  pointwise
theorem rows2 (c : Dev nD) (k : Fin 512) (q : Fin 2048) : V m c main_v5 (ix2 k q : S512x2048.Idx)
    = m ((c : Thread nD τ).loc main_arg4) (ix2 ⟨1536 + k.val, by omega⟩ q : S2048x2048.Idx) := by
  entry_read
  pointwise
/-- The Fourier branch as the region finds it: the batch and time axes run together. -/
theorem flat1 (c : Dev nD) (r : Fin 32768) (k : Fin 512) : V m c main_v2 (ix2 r k : S32768x512.Idx)
    = m ((c : Thread nD τ).loc main_arg1) (ix3 ⟨r.val / 4096, by omega⟩ ⟨r.val % 4096, by omega⟩ k : S8x4096x512.Idx) := by
  entry_read
  pointwise
theorem flat2 (c : Dev nD) (r : Fin 32768) (k : Fin 512) : V m c main_v4 (ix2 r k : S32768x512.Idx)
    = m ((c : Thread nD τ).loc main_arg2) (ix3 ⟨r.val / 4096, by omega⟩ ⟨r.val % 4096, by omega⟩ k : S8x4096x512.Idx) := by
  entry_read
  pointwise

/-- The reference's entry: the residual plus one contraction per branch. -/
theorem whole_at (a : FVec Ideal S32768x1024 .bf16) (f h : FVec Ideal S8x4096x512 .bf16) (x : FVec Ideal S32768x2048 .f32)
    (w : FVec Ideal S2048x2048 .f32) (r : Fin 32768) (q : Fin 2048) :
    whole a f h x w (ix2 r q) = (x (ix2 r q) : EReal) +
      ((∑ k : Fin 1024, (a (ix2 r k) : EReal) * w (ix2 ⟨k.val, by omega⟩ q)
        + ∑ k : Fin 512, (f (ix3 ⟨r.val / 4096, by omega⟩ ⟨r.val % 4096, by omega⟩ k) : EReal) * w (ix2 ⟨1024 + k.val, by omega⟩ q))
        + ∑ k : Fin 512, (h (ix3 ⟨r.val / 4096, by omega⟩ ⟨r.val % 4096, by omega⟩ k) : EReal) * w (ix2 ⟨1536 + k.val, by omega⟩ q)) := by
  pointwise [whole, Cert.OutProjRefIdeal.Read.val_main_v5, Cert.OutProjRefIdeal.Read.val_main_v4,
    Cert.OutProjRefIdeal.Read.val_main_v3, Cert.OutProjRefIdeal.Read.val_main_v2, Cert.OutProjRefIdeal.Read.val_main_v1,
    Cert.OutProjRefIdeal.Read.val_main_v0]
  refine congrArg _ ((split_sum _).trans ?_)
  refine congrArg₂ _ (congrArg₂ _ ?_ ?_) ?_ <;> refine Finset.sum_congr rfl fun k _ => congrArg (· * _) ?_
  · exact dif_pos k.isLt
  · refine (dif_neg (by simp)).trans ((dif_pos (by simp)).trans ?_)
    exact congrArg (fun z => f (ix3 _ _ z)) (Fin.ext (by simp))
  · refine (dif_neg (by simp; omega)).trans ((dif_neg (by simp; omega)).trans ?_)
    exact congrArg (fun z => h (ix3 _ _ z)) (Fin.ext (by simp; omega))

/-- One tile's entry is the whole result's entry at the tile's place. -/
theorem tile (c : Dev nD) (t : Fin cfg0.N) (y : S512x512.Idx) :
    k0_pay1 (F := Ideal) (iblk m c 0 t) (iblk m c 1 t) (iblk m c 2 t) (iblk m c 3 t) (iblk m c 4 t) (iblk m c 5 t) (iblk m c 6 t) y
      = whole (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 7).blk t).view.emb y) := by
  rw [eq_ix2 (((cfg0.win 7).blk t).view.emb y : S32768x2048.Idx)]
  refine Eq.trans ?_ (whole_at _ _ _ _ _ _ _).symm
  pointwise [k0_pay1]
  refine (add_comm _ _).trans (congrArg₂ _ ?_ ?_)
  · blk_point [iblk, V_main_arg3 m c, place t]
  refine congrArg₂ _ (congrArg₂ _ ?_ ?_) ?_ <;> refine Finset.sum_congr rfl fun k _ => ?_
  · refine Eq.trans ?_ (congrArg _ (rows0 m c k _))
    blk_point [iblk, V_main_arg0 m c, place t]
  · refine Eq.trans ?_ (congrArg₂ _ (flat1 m c _ k) (rows1 m c k _))
    blk_point [iblk, place t]
  · refine Eq.trans ?_ (congrArg₂ _ (flat2 m c _ k) (rows2 m c k _))
    blk_point [iblk, place t]

/-- The result array after the last grid point is the reference's result. -/
theorem final (c : Dev nD) : (dats m 0 c).arrAt 7 cfg0.N
    = whole (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) fun t _ y => ?_
  blk_simp
  rw [after0_7]
  frame_out
  exact tile m c t y

end Cert.OutProjIdeal.Tiles
-- ==== Proof.OutProjClaims.lean ====
/-
  The claims about the output projection.
-/
module

public import proofs.«01_k».proof.Defs
public import proofs.«01_k».proof.Proof.Gen.OutProj.Frame
public import proofs.«01_k».proof.Proof.Gen.OutProjIdeal.Frame
public import proofs.«01_k».proof.Proof.Gen.OutProjRefIdeal.Run
public import proofs.«01_k».proof.Proof.OutTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.OutProj

/-- The reference's program leaves its arguments as they were and every semaphore at zero. -/
theorem reference_frame : quiescent_OutProjRefIdeal (hOutProjRefIdeal := Cert.OutProjRefIdeal.Gen.facts) :=
  fun m ρ _ => (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- Over the extended reals the call's result array is the reference's. -/
theorem value : algebraic_OutProjIdeal_OutProjRefIdeal (hOutProjIdeal := Cert.OutProjIdeal.Gen.facts) (hOutProjRefIdeal := Cert.OutProjRefIdeal.Gen.facts) := by
  pair_intro
  · run_from Cert.OutProjIdeal.Gen.run_main m g
  · run_from Cert.OutProjRefIdeal.Value.run m' g'
    exact (Cert.OutProjIdeal.Tiles.final m c).symm

end Cert.Proof.OutProj

end
-- ==== Proof.QueryTiles.lean ====
/-
  The query projection: what its result array ends holding.  The call multiplies the rounded hidden states by the rounded
  weight, one 512 by 512 tile of the result per grid point, the whole contraction in each tile; the reference is the same
  product written once over the whole arrays.
-/
module

public import proofs.«01_k».proof.Proof.Gen.QueryProjIdeal.Frame
public import proofs.«01_k».proof.Proof.Gen.QueryProjRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QueryProjIdeal.Tiles

open Cert.QueryProjIdeal Cert.QueryProjIdeal.Gen

variable (m : (ℓ : Loc nD τ sig) → Buf (Elt Ideal) ℓ)

/-- The whole product, in the reference's own operation. -/
abbrev prod (x : FVec Ideal S32768x2048 .bf16) (w : FVec Ideal S2048x2048 .f32) : FVec Ideal S32768x2048 .f32 :=
  Cert.QueryProjRefIdeal.Read.val_main_v1 (F := Ideal) x w

/-- Where each window's block sits: the grid runs over four column tiles, and over the 64 row tiles inside each. -/
theorem place : ∀ t : Fin cfg0.N, (win0_0.index t 0 = t.val % 64 ∧ win0_0.index t 1 = 0)
    ∧ (win0_1.index t 0 = 0 ∧ win0_1.index t 1 = t.val / 64)
    ∧ (win0_2.index t 0 = t.val % 64 ∧ win0_2.index t 1 = t.val / 64) :=
  (by decide +kernel : ∀ t : Fin grid0.N, _)

/-- The weight as the region finds it is the argument: its rounding is the identity on the extended reals. -/
theorem weight (c : Dev nD) : V m c main_v0 = (m ((c : Thread nD τ).loc main_arg1) : S2048x2048.Idx → EReal) := by
  entry_read
  rfl

/-- One tile's entry is the whole product's entry at the tile's place. -/
theorem tile (c : Dev nD) (t : Fin cfg0.N) (y : S512x512.Idx) :
    k0_pay1 (F := Ideal) (iblk m c 0 t) (iblk m c 1 t) y
      = prod (m ((c : Thread nD τ).loc main_arg0)) (m ((c : Thread nD τ).loc main_arg1)) (((cfg0.win 2).blk t).view.emb y) := by
  pointwise [k0_pay1, prod, Cert.QueryProjRefIdeal.Read.val_main_v1, Cert.QueryProjRefIdeal.Read.val_main_v0]
  blk_point [iblk, weight m c, V_main_arg0 m c, place t]

/-- The result array after the run is the whole product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

end Cert.QueryProjIdeal.Tiles

end
-- ==== Proof.QueryProjClaims.lean ====
/-
  The claims about the query projection.
-/
module

public import proofs.«01_k».proof.Defs
public import proofs.«01_k».proof.Proof.Gen.QueryProj.Frame
public import proofs.«01_k».proof.Proof.Gen.QueryProjIdeal.Frame
public import proofs.«01_k».proof.Proof.Gen.QueryProjRefIdeal.Run
public import proofs.«01_k».proof.Proof.QueryTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.QueryProj

/-- The reference's program leaves its arguments as they were and every semaphore at zero. -/
theorem reference_frame : quiescent_QueryProjRefIdeal (hQueryProjRefIdeal := Cert.QueryProjRefIdeal.Gen.facts) :=
  fun m ρ _ => (θ_run Cert.QueryProjRefIdeal.defs _ _).mono
    (fun r h => ⟨fun c => (h c).2, Idealize.ShloMosaic.sem_eq_zero_of_no_sems (by decide) r.2⟩)
    (Cert.QueryProjRefIdeal.Value.run (F := Ideal) m ρ)

/-- Over the extended reals the call's result array is the reference's. -/
theorem value : algebraic_QueryProjIdeal_QueryProjRefIdeal (hQueryProjIdeal := Cert.QueryProjIdeal.Gen.facts) (hQueryProjRefIdeal := Cert.QueryProjRefIdeal.Gen.facts) := by
  pair_intro
  · run_from Cert.QueryProjIdeal.Gen.run_main m g
  · run_from Cert.QueryProjRefIdeal.Value.run m' g'
    exact (Cert.QueryProjIdeal.Tiles.final m c).symm

end Cert.Proof.QueryProj

end
-- ==== Proof.NormTiles.lean ====
/-
  The final residual addition and root-mean-square norm: what the result array ends holding.  The call normalizes 256 whole
  rows per grid point; a row's mean square only reads that row, so the reference, written once over the whole array, agrees
  row by row.
-/
module

public import proofs.«01_k».proof.Proof.Gen.FinalNormIdeal.Frame
public import proofs.«01_k».proof.Proof.Gen.FinalNormRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinalNormIdeal.Tiles

open Cert.FinalNormIdeal Cert.FinalNormIdeal.Gen

variable (m : (ℓ : Loc nD τ sig) → Buf (Elt Ideal) ℓ)

/-- The normalized sum, in the reference's own operations. -/
abbrev whole (x d : FVec Ideal S32768x2048 .f32) (w : FVec Ideal S2048 .f32) : FVec Ideal S32768x2048 .f32 :=
  Cert.FinalNormRefIdeal.Read.val_main_v13 (F := Ideal) x d w

/-- Where each window's block sits: the grid runs over the 128 row blocks. -/
theorem place : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

/-- The norm weight as the region finds it, one row. -/
theorem scale (c : Dev nD) (z : Fin 1) (q : Fin 2048) : V m c main_v0 (ix2 z q : S1x2048.Idx)
    = m ((c : Thread nD τ).loc main_arg2) (ix1 q : S2048.Idx) := by
  entry_read
  pointwise

/-- One tile's entry is the whole result's entry at the tile's place. -/
theorem tile (c : Dev nD) (t : Fin cfg0.N) (y : S256x2048.Idx) :
    k0_pay1 (F := Ideal) (iblk m c 0 t) (iblk m c 1 t) (iblk m c 2 t) y
      = whole (m ((c : Thread nD τ).loc main_arg0)) (m ((c : Thread nD τ).loc main_arg1)) (m ((c : Thread nD τ).loc main_arg2)) (((cfg0.win 3).blk t).view.emb y) := by
  pointwise [k0_pay1, whole, Cert.FinalNormRefIdeal.Read.val_main_v13, Cert.FinalNormRefIdeal.Read.val_main_v12, Cert.FinalNormRefIdeal.Read.val_main_v11, Cert.FinalNormRefIdeal.Read.val_main_v10, Cert.FinalNormRefIdeal.Read.val_main_v9, Cert.FinalNormRefIdeal.Read.val_main_v8, Cert.FinalNormRefIdeal.Read.val_main_v7, Cert.FinalNormRefIdeal.Read.val_main_v6, Cert.FinalNormRefIdeal.Read.val_main_v5, Cert.FinalNormRefIdeal.Read.val_main_v4, Cert.FinalNormRefIdeal.Read.val_main_v3, Cert.FinalNormRefIdeal.Read.val_main_v2, Cert.FinalNormRefIdeal.Read.val_main_v1, Cert.FinalNormRefIdeal.Read.val_main_v0, Cert.FinalNormRefIdeal.Read.val_main_cst, Cert.FinalNormRefIdeal.Read.val_main_cst_0, Cert.FinalNormRefIdeal.Read.val_main_cst_1]
  refine Eq.trans ?_ (congrArg _ (scale m c 0 _))
  refine congrArg₂ _ (congrArg₂ _ (congrArg₂ _ ?_ ?_) (congrArg (fun z => Ideal.rsqrt (Ideal.div z _ + _))
    (Finset.sum_congr rfl fun k _ => congrArg (fun z : EReal => z * z) (congrArg₂ _ ?_ ?_)))) ?_
  · blk_point [iblk, V_main_arg0 m c, place t]
  · blk_point [iblk, V_main_arg1 m c, place t]
  · blk_point [iblk, V_main_arg0 m c, place t]
  · blk_point [iblk, V_main_arg1 m c, place t]
  · blk_point [iblk, place t]

/-- The result array after the last grid point is the reference's result. -/
theorem final (c : Dev nD) : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact tile m c t y

end Cert.FinalNormIdeal.Tiles
-- ==== Proof.FinalNormClaims.lean ====
/-
  The claims about the final residual addition and norm.
-/
module

public import proofs.«01_k».proof.Defs
public import proofs.«01_k».proof.Proof.Gen.FinalNorm.Frame
public import proofs.«01_k».proof.Proof.Gen.FinalNormIdeal.Frame
public import proofs.«01_k».proof.Proof.Gen.FinalNormRefIdeal.Run
public import proofs.«01_k».proof.Proof.NormTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.FinalNorm

/-- The reference's program leaves its arguments as they were and every semaphore at zero. -/
theorem reference_frame : quiescent_FinalNormRefIdeal (hFinalNormRefIdeal := Cert.FinalNormRefIdeal.Gen.facts) :=
  fun m ρ _ => (θ_run Cert.FinalNormRefIdeal.defs _ _).mono
    (fun r h => ⟨fun c => (h c).2, Idealize.ShloMosaic.sem_eq_zero_of_no_sems (by decide) r.2⟩)
    (Cert.FinalNormRefIdeal.Value.run (F := Ideal) m ρ)

/-- Over the extended reals the call's result array is the reference's. -/
theorem value : algebraic_FinalNormIdeal_FinalNormRefIdeal (hFinalNormIdeal := Cert.FinalNormIdeal.Gen.facts) (hFinalNormRefIdeal := Cert.FinalNormRefIdeal.Gen.facts) := by
  pair_intro
  · run_from Cert.FinalNormIdeal.Gen.run_main m g
  · run_from Cert.FinalNormRefIdeal.Value.run m' g'
    exact (Cert.FinalNormIdeal.Tiles.final m c).symm

end Cert.Proof.FinalNorm

end
-- ==== Proof.FirstNormTiles.lean ====
/-
  The first norm of the trunk: what its result array ends holding.  A grid point normalizes 256 whole rows, and a row's mean
  square reads that row alone.
-/
module

public import proofs.«01_k».proof.Proof.Gen.FirstNormIdeal.Frame
public import proofs.«01_k».proof.Proof.Gen.FirstNormRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FirstNormIdeal.Tiles

open Cert.FirstNormIdeal Cert.FirstNormIdeal.Gen

variable (m : (ℓ : Loc nD τ sig) → Buf (Elt Ideal) ℓ)

/-- Where each window's block sits: 128 blocks of 256 rows, and the one row of weights. -/
theorem place : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The norm weight as the region finds it: the argument, laid out as one row. -/
theorem scale (c : Dev nD) (z : Fin 1) (q : Fin 2048) : V m c main_v0 (ix2 z q : S1x2048.Idx)
    = m ((c : Thread nD τ).loc main_arg1) (ix1 q : S2048.Idx) := by
  entry_read
  pointwise

/-- A block's normalized entry is the reference's entry at the block's place. -/
theorem tile (c : Dev nD) (t : Fin cfg0.N) (y : S256x2048.Idx) :
    k0_pay1 (F := Ideal) (iblk m c 0 t) (iblk m c 1 t) y
      = Cert.FirstNormRefIdeal.Read.val_main_v13 (F := Ideal) (m ((c : Thread nD τ).loc main_arg0)) (m ((c : Thread nD τ).loc main_arg1)) (((cfg0.win 2).blk t).view.emb y) := by
  pointwise [k0_pay1,
    Cert.FirstNormRefIdeal.Read.val_main_v13, Cert.FirstNormRefIdeal.Read.val_main_v12,
    Cert.FirstNormRefIdeal.Read.val_main_v11, Cert.FirstNormRefIdeal.Read.val_main_v10,
    Cert.FirstNormRefIdeal.Read.val_main_v9, Cert.FirstNormRefIdeal.Read.val_main_v8,
    Cert.FirstNormRefIdeal.Read.val_main_v7, Cert.FirstNormRefIdeal.Read.val_main_v6,
    Cert.FirstNormRefIdeal.Read.val_main_v5, Cert.FirstNormRefIdeal.Read.val_main_cst_1,
    Cert.FirstNormRefIdeal.Read.val_main_v4, Cert.FirstNormRefIdeal.Read.val_main_v3,
    Cert.FirstNormRefIdeal.Read.val_main_cst_0, Cert.FirstNormRefIdeal.Read.val_main_v2,
    Cert.FirstNormRefIdeal.Read.val_main_v1, Cert.FirstNormRefIdeal.Read.val_main_cst,
    Cert.FirstNormRefIdeal.Read.val_main_v0]
  refine Eq.trans ?_ (congrArg _ (scale m c 0 _))
  refine congrArg₂ _ (congrArg₂ _ ?_ (congrArg (fun z => Ideal.rsqrt (Ideal.div z _ + _))
    (Finset.sum_congr rfl fun k _ => congrArg (fun z : EReal => z * z) ?_))) ?_
  · blk_point [iblk, V_main_arg0 m c, place t]
  · blk_point [iblk, V_main_arg0 m c, place t]
  · blk_point [iblk, place t]

/-- After the last block the result array is the reference's. -/
theorem final (c : Dev nD) : (dats m 0 c).arrAt 2 cfg0.N
    = Cert.FirstNormRefIdeal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.FirstNormIdeal.Tiles

end
-- ==== Proof.FirstNormClaims.lean ====
/-
  The claims about the first norm of the trunk.
-/
module

public import proofs.«01_k».proof.Defs
public import proofs.«01_k».proof.Proof.Gen.FirstNorm.Frame
public import proofs.«01_k».proof.Proof.Gen.FirstNormIdeal.Frame
public import proofs.«01_k».proof.Proof.Gen.FirstNormRefIdeal.Run
public import proofs.«01_k».proof.Proof.FirstNormTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.FirstNorm

/-- The reference's program leaves its arguments as they were and every semaphore at zero. -/
theorem reference_frame : quiescent_FirstNormRefIdeal (hFirstNormRefIdeal := Cert.FirstNormRefIdeal.Gen.facts) :=
  fun m ρ _ => (θ_run Cert.FirstNormRefIdeal.defs _ _).mono
    (fun r h => ⟨fun c => (h c).2, Idealize.ShloMosaic.sem_eq_zero_of_no_sems (by decide) r.2⟩)
    (Cert.FirstNormRefIdeal.Value.run (F := Ideal) m ρ)

/-- Over the extended reals the call's result array is the reference's. -/
theorem value : algebraic_FirstNormIdeal_FirstNormRefIdeal (hFirstNormIdeal := Cert.FirstNormIdeal.Gen.facts) (hFirstNormRefIdeal := Cert.FirstNormRefIdeal.Gen.facts) := by
  pair_intro
  · run_from Cert.FirstNormIdeal.Gen.run_main m g
  · run_from Cert.FirstNormRefIdeal.Value.run m' g'
    exact (Cert.FirstNormIdeal.Tiles.final m c).symm

end Cert.Proof.FirstNorm

end
-- ==== Proof.AddNormTiles.lean ====
/-
  The residual addition and norm between the layers: what its two result arrays end holding, the new residual stream and its
  norm.  Each grid point works on 256 whole rows.
-/
module

public import proofs.«01_k».proof.Proof.Gen.AddNormIdeal.Frame
public import proofs.«01_k».proof.Proof.Gen.AddNormRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AddNormIdeal.Tiles

open Cert.AddNormIdeal Cert.AddNormIdeal.Gen

variable (m : (ℓ : Loc nD τ sig) → Buf (Elt Ideal) ℓ)

/-- Where each window's block sits: 128 blocks of 256 rows, and the one row of weights. -/
theorem place : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0) :=
  (by decide +kernel : ∀ t : Fin grid0.N, _)

/-- The norm weight as the region finds it: the argument, laid out as one row. -/
theorem scale (c : Dev nD) (z : Fin 1) (q : Fin 2048) : V m c main_v0 (ix2 z q : S1x2048.Idx)
    = m ((c : Thread nD τ).loc main_arg2) (ix1 q : S2048.Idx) := by
  entry_read
  pointwise

/-- A block of the new stream, entry by entry. -/
theorem tile_sum (c : Dev nD) (t : Fin cfg0.N) (y : S256x2048.Idx) :
    k0_pay1 (F := Ideal) (iblk m c 0 t) (iblk m c 1 t) y
      = Cert.AddNormRefIdeal.Read.val_main_v0 (F := Ideal) (m ((c : Thread nD τ).loc main_arg0)) (m ((c : Thread nD τ).loc main_arg1)) (((cfg0.win 3).blk t).view.emb y) := by
  pointwise [k0_pay1, Cert.AddNormRefIdeal.Read.val_main_v0]
  refine congrArg₂ _ ?_ ?_
  · blk_point [iblk, V_main_arg0 m c, place t]
  · blk_point [iblk, V_main_arg1 m c, place t]

/-- A block of the normalized stream, entry by entry. -/
theorem tile_norm (c : Dev nD) (t : Fin cfg0.N) (y : S256x2048.Idx) :
    k0_pay2 (F := Ideal) (iblk m c 0 t) (iblk m c 1 t) (iblk m c 2 t) y
      = Cert.AddNormRefIdeal.Read.val_main_v14 (F := Ideal) (m ((c : Thread nD τ).loc main_arg0)) (m ((c : Thread nD τ).loc main_arg1)) (m ((c : Thread nD τ).loc main_arg2)) (((cfg0.win 4).blk t).view.emb y) := by
  pointwise [k0_pay1, k0_pay2,
    Cert.AddNormRefIdeal.Read.val_main_v14, Cert.AddNormRefIdeal.Read.val_main_v13,
    Cert.AddNormRefIdeal.Read.val_main_v12, Cert.AddNormRefIdeal.Read.val_main_v11,
    Cert.AddNormRefIdeal.Read.val_main_v10, Cert.AddNormRefIdeal.Read.val_main_v9,
    Cert.AddNormRefIdeal.Read.val_main_v8, Cert.AddNormRefIdeal.Read.val_main_v7, Cert.AddNormRefIdeal.Read.val_main_v6,
    Cert.AddNormRefIdeal.Read.val_main_cst_1, Cert.AddNormRefIdeal.Read.val_main_v5,
    Cert.AddNormRefIdeal.Read.val_main_v4, Cert.AddNormRefIdeal.Read.val_main_cst_0,
    Cert.AddNormRefIdeal.Read.val_main_v3, Cert.AddNormRefIdeal.Read.val_main_v2,
    Cert.AddNormRefIdeal.Read.val_main_cst, Cert.AddNormRefIdeal.Read.val_main_v1,
    Cert.AddNormRefIdeal.Read.val_main_v0]
  refine Eq.trans ?_ (congrArg _ (scale m c 0 _))
  refine congrArg₂ _ (congrArg₂ _ (congrArg₂ _ ?_ ?_) (congrArg (fun z => Ideal.rsqrt (Ideal.div z _ + _))
    (Finset.sum_congr rfl fun k _ => congrArg (fun z : EReal => z * z) (congrArg₂ _ ?_ ?_)))) ?_
  · blk_point [iblk, V_main_arg0 m c, place t]
  · blk_point [iblk, V_main_arg1 m c, place t]
  · blk_point [iblk, V_main_arg0 m c, place t]
  · blk_point [iblk, V_main_arg1 m c, place t]
  · blk_point [iblk, place t]

/-- After the last block the first result array is the sum. -/
theorem final_sum (c : Dev nD) : (dats m 0 c).arrAt 3 cfg0.N
    = Cert.AddNormRefIdeal.Read.val_main_v0 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  exact tile_sum m c t y

/-- After the last block the second result array is the normalized sum. -/
theorem final_norm (c : Dev nD) : (dats m 0 c).arrAt 4 cfg0.N
    = Cert.AddNormRefIdeal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact tile_norm m c t y

end Cert.AddNormIdeal.Tiles

end
-- ==== Proof.AddNormClaims.lean ====
/-
  The claims about the residual addition and norm between the layers.
-/
module

public import proofs.«01_k».proof.Defs
public import proofs.«01_k».proof.Proof.Gen.AddNorm.Frame
public import proofs.«01_k».proof.Proof.Gen.AddNormIdeal.Frame
public import proofs.«01_k».proof.Proof.Gen.AddNormRefIdeal.Run
public import proofs.«01_k».proof.Proof.AddNormTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.AddNorm

/-- The reference's program leaves its arguments as they were and every semaphore at zero. -/
theorem reference_frame : quiescent_AddNormRefIdeal (hAddNormRefIdeal := Cert.AddNormRefIdeal.Gen.facts) :=
  fun m ρ _ => (θ_run Cert.AddNormRefIdeal.defs _ _).mono
    (fun r h => ⟨fun c => (h c).2.2, Idealize.ShloMosaic.sem_eq_zero_of_no_sems (by decide) r.2⟩)
    (Cert.AddNormRefIdeal.Value.run (F := Ideal) m ρ)

/-- Over the extended reals the call's result array is the reference's. -/
theorem value : algebraic_AddNormIdeal_AddNormRefIdeal (hAddNormIdeal := Cert.AddNormIdeal.Gen.facts) (hAddNormRefIdeal := Cert.AddNormRefIdeal.Gen.facts) := by
  pair_intro
  · run_from Cert.AddNormIdeal.Gen.run_main m g
  · run_from Cert.AddNormRefIdeal.Value.run m' g'
    exact (Cert.AddNormIdeal.Tiles.final_sum m c).symm
    exact (Cert.AddNormIdeal.Tiles.final_norm m c).symm

end Cert.Proof.AddNorm

end
-- ==== Proof.HeadNormTiles.lean ====
/-
  The delta rule's output norm with its gate: what its result array ends holding.  A grid point works on 1024 tokens of one
  head, and the norm of a token reads that head's 128 channels alone.
-/
module

public import proofs.«01_k».proof.Proof.Gen.HeadNormIdeal.Frame
public import proofs.«01_k».proof.Proof.Gen.HeadNormRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HeadNormIdeal.Tiles

open Cert.HeadNormIdeal Cert.HeadNormIdeal.Gen

variable (m : (ℓ : Loc nD τ sig) → Buf (Elt Ideal) ℓ)

/-- Where each window's block sits: 1024 tokens of one head, the gate's columns being the projection's blocks 24 to 31. -/
theorem place : ∀ t : Fin cfg0.N, (win0_0.index t 0 = t.val / 8 ∧ win0_0.index t 1 = t.val % 8)
    ∧ (win0_1.index t 0 = t.val / 8 ∧ win0_1.index t 1 = t.val % 8)
    ∧ (win0_2.index t 0 = t.val / 8 ∧ win0_2.index t 1 = 24 + t.val % 8)
    ∧ (win0_3.index t 0 = 0 ∧ win0_3.index t 1 = 0)
    ∧ (win0_4.index t 0 = t.val / 8 ∧ win0_4.index t 1 = t.val % 8) :=
  (by decide +kernel : ∀ t : Fin grid0.N, _)

/-- The norm weight as the region finds it: the argument, laid out as one row. -/
theorem scale (c : Dev nD) (z : Fin 1) (q : Fin 128) : V m c main_v0 (ix2 z q : S1x128.Idx)
    = m ((c : Thread nD τ).loc main_arg3) (ix1 q : S128.Idx) := by
  entry_read
  pointwise

/-- A block's entry is the reference's entry at the block's place. -/
theorem tile (c : Dev nD) (t : Fin cfg0.N) (y : S1024x128.Idx) :
    k0_pay1 (F := Ideal) (iblk m c 0 t) (iblk m c 1 t) (iblk m c 2 t) (iblk m c 3 t) y
      = Cert.HeadNormRefIdeal.Read.val_main_v20 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1,
    Cert.HeadNormRefIdeal.Read.val_main_v20, Cert.HeadNormRefIdeal.Read.val_main_v19,
    Cert.HeadNormRefIdeal.Read.val_main_v18, Cert.HeadNormRefIdeal.Read.val_main_v17,
    Cert.HeadNormRefIdeal.Read.val_main_call0_v5, Cert.HeadNormRefIdeal.Read.val_main_call0_v4,
    Cert.HeadNormRefIdeal.Read.val_main_call0_cst_0, Cert.HeadNormRefIdeal.Read.val_main_call0_v3,
    Cert.HeadNormRefIdeal.Read.val_main_call0_v2, Cert.HeadNormRefIdeal.Read.val_main_call0_cst,
    Cert.HeadNormRefIdeal.Read.val_main_call0_v1, Cert.HeadNormRefIdeal.Read.val_main_call0_v0,
    Cert.HeadNormRefIdeal.Read.val_main_v16, Cert.HeadNormRefIdeal.Read.val_main_v15,
    Cert.HeadNormRefIdeal.Read.val_main_v14, Cert.HeadNormRefIdeal.Read.val_main_v13,
    Cert.HeadNormRefIdeal.Read.val_main_v12, Cert.HeadNormRefIdeal.Read.val_main_v11,
    Cert.HeadNormRefIdeal.Read.val_main_v10, Cert.HeadNormRefIdeal.Read.val_main_v9,
    Cert.HeadNormRefIdeal.Read.val_main_cst_1, Cert.HeadNormRefIdeal.Read.val_main_v8,
    Cert.HeadNormRefIdeal.Read.val_main_v7, Cert.HeadNormRefIdeal.Read.val_main_cst_0,
    Cert.HeadNormRefIdeal.Read.val_main_v6, Cert.HeadNormRefIdeal.Read.val_main_v5,
    Cert.HeadNormRefIdeal.Read.val_main_cst, Cert.HeadNormRefIdeal.Read.val_main_v4,
    Cert.HeadNormRefIdeal.Read.val_main_v3, Cert.HeadNormRefIdeal.Read.val_main_v2,
    Cert.HeadNormRefIdeal.Read.val_main_v1, Cert.HeadNormRefIdeal.Read.val_main_v0]
  refine congrArg₂ _ (congrArg₂ _ (congrArg₂ _ (congrArg₂ _ ?_ ?_) (congrArg (fun z => Ideal.rsqrt (Ideal.div z _ + _))
    (Finset.sum_congr rfl fun k _ => congrArg (fun z : EReal => z * z) (congrArg₂ _ ?_ ?_)))) ?_)
    (congrArg (fun z => z * Ideal.logistic z) ?_)
  · blk_point [iblk, V_main_arg0 m c, place t]
  · blk_point [iblk, V_main_arg1 m c, place t]
  · blk_point [iblk, V_main_arg0 m c, place t]
  · blk_point [iblk, V_main_arg1 m c, place t]
  · refine Eq.trans ?_ (scale m c 0 _)
    blk_point [iblk, place t]
  · blk_point [iblk, V_main_arg2 m c, place t]

/-- After the last block the result array is the reference's. -/
theorem final (c : Dev nD) : (dats m 0 c).arrAt 4 cfg0.N
    = Cert.HeadNormRefIdeal.Read.val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact tile m c t y

end Cert.HeadNormIdeal.Tiles

end
-- ==== Proof.HeadNormClaims.lean ====
/-
  The claims about the delta rule's gated output norm.
-/
module

public import proofs.«01_k».proof.Defs
public import proofs.«01_k».proof.Proof.Gen.HeadNorm.Frame
public import proofs.«01_k».proof.Proof.Gen.HeadNormIdeal.Frame
public import proofs.«01_k».proof.Proof.Gen.HeadNormRefIdeal.Run
public import proofs.«01_k».proof.Proof.HeadNormTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.HeadNorm

/-- The reference's program leaves its arguments as they were and every semaphore at zero. -/
theorem reference_frame : quiescent_HeadNormRefIdeal (hHeadNormRefIdeal := Cert.HeadNormRefIdeal.Gen.facts) :=
  fun m ρ _ => (θ_run Cert.HeadNormRefIdeal.defs _ _).mono
    (fun r h => ⟨fun c => (h c).2, Idealize.ShloMosaic.sem_eq_zero_of_no_sems (by decide) r.2⟩)
    (Cert.HeadNormRefIdeal.Value.run (F := Ideal) m ρ)

/-- Over the extended reals the call's result array is the reference's. -/
theorem value : algebraic_HeadNormIdeal_HeadNormRefIdeal (hHeadNormIdeal := Cert.HeadNormIdeal.Gen.facts) (hHeadNormRefIdeal := Cert.HeadNormRefIdeal.Gen.facts) := by
  pair_intro
  · run_from Cert.HeadNormIdeal.Gen.run_main m g
  · run_from Cert.HeadNormRefIdeal.Value.run m' g'
    exact (Cert.HeadNormIdeal.Tiles.final m c).symm

end Cert.Proof.HeadNorm

end
-- ==== Proof.FourierTiles.lean ====
/-
  The Fourier mixing of the tokens: what its result array ends holding.
-/
module

public import proofs.«01_k».proof.Proof.Gen.FourierIdeal.Frame
public import proofs.«01_k».proof.Proof.Gen.FourierRefIdeal.Read
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FourierIdeal.Tiles

open Cert.FourierIdeal Cert.FourierIdeal.Gen

variable (m : (ℓ : Loc nD τ sig) → Buf (Elt Ideal) ℓ)

/-- Where each window's block sits: eight sequences, in each eight blocks of 512 frequencies, in each eight blocks of 512
    positions, the positions running fastest. -/
theorem place : ∀ t : Fin cfg0.N, (win0_0.index t 0 = 0 ∧ win0_0.index t 1 = t.val / 8 % 8 ∧ win0_0.index t 2 = t.val % 8)
    ∧ (win0_1.index t 0 = t.val / 64 ∧ win0_1.index t 1 = t.val % 8 ∧ win0_1.index t 2 = 11)
    ∧ (win0_2.index t 0 = 0 ∧ win0_2.index t 1 = 0 ∧ win0_2.index t 2 = 0 ∧ win0_2.index t 3 = 0)
    ∧ (win0_3.index t 0 = t.val / 64 ∧ win0_3.index t 1 = t.val / 8 % 8 ∧ win0_3.index t 2 = 0) :=
  (by decide +kernel : ∀ t : Fin grid0.N, _)

/-- An earlier store does not show where later stores lie over it. -/
theorem canon_under {S : Shape} {e : EltTy} (q : View.Piece (Elt Ideal) S e) :
    ∀ (L : List (View.Piece (Elt Ideal) S e)) (y : S.Idx),
      (∃ p ∈ L, y ∈ p.1.set) → View.canon (L ++ [q]) y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨r, hr, hy⟩ := hy
      rcases List.mem_cons.mp hr with rfl | hr
      · exact absurd hy hm
      · exact canon_under q L y ⟨r, hr, hy⟩

/-- A load after the point's stores reads what they leave. -/
theorem gathered (L : List (View.Piece (Elt Ideal) S2x512x512 .f32)) (r : Rect S2x512x512) :
    (View.whole cc0_scratch0 : View sig .tc _ S2x512x512 .f32).readCov L r.toLoadRect = View.ld (View.canon L) r :=
  View.readCov_eq_canon' _ L _

/-- What the accumulator held before, read back. -/
theorem carried (P : Vec Ideal S2x512x512 .f32) :
    View.read (Elt Ideal) (View.whole cc0_scratch0) ((Memref.isWhole_whole cc0_scratch0).unread P) = P :=
  (Memref.isWhole_whole cc0_scratch0).read_unread P

/-- What one block of positions adds to an entry of the accumulator. -/
def part (T : S2x512x512.Idx → EReal) (X : S1x512x512.Idx → EReal) (y : S2x512x512.Idx) : EReal :=
  ∑ k : Fin 512, T (ix3 (y 0) (y 1) k) * X (ix3 0 k (y 2))

/-- The fourth group of columns, as the kernel finds a block of it. -/
theorem seen (c : Dev nD) (t : Fin cfg0.N) (y : S1x512x512.Idx) (b : Fin 8) (r : Fin 4096) (q : Fin 7040)
    (hb : (b : ℕ) = t.val / 64) (hr : (r : ℕ) = t.val % 8 * 512 + y 1) (hq : (q : ℕ) = 5632 + y 2) :
    X0_1 m c t y = m ((c : Thread nD τ).loc main_arg0) (ix3 b r q) := by
  unfold X0_1 Pipeline.Window.fill
  rw [dif_pos (moved0_1 t y)]
  blk_point [iblk, V_main_arg0 m c, place t]
/-- The first block of positions leaves its own part. -/
theorem state_A (c : Dev nD) (t : Fin cfg0.N) (h0 : t.val % 8 = 0) (y : S2x512x512.Idx) :
    (outsAt0 m c t.val t.isLt).2 y = 0 + part (iblk m c 0 t) (X0_1 m c t) y := by
  rw [outsAt0_A m c t h0 (by omega)]; frame_out
  refine Eq.trans (canon_under _ [_, _] y ?_) ?_
  · exact View.cover_of_tiledL (_ : List (View.Piece (Elt Ideal) S2x512x512 .f32)) S1x512x512.size (by sl_kernel_rfl) y
  simp (disch := decide) only [↓View.readCov_skip, ↓View.readCov_fill]
  unfold part
  canon_tiles x h
  all_goals
    open_payloads; pointwise
    refine Fin.sum_fin_congr fun k => ?_
    blk_point []

/-- A later block of positions adds its part. -/
theorem state_B (c : Dev nD) (t : Fin cfg0.N) (h0 : ¬t.val % 8 = 0) (y : S2x512x512.Idx) :
    (outsAt0 m c t.val t.isLt).2 y
      = (outsAt0 m c (t.val - 1) (Nat.lt_of_le_of_lt (Nat.sub_le _ _) t.isLt)).2 y
        + part (iblk m c 0 t) (X0_1 m c t) y := by
  by_cases h1 : t.val % 8 = 7
  · rw [outsAt0_C m c t h0 h1]; frame_out
    generalize (outsAt0 m c (t.val - 1) (Nat.lt_of_le_of_lt (Nat.sub_le _ _) t.isLt)).2 = P
    unfold part
    canon_tiles x h
    all_goals
      open_payloads; pointwise
      rw [carried]
      refine congrArg₂ (fun u v : EReal => u + v) ?_ (Fin.sum_fin_congr fun k => ?_) <;> blk_point []
  · rw [outsAt0_B m c t h0 h1]; frame_out
    generalize (outsAt0 m c (t.val - 1) (Nat.lt_of_le_of_lt (Nat.sub_le _ _) t.isLt)).2 = P
    unfold part
    canon_tiles x h
    all_goals
      open_payloads; pointwise
      rw [carried]
      refine congrArg₂ (fun u v : EReal => u + v) ?_ (Fin.sum_fin_congr fun k => ?_) <;> blk_point []

/-- The transform tables, an argument. -/
abbrev table (c : Dev nD) : S2x4096x4096.Idx → EReal := m ((c : Thread nD τ).loc main_arg1)

/-- The sequences transformed, an argument. -/
abbrev seqs (c : Dev nD) : S8x4096x7040.Idx → EReal := m ((c : Thread nD τ).loc main_arg0)

/-- The accumulator at the last block of positions: the whole sum. -/
theorem total (c : Dev nD) (t : Fin cfg0.N) (ht : t.val % 8 = 7) (y : S2x512x512.Idx) (z : Fin 2) (b : Fin 8) (r : Fin 4096)
    (q : Fin 7040) (hz : (z : ℕ) = y 0) (hb : (b : ℕ) = t.val / 64) (hr : (r : ℕ) = t.val / 8 % 8 * 512 + y 1)
    (hq : (q : ℕ) = 5632 + y 2) :
    (outsAt0 m c t.val t.isLt).2 y
      = ∑ l : Fin 4096, table m c (ix3 z r l) * seqs m c (ix3 b l q) := by
  rw [Pipeline.eq_sum_fin_of_reset_step_apply_of_flush (fun n h => (outsAt0 m c n h).2) 8 (fun _ => 0) _
    (fun t h j => state_A m c t h j) (fun t h j => state_B m c t h j) t ht y, zero_add]
  unfold part
  refine Fin.sum_mul_add_congr fun s k hl => ?_
  refine congrArg₂ (fun u v : EReal => u * v) ?_ (seen m c _ (ix3 0 k (y 2)) b _ q ?_ ?_ hq)
  · blk_point [iblk, table, V_main_arg1 m c, place t,
      place ⟨_, Pipeline.run_point_lt_of_flush t ht s⟩]
  · dsimp only; omega
  · show _ = _ * 512 + k.val
    dsimp only; omega

/-- A column's group of 128. -/
def group (q : Fin 512) : Fin 4 := ⟨q.val / 128, by omega⟩

/-- A column's place in its group. -/
def within (q : Fin 512) : Fin 128 := ⟨q.val % 128, by omega⟩

/-- Column `k` of a column's group. -/
def fellow (q : Fin 512) (k : Fin 128) : Fin 512 := ⟨q.val / 128 * 128 + k.val, by omega⟩

/-- The place in the rows of the whole projection of column `k` of a column's group. -/
def source (q : Fin 512) (k : Fin 128) : Fin 7040 := ⟨5632 + (q.val / 128 * 128 + k.val), by omega⟩

/-- A block of results from the accumulator and the folded tables. -/
def mixed (A : S2x512x512.Idx → EReal) (W : S2x4x128x128.Idx → EReal) (y : S1x512x512.Idx) : EReal :=
  (∑ k : Fin 128, A (ix3 0 (y 1) (fellow (y 2) k)) * W (ix4 0 (group (y 2)) k (within (y 2))))
    + ∑ k : Fin 128, A (ix3 1 (y 1) (fellow (y 2) k)) * W (ix4 1 (group (y 2)) k (within (y 2)))

/-- The block written at the last point, from the accumulator. -/
theorem written (c : Dev nD) (t : Fin cfg0.N) (ht : t.val % 8 = 7) (y : S1x512x512.Idx) :
    (outsAt0 m c t.val t.isLt).1 y = mixed (outsAt0 m c t.val t.isLt).2 (iblk m c 2 t) y := by
  rw [outsAt0_C m c t (by omega) ht]
  frame_out
  simp only [gathered]
  generalize View.canon (Val := Elt Ideal) (s := S2x512x512) (e := .f32) _ = A
  unfold mixed
  canon_tiles x h
  all_goals
    open_payloads; pointwise
    refine congrArg₂ (fun u v : EReal => u + v) (Fin.sum_fin_congr fun k => ?_) (Fin.sum_fin_congr fun k => ?_) <;>
      refine congrArg₂ (fun u v : EReal => u * v) ?_ ?_ <;> blk_point [fellow, group, within]

/-- After the last point the result array is the reference's. -/
theorem final (c : Dev nD) : (dats m 0 c).arrAt 3 cfg0.N
    = Cert.FourierRefIdeal.Read.val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h7 : t.val % 8 = 7 := (flush0_3 t).mp hf
  blk_simp
  rw [after0_3]
  refine (written m c t h7 y).trans ?_
  unfold mixed
  pointwise [
    Cert.FourierRefIdeal.Read.val_main_v22, Cert.FourierRefIdeal.Read.val_main_v21,
    Cert.FourierRefIdeal.Read.val_main_v20, Cert.FourierRefIdeal.Read.val_main_v19,
    Cert.FourierRefIdeal.Read.val_main_v18, Cert.FourierRefIdeal.Read.val_main_v17,
    Cert.FourierRefIdeal.Read.val_main_v16, Cert.FourierRefIdeal.Read.val_main_v15,
    Cert.FourierRefIdeal.Read.val_main_v14, Cert.FourierRefIdeal.Read.val_main_v13,
    Cert.FourierRefIdeal.Read.val_main_v12, Cert.FourierRefIdeal.Read.val_main_v11,
    Cert.FourierRefIdeal.Read.val_main_v10, Cert.FourierRefIdeal.Read.val_main_v9,
    Cert.FourierRefIdeal.Read.val_main_v8, Cert.FourierRefIdeal.Read.val_main_v7, Cert.FourierRefIdeal.Read.val_main_v6,
    Cert.FourierRefIdeal.Read.val_main_v5, Cert.FourierRefIdeal.Read.val_main_v4, Cert.FourierRefIdeal.Read.val_main_v3,
    Cert.FourierRefIdeal.Read.val_main_v2, Cert.FourierRefIdeal.Read.val_main_v1, Cert.FourierRefIdeal.Read.val_main_v0]
  refine congrArg₂ (fun u v : EReal => u + v) (Fin.sum_fin_congr fun k => ?_) (Fin.sum_fin_congr fun k => ?_)
  · refine (mul_comm (_ : EReal) _).trans (congrArg₂ (fun u v : EReal => u * v) ?_
      ((total m c t h7 _ 0 (((cfg0.win 3).blk t).view.emb y 0) (((cfg0.win 3).blk t).view.emb y 1) (source (((cfg0.win 3).blk t).view.emb y 2) k) rfl ?_ ?_ ?_).trans
        (Fin.sum_fin_congr fun l => mul_comm (_ : EReal) _)))
    · blk_point [iblk, group, within, V_main_arg2 m c, place t]
    · blk_simp [place t]
    · blk_simp [place t]
    · blk_simp [place t, fellow, source]
  · refine (mul_comm (_ : EReal) _).trans (congrArg₂ (fun u v : EReal => u * v) ?_
      ((total m c t h7 _ 1 (((cfg0.win 3).blk t).view.emb y 0) (((cfg0.win 3).blk t).view.emb y 1) (source (((cfg0.win 3).blk t).view.emb y 2) k) rfl ?_ ?_ ?_).trans
        (Fin.sum_fin_congr fun l => mul_comm (_ : EReal) _)))
    · blk_point [iblk, group, within, V_main_arg2 m c, place t]
    · blk_simp [place t]
    · blk_simp [place t]
    · blk_simp [place t, fellow, source]

end Cert.FourierIdeal.Tiles

end
-- ==== Proof.FourierClaims.lean ====
/-
  The claims about the Fourier mixer over positions.
-/
module

public import proofs.«01_k».proof.Defs
public import proofs.«01_k».proof.Proof.Gen.Fourier.Frame
public import proofs.«01_k».proof.Proof.Gen.FourierIdeal.Frame
public import proofs.«01_k».proof.Proof.Gen.FourierRefIdeal.Run
public import proofs.«01_k».proof.Proof.FourierTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.Fourier

/-- The reference's program leaves its arguments as they were and every semaphore at zero. -/
theorem reference_frame : quiescent_FourierRefIdeal (hFourierRefIdeal := Cert.FourierRefIdeal.Gen.facts) :=
  fun m ρ _ => (θ_run Cert.FourierRefIdeal.defs _ _).mono
    (fun r h => ⟨fun c => (h c).2, Idealize.ShloMosaic.sem_eq_zero_of_no_sems (by decide) r.2⟩)
    (Cert.FourierRefIdeal.Value.run (F := Ideal) m ρ)

/-- Over the extended reals the call's result array is the reference's. -/
theorem value : algebraic_FourierIdeal_FourierRefIdeal (hFourierIdeal := Cert.FourierIdeal.Gen.facts) (hFourierRefIdeal := Cert.FourierRefIdeal.Gen.facts) := by
  pair_intro
  · run_from Cert.FourierIdeal.Gen.run_main m g
  · run_from Cert.FourierRefIdeal.Value.run m' g'
    exact (Cert.FourierIdeal.Tiles.final m c).symm

end Cert.Proof.Fourier

end
-- ==== Proof.SpectrumTiles.lean ====
/-
  The spectrum of the product with the filter: what its result array ends holding.
-/
module

public import proofs.«01_k».proof.Proof.Gen.SpectrumIdeal.Frame
public import proofs.«01_k».proof.Proof.Gen.SpectrumRefIdeal.Read
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SpectrumIdeal.Tiles

open Cert.SpectrumIdeal Cert.SpectrumIdeal.Gen

variable (m : (ℓ : Loc nD τ sig) → Buf (Elt Ideal) ℓ)

/-- Where each window's block sits: eight sequences, in each eight blocks of 512 frequencies, in each eight blocks of 512
    positions, the positions running fastest. -/
theorem place : ∀ t : Fin cfg0.N, (win0_0.index t 0 = 0 ∧ win0_0.index t 1 = t.val / 8 % 8 ∧ win0_0.index t 2 = t.val % 8)
    ∧ (win0_1.index t 0 = t.val / 64 ∧ win0_1.index t 1 = t.val % 8 ∧ win0_1.index t 2 = 0)
    ∧ (win0_2.index t 0 = 0 ∧ win0_2.index t 1 = t.val / 8 % 8 ∧ win0_2.index t 2 = 0)
    ∧ (win0_3.index t 0 = t.val / 64 ∧ win0_3.index t 1 = 0 ∧ win0_3.index t 2 = t.val / 8 % 8 ∧ win0_3.index t 3 = 0) :=
  (by decide +kernel : ∀ t : Fin grid0.N, _)

/-- An earlier store does not show where later stores lie over it. -/
theorem canon_under {S : Shape} {e : EltTy} (q : View.Piece (Elt Ideal) S e) :
    ∀ (L : List (View.Piece (Elt Ideal) S e)) (y : S.Idx),
      (∃ p ∈ L, y ∈ p.1.set) → View.canon (L ++ [q]) y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨r, hr, hy⟩ := hy
      rcases List.mem_cons.mp hr with rfl | hr
      · exact absurd hy hm
      · exact canon_under q L y ⟨r, hr, hy⟩

/-- A load after the point's stores reads what they leave. -/
theorem gathered (L : List (View.Piece (Elt Ideal) S2x512x512 .f32)) (r : Rect S2x512x512) :
    (View.whole cc0_scratch0 : View sig .tc _ S2x512x512 .f32).readCov L r.toLoadRect = View.ld (View.canon L) r :=
  View.readCov_eq_canon' _ L _

/-- What the accumulator held before, read back. -/
theorem carried (P : Vec Ideal S2x512x512 .f32) :
    View.read (Elt Ideal) (View.whole cc0_scratch0) ((Memref.isWhole_whole cc0_scratch0).unread P) = P :=
  (Memref.isWhole_whole cc0_scratch0).read_unread P

/-- What one block of positions adds to an entry of the accumulator. -/
def part (T : S2x512x512.Idx → EReal) (X : S1x512x512.Idx → EReal) (y : S2x512x512.Idx) : EReal :=
  ∑ k : Fin 512, T (ix3 (y 0) (y 1) k) * X (ix3 0 k (y 2))

/-- The first block of positions leaves its own part. -/
theorem state_A (c : Dev nD) (t : Fin cfg0.N) (h0 : t.val % 8 = 0) (y : S2x512x512.Idx) :
    (outsAt0 m c t.val t.isLt).2 y = 0 + part (iblk m c 0 t) (iblk m c 1 t) y := by
  rw [outsAt0_A m c t h0 (by omega)]; frame_out
  refine Eq.trans (canon_under _ [_, _] y ?_) ?_
  · exact View.cover_of_tiledL (_ : List (View.Piece (Elt Ideal) S2x512x512 .f32)) S1x512x512.size (by sl_kernel_rfl) y
  simp (disch := decide) only [↓View.readCov_skip, ↓View.readCov_fill]
  unfold part
  canon_tiles x h
  all_goals
    open_payloads; pointwise
    refine Fin.sum_fin_congr fun k => ?_
    blk_point []

/-- A later block of positions adds its part. -/
theorem state_B (c : Dev nD) (t : Fin cfg0.N) (h0 : ¬t.val % 8 = 0) (y : S2x512x512.Idx) :
    (outsAt0 m c t.val t.isLt).2 y
      = (outsAt0 m c (t.val - 1) (Nat.lt_of_le_of_lt (Nat.sub_le _ _) t.isLt)).2 y
        + part (iblk m c 0 t) (iblk m c 1 t) y := by
  by_cases h1 : t.val % 8 = 7
  · rw [outsAt0_C m c t h0 h1]; frame_out
    generalize (outsAt0 m c (t.val - 1) (Nat.lt_of_le_of_lt (Nat.sub_le _ _) t.isLt)).2 = P
    unfold part
    canon_tiles x h
    all_goals
      open_payloads; pointwise
      rw [carried]
      refine congrArg₂ (fun u v : EReal => u + v) ?_ (Fin.sum_fin_congr fun k => ?_) <;> blk_point []
  · rw [outsAt0_B m c t h0 h1]; frame_out
    generalize (outsAt0 m c (t.val - 1) (Nat.lt_of_le_of_lt (Nat.sub_le _ _) t.isLt)).2 = P
    unfold part
    canon_tiles x h
    all_goals
      open_payloads; pointwise
      rw [carried]
      refine congrArg₂ (fun u v : EReal => u + v) ?_ (Fin.sum_fin_congr fun k => ?_) <;> blk_point []

/-- The transform tables, an argument. -/
abbrev table (c : Dev nD) : S2x4096x4096.Idx → EReal := m ((c : Thread nD τ).loc main_arg0)

/-- The sequences transformed, an argument. -/
abbrev seqs (c : Dev nD) : S8x4096x512.Idx → EReal := m ((c : Thread nD τ).loc main_arg1)

/-- The accumulator at the last block of positions: the whole sum. -/
theorem total (c : Dev nD) (t : Fin cfg0.N) (ht : t.val % 8 = 7) (y : S2x512x512.Idx) (z : Fin 2) (b : Fin 8) (r : Fin 4096)
    (q : Fin 512) (hz : (z : ℕ) = y 0) (hb : (b : ℕ) = t.val / 64) (hr : (r : ℕ) = t.val / 8 % 8 * 512 + y 1)
    (hq : (q : ℕ) = y 2) :
    (outsAt0 m c t.val t.isLt).2 y
      = ∑ l : Fin 4096, table m c (ix3 z r l) * seqs m c (ix3 b l q) := by
  rw [Pipeline.eq_sum_fin_of_reset_step_apply_of_flush (fun n h => (outsAt0 m c n h).2) 8 (fun _ => 0) _
    (fun t h j => state_A m c t h j) (fun t h j => state_B m c t h j) t ht y, zero_add]
  unfold part
  refine Fin.sum_mul_add_congr fun s k hl => ?_
  blk_point [iblk, table, seqs, V_main_arg0 m c, V_main_arg1 m c, place t,
    place ⟨_, Pipeline.run_point_lt_of_flush t ht s⟩]

/-- Whether a row is the first, as the kernel's word says it. -/
def isFirst (n : ℕ) : BitVec 1 := IntOp.cmpi CmpIPredicate.eq (BitVec.ofNat 32 n) 0#32

/-- A row's value: one of two products, by its weight. -/
def weigh (n : ℕ) (u v : EReal) : EReal :=
  Scalar.select (isFirst n) u v
    * Scalar.select (isFirst n) (Ideal.ofBits FTy.f32 956301312#32) (Ideal.ofBits FTy.f32 964689920#32)

/-- An entry of the packed spectrum: the cosine half, then the sine half. -/
def entry (z n : ℕ) (xc xs hc hs : EReal) : EReal :=
  if z < 1 then weigh n (xc * hc) (xc * hc - xs * hs) else weigh n (xs * hs) (xc * hs + xs * hc)

/-- A row's number, as the kernel computes it. -/
theorem number (a b : ℕ) : IntOp.addi (Scalar.muli (BitVec.ofNat 32 a) 512#32) (BitVec.ofNat 32 b)
    = BitVec.ofNat 32 (a * 512 + b) := by
  rw [BitVec.ofNat_add, BitVec.ofNat_mul]; rfl

/-- The row block of a point. -/
theorem row : ∀ t : Fin cfg0.N, (grid0.coords t 1).val = t.val / 8 % 8 :=
  (by decide +kernel : ∀ t : Fin grid0.N, _)

/-- A row's value depends on its number and the two products. -/
theorem weigh_congr {n n' : ℕ} {u u' v v' : EReal} (hn : n = n') (hu : u = u') (hv : v = v') :
    weigh n u v = weigh n' u' v' := by rw [hn, hu, hv]

/-- The block written at the last point, from the accumulator. -/
theorem written (c : Dev nD) (t : Fin cfg0.N) (ht : t.val % 8 = 7) (y : S1x2x512x512.Idx) :
    (outsAt0 m c t.val t.isLt).1 y = entry (y 1) (t.val / 8 % 8 * 512 + y 2)
      ((outsAt0 m c t.val t.isLt).2 (ix3 0 (y 2) (y 3))) ((outsAt0 m c t.val t.isLt).2 (ix3 1 (y 2) (y 3)))
      (iblk m c 2 t (ix3 0 (y 2) (y 3))) (iblk m c 2 t (ix3 1 (y 2) (y 3))) := by
  rw [outsAt0_C m c t (by omega) ht]
  frame_out
  simp only [gathered]
  generalize View.canon (Val := Elt Ideal) (s := S2x512x512) (e := .f32) _ = A
  unfold entry
  canon_tiles x h
  · rw [if_neg (by omega)]
    open_payloads; pointwise
    rw [number, row]
    refine weigh_congr ?_ ?_ ?_
    · omega
    · refine congrArg₂ (fun u v : EReal => u * v) ?_ ?_ <;> blk_point []
    · refine congrArg₂ (fun u v : EReal => u + v) (congrArg₂ (fun u v : EReal => u * v) ?_ ?_)
        (congrArg₂ (fun u v : EReal => u * v) ?_ ?_) <;> blk_point []
  · rw [if_pos (by omega)]
    open_payloads; pointwise
    rw [number, row]
    refine weigh_congr ?_ ?_ ?_
    · omega
    · refine congrArg₂ (fun u v : EReal => u * v) ?_ ?_ <;> blk_point []
    · refine congrArg₂ (fun u v : EReal => u - v) (congrArg₂ (fun u v : EReal => u * v) ?_ ?_)
        (congrArg₂ (fun u v : EReal => u * v) ?_ ?_) <;> blk_point []

/-- After the last point the result array is the reference's. -/
theorem final (c : Dev nD) : (dats m 0 c).arrAt 3 cfg0.N
    = Cert.SpectrumRefIdeal.Read.val_main_v49 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h7 : t.val % 8 = 7 := (flush0_3 t).mp hf
  blk_simp
  rw [after0_3]
  refine (written m c t h7 y).trans ?_
  have cosine : (outsAt0 m c t.val t.isLt).2 (ix3 0 (y 2) (y 3)) = _ :=
    (total m c t h7 (ix3 0 (y 2) (y 3)) 0 (((cfg0.win 3).blk t).view.emb y 0) (((cfg0.win 3).blk t).view.emb y 2)
      (((cfg0.win 3).blk t).view.emb y 3) rfl (by blk_simp [place t]) (by blk_simp [place t]) (by blk_simp [place t])).trans
      (Fin.sum_fin_congr fun l => mul_comm (_ : EReal) _)
  have sine : (outsAt0 m c t.val t.isLt).2 (ix3 1 (y 2) (y 3)) = _ :=
    (total m c t h7 (ix3 1 (y 2) (y 3)) 1 (((cfg0.win 3).blk t).view.emb y 0) (((cfg0.win 3).blk t).view.emb y 2)
      (((cfg0.win 3).blk t).view.emb y 3) rfl (by blk_simp [place t]) (by blk_simp [place t]) (by blk_simp [place t])).trans
      (Fin.sum_fin_congr fun l => mul_comm (_ : EReal) _)
  have fc : iblk m c 2 t (ix3 0 (y 2) (y 3)) = m ((c : Thread nD τ).loc main_arg2)
      (ix3 0 (((cfg0.win 3).blk t).view.emb y 2) (((cfg0.win 3).blk t).view.emb y 3)) := by
    blk_point [iblk, V_main_arg2 m c, place t]
  have fs : iblk m c 2 t (ix3 1 (y 2) (y 3)) = m ((c : Thread nD τ).loc main_arg2)
      (ix3 1 (((cfg0.win 3).blk t).view.emb y 2) (((cfg0.win 3).blk t).view.emb y 3)) := by
    blk_point [iblk, V_main_arg2 m c, place t]
  rw [cosine, sine, fc, fs]
  have hz : ((y 1 : Fin 2) : ℕ) = ((((cfg0.win 3).blk t).view.emb y 1 : Fin 2) : ℕ) := by blk_simp [place t]
  have hn : t.val / 8 % 8 * 512 + ((y 2 : Fin 512) : ℕ) = ((((cfg0.win 3).blk t).view.emb y 2 : Fin 4096) : ℕ) := by
    blk_simp [place t]
  rw [hz, hn]
  pointwise [
    Cert.SpectrumRefIdeal.Read.val_main_v49, Cert.SpectrumRefIdeal.Read.val_main_v48,
    Cert.SpectrumRefIdeal.Read.val_main_v47, Cert.SpectrumRefIdeal.Read.val_main_v46,
    Cert.SpectrumRefIdeal.Read.val_main_v45, Cert.SpectrumRefIdeal.Read.val_main_v44,
    Cert.SpectrumRefIdeal.Read.val_main_v43, Cert.SpectrumRefIdeal.Read.val_main_v42,
    Cert.SpectrumRefIdeal.Read.val_main_v41, Cert.SpectrumRefIdeal.Read.val_main_v40,
    Cert.SpectrumRefIdeal.Read.val_main_v39, Cert.SpectrumRefIdeal.Read.val_main_call2_v1,
    Cert.SpectrumRefIdeal.Read.val_main_call2_v0, Cert.SpectrumRefIdeal.Read.val_main_cst_0,
    Cert.SpectrumRefIdeal.Read.val_main_cst, Cert.SpectrumRefIdeal.Read.val_main_v38,
    Cert.SpectrumRefIdeal.Read.val_main_call1_v0, Cert.SpectrumRefIdeal.Read.val_main_v37,
    Cert.SpectrumRefIdeal.Read.val_main_v36, Cert.SpectrumRefIdeal.Read.val_main_v35,
    Cert.SpectrumRefIdeal.Read.val_main_v34, Cert.SpectrumRefIdeal.Read.val_main_v33,
    Cert.SpectrumRefIdeal.Read.val_main_v32, Cert.SpectrumRefIdeal.Read.val_main_v31,
    Cert.SpectrumRefIdeal.Read.val_main_v30, Cert.SpectrumRefIdeal.Read.val_main_v29,
    Cert.SpectrumRefIdeal.Read.val_main_v28, Cert.SpectrumRefIdeal.Read.val_main_v27,
    Cert.SpectrumRefIdeal.Read.val_main_call0_v0, Cert.SpectrumRefIdeal.Read.val_main_v26,
    Cert.SpectrumRefIdeal.Read.val_main_v25, Cert.SpectrumRefIdeal.Read.val_main_v24,
    Cert.SpectrumRefIdeal.Read.val_main_v23, Cert.SpectrumRefIdeal.Read.val_main_v22,
    Cert.SpectrumRefIdeal.Read.val_main_v21, Cert.SpectrumRefIdeal.Read.val_main_v20,
    Cert.SpectrumRefIdeal.Read.val_main_v19, Cert.SpectrumRefIdeal.Read.val_main_v18,
    Cert.SpectrumRefIdeal.Read.val_main_v17, Cert.SpectrumRefIdeal.Read.val_main_v16,
    Cert.SpectrumRefIdeal.Read.val_main_v15, Cert.SpectrumRefIdeal.Read.val_main_v14,
    Cert.SpectrumRefIdeal.Read.val_main_c, Cert.SpectrumRefIdeal.Read.val_main_v13,
    Cert.SpectrumRefIdeal.Read.val_main_v12, Cert.SpectrumRefIdeal.Read.val_main_v11,
    Cert.SpectrumRefIdeal.Read.val_main_v10, Cert.SpectrumRefIdeal.Read.val_main_v9,
    Cert.SpectrumRefIdeal.Read.val_main_v8, Cert.SpectrumRefIdeal.Read.val_main_v7,
    Cert.SpectrumRefIdeal.Read.val_main_v6, Cert.SpectrumRefIdeal.Read.val_main_v5,
    Cert.SpectrumRefIdeal.Read.val_main_v4, Cert.SpectrumRefIdeal.Read.val_main_v3,
    Cert.SpectrumRefIdeal.Read.val_main_v2, Cert.SpectrumRefIdeal.Read.val_main_v1,
    Cert.SpectrumRefIdeal.Read.val_main_v0]
  unfold entry
  split
  · rfl
  · rfl

end Cert.SpectrumIdeal.Tiles

end
-- ==== Proof.SpectrumClaims.lean ====
/-
  The claims about the long convolution's forward transform and product with the filter.
-/
module

public import proofs.«01_k».proof.Defs
public import proofs.«01_k».proof.Proof.Gen.Spectrum.Frame
public import proofs.«01_k».proof.Proof.Gen.SpectrumIdeal.Frame
public import proofs.«01_k».proof.Proof.Gen.SpectrumRefIdeal.Run
public import proofs.«01_k».proof.Proof.Gen.SpectrumRefIdeal.Read
public import proofs.«01_k».proof.Proof.SpectrumTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.Spectrum

/-- The reference's program leaves its arguments as they were and every semaphore at zero. -/
theorem reference_frame : quiescent_SpectrumRefIdeal (hSpectrumRefIdeal := Cert.SpectrumRefIdeal.Gen.facts) :=
  fun m ρ _ => (θ_run Cert.SpectrumRefIdeal.defs _ _).mono
    (fun r h => ⟨fun c => (h c).2, Idealize.ShloMosaic.sem_eq_zero_of_no_sems (by decide) r.2⟩)
    (Cert.SpectrumRefIdeal.Value.run (F := Ideal) m ρ)

/-- Over the extended reals the call's result array is the reference's. -/
theorem value : algebraic_SpectrumIdeal_SpectrumRefIdeal (hSpectrumIdeal := Cert.SpectrumIdeal.Gen.facts) (hSpectrumRefIdeal := Cert.SpectrumRefIdeal.Gen.facts) := by
  pair_intro
  · run_from Cert.SpectrumIdeal.Gen.run_main m g
  · run_from Cert.SpectrumRefIdeal.Value.run m' g'
    refine (Cert.SpectrumRefIdeal.Read.val_main_v49_eq m' c).trans ?_
    obtain ⟨h0, h1, h2⟩ := hagree c
    exact Eq.trans (congr (congrArg₂ _ h0 h1) h2) (Cert.SpectrumIdeal.Tiles.final m c).symm

end Cert.Proof.Spectrum

end
-- ==== Proof.LongConvTiles.lean ====
/-
  The long convolution's inverse transform with its skip and gate: what its result array ends holding.
-/
module

public import proofs.«01_k».proof.Proof.Gen.LongConvIdeal.Frame
public import proofs.«01_k».proof.Proof.Gen.LongConvRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LongConvIdeal.Tiles

open Cert.LongConvIdeal Cert.LongConvIdeal.Gen

variable (m : (ℓ : Loc nD τ sig) → Buf (Elt Ideal) ℓ)

/-- Where each window's block sits: eight sequences, in each eight blocks of 512 output positions, in each eight blocks of 512
    frequencies, the frequencies running fastest. -/
theorem place : ∀ t : Fin cfg0.N, (win0_0.index t 0 = 0 ∧ win0_0.index t 1 = t.val / 8 % 8 ∧ win0_0.index t 2 = t.val % 8)
    ∧ (win0_1.index t 0 = t.val / 64 ∧ win0_1.index t 1 = 0 ∧ win0_1.index t 2 = t.val % 8 ∧ win0_1.index t 3 = 0)
    ∧ (win0_2.index t 0 = t.val / 64 ∧ win0_2.index t 1 = t.val / 8 % 8 ∧ win0_2.index t 2 = 0)
    ∧ (win0_3.index t 0 = t.val / 64 ∧ win0_3.index t 1 = t.val / 8 % 8 ∧ win0_3.index t 2 = 0)
    ∧ (win0_4.index t 0 = 0 ∧ win0_4.index t 1 = 0)
    ∧ (win0_5.index t 0 = t.val / 64 ∧ win0_5.index t 1 = t.val / 8 % 8 ∧ win0_5.index t 2 = 0) :=
  (by decide +kernel : ∀ t : Fin grid0.N, _)

/-- The skip weights as the region finds them: the argument, laid out as one row. -/
theorem scale (c : Dev nD) (z : Fin 1) (q : Fin 512) : V m c main_v0 (ix2 z q : S1x512.Idx)
    = m ((c : Thread nD τ).loc main_arg4) (ix1 q : S512.Idx) := by
  entry_read
  pointwise

/-- One block of frequencies adds its cosine part and its sine part. -/
theorem added (acc : FVec Ideal S512x512 .f32) (a : FVec Ideal S1x512x512 .bf16) (p : FVec Ideal S1x1x512x512 .bf16)
    (b : FVec Ideal S1x512x512 .bf16) (q : FVec Ideal S1x1x512x512 .bf16) (j : S512x512.Idx) :
    k0_pay2 (F := Ideal) acc a p b q j
      = acc j + (∑ k : Fin 512, a (ix3 0 (j 0) k) * p (ix4 0 0 k (j 1)) + ∑ k : Fin 512, b (ix3 0 (j 0) k) * q (ix4 0 0 k (j 1))) := by
  pointwise [k0_pay2]

theorem cleared (j : S512x512.Idx) : k0_pay1 (F := Ideal) j = 0 := by pointwise [k0_pay1]

/-- What the accumulator held before, read back. -/
theorem carried (P : Vec Ideal S512x512 .f32) :
    View.read (Elt Ideal) (View.whole cc0_scratch0) ((Memref.isWhole_whole cc0_scratch0).unread P) = P :=
  (Memref.isWhole_whole cc0_scratch0).read_unread P

/-- The inverse tables, an argument. -/
abbrev table (c : Dev nD) : S2x4096x4096.Idx → EReal := (m ((c : Thread nD τ).loc main_arg0))

/-- The packed product spectrum, an argument. -/
abbrev packed (c : Dev nD) : S8x2x4096x512.Idx → EReal := (m ((c : Thread nD τ).loc main_arg1))

/-- The accumulator at the last block of frequencies: the whole cosine sum and the whole sine sum. -/
theorem total (c : Dev nD) (t : Fin cfg0.N) (ht : t.val % 8 = 7) (j : S512x512.Idx) (b : Fin 8) (r : Fin 4096)
    (hb : (b : ℕ) = t.val / 64) (hr : (r : ℕ) = t.val / 8 % 8 * 512 + j 0) :
    (outsAt0 m c t.val t.isLt).2 j
      = ∑ l : Fin 4096, table m c (ix3 0 r l : S2x4096x4096.Idx) * packed m c (ix4 b 0 l (j 1) : S8x2x4096x512.Idx)
        + ∑ l : Fin 4096, table m c (ix3 1 r l : S2x4096x4096.Idx) * packed m c (ix4 b 1 l (j 1) : S8x2x4096x512.Idx) := by
  rw [Pipeline.eq_sum_fin_of_reset_step_apply_of_flush (fun n h => (outsAt0 m c n h).2) 8 (fun _ => 0) _
    (fun t h j => by rw [outsAt0_A m c t h (by omega)]; frame_out; rw [added, cleared])
    (fun t h j => by
      by_cases h1 : t.val % 8 = 7
      · rw [outsAt0_C m c t h h1]; frame_out; rw [added, carried]
      · rw [outsAt0_B m c t h h1]; frame_out; rw [added, carried])
    t ht j, zero_add]
  refine Eq.trans Finset.sum_add_distrib (congrArg₂ (· + ·) (Fin.sum_mul_add_congr fun s k hl => ?_)
    (Fin.sum_mul_add_congr fun s k hl => ?_))
  · blk_point [iblk, table, packed, V_main_arg0 m c, V_main_arg1 m c, place t, place ⟨_, Pipeline.run_point_lt_of_flush t ht s⟩]
  · blk_point [iblk, table, packed, V_main_arg0 m c, V_main_arg1 m c, place t, place ⟨_, Pipeline.run_point_lt_of_flush t ht s⟩]

/-- The block written at the last point, from the accumulator. -/
theorem written (c : Dev nD) (t : Fin cfg0.N) (ht : t.val % 8 = 7) (y : S1x512x512.Idx) :
    (outsAt0 m c t.val t.isLt).1 y
      = k0_pay3 (F := Ideal) (outsAt0 m c t.val t.isLt).2 (iblk m c 2 t) (iblk m c 4 t) (iblk m c 3 t) y := by
  rw [outsAt0_C m c t (by omega) ht]
  frame_out

/-- After the last point the result array is the reference's. -/
theorem final (c : Dev nD) : (dats m 0 c).arrAt 5 cfg0.N
    = Cert.LongConvRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h7 : t.val % 8 = 7 := (flush0_5 t).mp hf
  blk_simp
  rw [after0_5]
  refine (written m c t h7 y).trans ?_
  pointwise [k0_pay3,
    Cert.LongConvRefIdeal.Read.val_main_v20, Cert.LongConvRefIdeal.Read.val_main_v19,
    Cert.LongConvRefIdeal.Read.val_main_v18, Cert.LongConvRefIdeal.Read.val_main_v17,
    Cert.LongConvRefIdeal.Read.val_main_v16, Cert.LongConvRefIdeal.Read.val_main_v15,
    Cert.LongConvRefIdeal.Read.val_main_v14, Cert.LongConvRefIdeal.Read.val_main_v13,
    Cert.LongConvRefIdeal.Read.val_main_v12, Cert.LongConvRefIdeal.Read.val_main_v11,
    Cert.LongConvRefIdeal.Read.val_main_v10, Cert.LongConvRefIdeal.Read.val_main_v9,
    Cert.LongConvRefIdeal.Read.val_main_v8, Cert.LongConvRefIdeal.Read.val_main_v7,
    Cert.LongConvRefIdeal.Read.val_main_v6, Cert.LongConvRefIdeal.Read.val_main_v5,
    Cert.LongConvRefIdeal.Read.val_main_v4, Cert.LongConvRefIdeal.Read.val_main_v3,
    Cert.LongConvRefIdeal.Read.val_main_v2, Cert.LongConvRefIdeal.Read.val_main_v1,
    Cert.LongConvRefIdeal.Read.val_main_v0]
  refine congrArg₂ (· * ·) (congrArg₂ (· + ·) ((total m c t h7 _ (((cfg0.win 5).blk t).view.emb y 0)
    (((cfg0.win 5).blk t).view.emb y 1) ?_ ?_).trans (congrArg₂ (· + ·) (Fin.sum_fin_congr fun k => ?_)
    (Fin.sum_fin_congr fun k => ?_))) (congrArg₂ (· * ·) ?_ (Eq.trans ?_ (scale m c 0 _)))) ?_
  · blk_simp [place t]
  · blk_simp [place t]
  · refine (mul_comm (_ : EReal) _).trans (congrArg₂ (fun u v : EReal => u * v) ?_ ?_) <;> blk_point [table, packed, place t]
  · refine (mul_comm (_ : EReal) _).trans (congrArg₂ (fun u v : EReal => u * v) ?_ ?_) <;> blk_point [table, packed, place t]
  · blk_point [iblk, V_main_arg2 m c, place t]
  · blk_point [iblk, place t]
  · blk_point [iblk, V_main_arg3 m c, place t]

end Cert.LongConvIdeal.Tiles

end
-- ==== Proof.LongConvClaims.lean ====
/-
  The claims about the long convolution's inverse transform.
-/
module

public import proofs.«01_k».proof.Defs
public import proofs.«01_k».proof.Proof.Gen.LongConv.Frame
public import proofs.«01_k».proof.Proof.Gen.LongConvIdeal.Frame
public import proofs.«01_k».proof.Proof.Gen.LongConvRefIdeal.Run
public import proofs.«01_k».proof.Proof.LongConvTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.LongConv

/-- The reference's program leaves its arguments as they were and every semaphore at zero. -/
theorem reference_frame : quiescent_LongConvRefIdeal (hLongConvRefIdeal := Cert.LongConvRefIdeal.Gen.facts) :=
  fun m ρ _ => (θ_run Cert.LongConvRefIdeal.defs _ _).mono
    (fun r h => ⟨fun c => (h c).2, Idealize.ShloMosaic.sem_eq_zero_of_no_sems (by decide) r.2⟩)
    (Cert.LongConvRefIdeal.Value.run (F := Ideal) m ρ)

/-- Over the extended reals the call's result array is the reference's. -/
theorem value : algebraic_LongConvIdeal_LongConvRefIdeal (hLongConvIdeal := Cert.LongConvIdeal.Gen.facts) (hLongConvRefIdeal := Cert.LongConvRefIdeal.Gen.facts) := by
  pair_intro
  · run_from Cert.LongConvIdeal.Gen.run_main m g
  · run_from Cert.LongConvRefIdeal.Value.run m' g'
    exact (Cert.LongConvIdeal.Tiles.final m c).symm

end Cert.Proof.LongConv

end
-- ==== Proof.Words.lean ====
/-
  The float words the programs spell, as the real numbers they are.
-/
module

public import Idealize.ShloMosaic.PureOps.Ideal
public import Idealize.ShloMosaic.PureOps.Ideal.Laws
public import Idealize.ShloMosaic.PureOps.IdealRules

@[expose] public section

noncomputable section

namespace Cert.Words

open Idealize.ShloMosaic

/-- The word of two. -/
theorem two : Ideal.ofBits .f32 0x40000000#32 = ((2 : ℝ) : EReal) := by
  simp [Ideal.ofBits, Ideal.ieee, -EReal.coe_mul]; norm_num

/-- The word of 128. -/
theorem w128 : Ideal.ofBits .f32 0x43000000#32 = ((128 : ℝ) : EReal) := by
  simp [Ideal.ofBits, Ideal.ieee, -EReal.coe_mul]; norm_num

/-- The word of 524288. -/
theorem w524288 : Ideal.ofBits .f32 0x49000000#32 = ((524288 : ℝ) : EReal) := by
  simp [Ideal.ofBits, Ideal.ieee, -EReal.coe_mul]; norm_num

/-- Dividing by the root of a positive number is multiplying by its inverse. -/
theorem div_root (x : EReal) (r : ℝ) (hr : 0 < r) :
    Ideal.div x (Ideal.sqrt (r : EReal)) = x * (((Real.sqrt r)⁻¹ : ℝ) : EReal) := by
  rw [Ideal.sqrt_coe, if_neg (not_lt.mpr hr.le), Ideal.div_coe (Real.sqrt_pos.mpr hr).ne', one_div]

end Cert.Words

end
-- ==== Proof.ExpertsTiles.lean ====
/-
  The experts: what their result array ends holding.
-/
module

public import proofs.«01_k».proof.Proof.Gen.ExpertsIdeal.Frame
public import proofs.«01_k».proof.Proof.Gen.ExpertsRefIdeal.Read
public import Idealize.ShloMosaic.Lib.Pipeline.ValueKit
public import Idealize.ShloMosaic.Lib.Claim
public import Idealize.ShloMosaic.Lib.Pointwise
public import Idealize.ShloMosaic.Lib.Pipeline.ReadBack
public import Idealize.ShloMosaic.PureOps.Ideal.Laws
public import proofs.«01_k».proof.Proof.Words

@[expose] public section

set_option maxRecDepth 16384

noncomputable section

open Idealize.ShloMosaic Idealize.ShloMosaic.TcCoe Idealize.SL.Sem
open Idealize.ShloMosaic.Pipeline (Dat)

namespace Cert.ExpertsIdeal.Tiles

open Cert.ExpertsIdeal Cert.ExpertsIdeal.Gen

variable (m : (ℓ : Loc nD τ sig) → Buf (Elt Ideal) ℓ)

/-- Where each window's block sits: blocks of 512 tokens, in each 32 blocks of 512 experts, the experts running fastest. -/
theorem place : ∀ t : Fin cfg0.N, (win0_0.index t 0 = t.val / 32 ∧ win0_0.index t 1 = 0)
    ∧ (win0_1.index t 0 = t.val % 32 ∧ win0_1.index t 1 = 0)
    ∧ (win0_2.index t 0 = 0 ∧ win0_2.index t 1 = t.val % 32)
    ∧ (win0_3.index t 0 = 0 ∧ win0_3.index t 1 = 0 ∧ win0_3.index t 2 = t.val / 32)
    ∧ (win0_4.index t 0 = 0 ∧ win0_4.index t 1 = 0 ∧ win0_4.index t 2 = t.val / 32)
    ∧ (win0_5.index t 0 = 0 ∧ win0_5.index t 1 = 0 ∧ win0_5.index t 2 = t.val / 32)
    ∧ (win0_6.index t 0 = 0 ∧ win0_6.index t 1 = 0 ∧ win0_6.index t 2 = t.val / 32)
    ∧ (win0_7.index t 0 = 0 ∧ win0_7.index t 1 = 0 ∧ win0_7.index t 2 = t.val / 32)
    ∧ (win0_8.index t 0 = t.val / 32 ∧ win0_8.index t 1 = 0) :=
  (by decide +kernel : ∀ t : Fin grid0.N, _)

/-- The block of experts of a point. -/
theorem turn : ∀ t : Fin cfg0.N, ((grid0.coords t) 1).val = t.val % 32 := (by decide +kernel : ∀ t : Fin grid0.N, _)

/-- One head's share of a gate: the weight where the score reaches the threshold. -/
def chosen (t a b e f : EReal) : EReal := if t ≤ a + b then e * f else 0

/-- The exact gelu of a pre-activation. -/
def gelu (x : EReal) : EReal :=
  Ideal.ofBits FTy.f32 0x3F000000#32 * x * (1 + Ideal.erf (x * (Named.named κ "inv_sqrt2" 0x3F3504F3#32 : Ideal .f32)))

/-- What one head adds to a row block of the gate. -/
theorem picked (A1 E1 T : FVec Ideal S1x1x512 .f32) (A2 E2 : FVec Ideal S1x128x512 .f32) (j : Fin 128) (q : Fin 512) :
    select (cmpf .oge (addf (broadcastTo S128x512 (shapeCast S1x512 A1 shapeCasts_S1x1x512_S1x512) broadcasts_S1x512_S128x512)
          (shapeCast S128x512 A2 shapeCasts_S1x128x512_S128x512))
        (broadcastTo S128x512 (shapeCast S1x512 T shapeCasts_S1x1x512_S1x512) broadcasts_S1x512_S128x512))
      (mulf (shapeCast S128x512 E2 shapeCasts_S1x128x512_S128x512)
        (broadcastTo S128x512 (shapeCast S1x512 E1 shapeCasts_S1x1x512_S1x512) broadcasts_S1x512_S128x512))
      (broadcast S128x512 (FloatOps.ofBits (F := Ideal) FTy.f32 0#32)) (ix2 j q)
      = chosen (T (ix3 0 0 q)) (A1 (ix3 0 0 q)) (A2 (ix3 0 j q)) (E2 (ix3 0 j q)) (E1 (ix3 0 0 q)) := by
  unfold chosen
  pointwise

/-- What the last head adds to the last row block. -/
theorem picked_last (A1 E1 T : FVec Ideal S1x1x512 .f32) (A2 E2 : FVec Ideal S1x128x512 .f32) (j : Fin 128) (q : Fin 512) :
    chosen (T (ix3 0 0 q))
      (broadcastTo S128x512 (shapeCast S1x512 A1 shapeCasts_S1x1x512_S1x512) broadcasts_S1x512_S128x512 (ix2 j q))
      (shapeCast S128x512 A2 shapeCasts_S1x128x512_S128x512 (ix2 j q)) (E2 (ix3 0 j q))
      (shapeCast S1x512 E1 shapeCasts_S1x1x512_S1x512 (ix2 0 q))
      = chosen (T (ix3 0 0 q)) (A1 (ix3 0 0 q)) (A2 (ix3 0 j q)) (E2 (ix3 0 j q)) (E1 (ix3 0 0 q)) := by
  pointwise

/-- Four row blocks stacked. -/
def stacked (a b c d : Fin 128 → Fin 512 → EReal) (k q : Fin 512) : EReal :=
  if h : (k : ℕ) < 128 then a ⟨k, h⟩ q
  else if h : (k : ℕ) - 128 < 128 then b ⟨(k : ℕ) - 128, h⟩ q
  else if h : (k : ℕ) - 128 - 128 < 128 then c ⟨(k : ℕ) - 128 - 128, h⟩ q
  else d ⟨(k : ℕ) - 128 - 128 - 128, by omega⟩ q

/-- The stack, when each row block is one function's. -/
theorem stacked_eq (a b c d : Fin 128 → Fin 512 → EReal) (G : Fin 4 → Fin 128 → Fin 512 → EReal) (k q : Fin 512)
    (ha : ∀ j q, a j q = G 0 j q) (hb : ∀ j q, b j q = G 1 j q) (hc : ∀ j q, c j q = G 2 j q)
    (hd : ∀ j q, d j q = G 3 j q) :
    stacked a b c d k q = G ⟨(k : ℕ) / 128, by omega⟩ ⟨(k : ℕ) % 128, by omega⟩ q := by
  have key : ∀ (p p' : Fin 4) (j j' : Fin 128), (p : ℕ) = p' → (j : ℕ) = j' → G p j q = G p' j' q :=
    fun p p' j j' h h' => by rw [Fin.ext h, Fin.ext h']
  unfold stacked
  split_ifs with h h' h''
  · exact (ha _ _).trans (key _ _ _ _ (by show 0 = (k : ℕ) / 128; omega) (by show (k : ℕ) = (k : ℕ) % 128; omega))
  · exact (hb _ _).trans (key _ _ _ _ (by show 1 = (k : ℕ) / 128; omega) (by show (k : ℕ) - 128 = (k : ℕ) % 128; omega))
  · exact (hc _ _).trans (key _ _ _ _ (by show 2 = (k : ℕ) / 128; omega)
      (by show (k : ℕ) - 128 - 128 = (k : ℕ) % 128; omega))
  · exact (hd _ _).trans (key _ _ _ _ (by show 3 = (k : ℕ) / 128; omega)
      (by show (k : ℕ) - 128 - 128 - 128 = (k : ℕ) % 128; omega))

/-- The accumulator stored: what it held, and the block's share. -/
theorem paid (v13 : FVec Ideal S512x512 .f32) (v182 v351 v520 v668 : FVec Ideal S128x512 .f32) (v674 : FVec Ideal S1x512 .f32)
    (v676 v677 : FVec Ideal S128x512 .f32) (v679 : Vec Ideal S1x1x512 .f32) (v683 : Vec Ideal S1x128x512 .f32)
    (v691 : Vec Ideal S2048x512 .f32) (v692 : Vec Ideal S2048x512 .bf16) (y : S2048x512.Idx) :
    k0_pay54 (F := Ideal) v13 v182 v351 v520 v668 v674 v676 v677 v679 v683 v691 v692 y
      = (fun u v : EReal => u + v) (v691 y) (∑ k : Fin 512, (fun u v : EReal => u * v) (v692 (ix2 (y 0) k))
          ((fun u v : EReal => u * v) (v13 (ix2 k (y 1)))
            (stacked (fun j q => v182 (ix2 j q)) (fun j q => v351 (ix2 j q)) (fun j q => v520 (ix2 j q))
              (fun j q => (fun u v : EReal => u + v) (v668 (ix2 j q)) (chosen (v679 (ix3 0 0 q)) (v677 (ix2 j q)) (v676 (ix2 j q))
                (v683 (ix3 0 j q)) (v674 (ix2 0 q)))) k (y 1)))) := by
  unfold stacked chosen
  pointwise [k0_pay54]

/-- A block of activations. -/
theorem acted (v3 v4 : Vec Ideal S512x2048 .bf16) (y : S512x512.Idx) (A B : S512x2048.Idx → EReal) (hA : v3 = A) (hB : v4 = B) :
    k0_pay3 (F := Ideal) v3 v4 y = gelu (∑ j : Fin 2048, A (ix2 (y 0) j) * B (ix2 (y 1) j)) := by
  subst hA hB
  unfold gelu
  pointwise [k0_pay3]
  rfl

/-- A gate of a point: over the heads, the weights of the pairs that score high enough. -/
def gate (X3 X4 X5 X6 : S8x128x512.Idx → EReal) (X7 : S8x1x512.Idx → EReal) (e : Fin 32) (p : Fin 4) (j : Fin 128) (q : Fin 512) : EReal :=
  ∑ h : Fin 8, chosen (X7 (ix3 h 0 q)) (X3 (ix3 h ⟨4 * (e : ℕ) + p, by omega⟩ q)) (X4 (ix3 h j q)) (X6 (ix3 h j q))
    (X5 (ix3 h ⟨4 * (e : ℕ) + p, by omega⟩ q))

/-- What one block of experts adds to an entry of the accumulator. -/
def part (X0 X1 : S512x2048.Idx → EReal) (X2 : S2048x512.Idx → EReal) (X3 X4 X5 X6 : S8x128x512.Idx → EReal)
    (X7 : S8x1x512.Idx → EReal) (e : Fin 32) (y : S2048x512.Idx) : EReal :=
  ∑ k : Fin 512, X2 (ix2 (y 0) k) * (gelu (∑ j : Fin 2048, X1 (ix2 k j) * X0 (ix2 (y 1) j))
    * gate X3 X4 X5 X6 X7 e ⟨(k : ℕ) / 128, by omega⟩ ⟨(k : ℕ) % 128, by omega⟩ (y 1))

/-- One head's weight from the loads of a point is the weight of the blocks' entries. -/
theorem took (X3 X4 X5 X6 : Vec Ideal S8x128x512 .f32) (X7 : Vec Ideal S8x1x512 .f32) (h : Fin 8) (e : Fin 32) (p : Fin 4) (j : Fin 128)
    (q : Fin 512) (o3 o5 ok o7 : Fin 3 → ℕ) (i3 i5 i4 i6 i7) (h3 : o3 = ![(h : ℕ), 4 * (e : ℕ) + p, 0])
    (h5 : o5 = ![(h : ℕ), 4 * (e : ℕ) + p, 0]) (hk : ok = ![(h : ℕ), 0, 0]) (h7 : o7 = ![(h : ℕ), 0, 0]) :
    chosen (View.ld X7 (Rect.unit (s := S8x1x512) o7 ![1, 1, 512] i7) (ix3 0 0 q : S1x1x512.Idx))
        (View.ld X3 (Rect.unit (s := S8x128x512) o3 ![1, 1, 512] i3) (ix3 0 0 q : S1x1x512.Idx))
        (View.ld X4 (Rect.unit (s := S8x128x512) ok ![1, 128, 512] i4) (ix3 0 j q : S1x128x512.Idx))
        (View.ld X6 (Rect.unit (s := S8x128x512) ok ![1, 128, 512] i6) (ix3 0 j q : S1x128x512.Idx))
        (View.ld X5 (Rect.unit (s := S8x128x512) o5 ![1, 1, 512] i5) (ix3 0 0 q : S1x1x512.Idx))
      = chosen (X7 (ix3 h 0 q)) (X3 (ix3 h ⟨4 * (e : ℕ) + p, by omega⟩ q)) (X4 (ix3 h j q)) (X6 (ix3 h j q))
          (X5 (ix3 h ⟨4 * (e : ℕ) + p, by omega⟩ q)) := by
  subst h3 h5 hk h7
  refine congr (congr (congr (congrArg₂ chosen ?_ ?_) ?_) ?_) ?_ <;>
    refine View.ld_unit_apply_of _ _ _ _ _ _ fun a => ?_ <;> fin_cases a
  all_goals first
    | rfl
    | exact (Nat.zero_add _).symm

/-- What the accumulator held before, read back. -/
theorem carried (P : Vec Ideal S2048x512 .f32) :
    View.read (Elt Ideal) (View.whole cc0_scratch0) ((Memref.isWhole_whole cc0_scratch0).unread P) = P :=
  (Memref.isWhole_whole cc0_scratch0).read_unread P

set_option maxHeartbeats 2000000 in
/-- The first block of experts leaves its own share. -/
theorem state_A (c : Dev nD) (t : Fin cfg0.N) (h0 : t.val % 32 = 0) (y : S2048x512.Idx) :
    (outsAt0 m c t.val t.isLt).2 y = 0 + part (iblk m c 0 t) (iblk m c 1 t) (iblk m c 2 t) (iblk m c 3 t) (iblk m c 4 t) (iblk m c 5 t) (iblk m c 6 t)
          (iblk m c 7 t) ⟨t.val % 32, by omega⟩ y := by
  rw [outsAt0_A m c t h0 (by omega)]; frame_out
  refine (paid _ _ _ _ _ _ _ _ _ _ _ _ _).trans ?_
  unfold part
  refine congrArg₂ (fun u v : EReal => u + v) ?_ (Fin.sum_fin_congr fun k => congrArg₂ (fun u v : EReal => u * v) rfl
    (congrArg₂ (fun u v : EReal => u * v) (acted _ _ _ _ _ ?_ ?_)
      (stacked_eq _ _ _ _ (gate (iblk m c 3 t) (iblk m c 4 t) (iblk m c 5 t) (iblk m c 6 t) (iblk m c 7 t) ⟨t.val % 32, by omega⟩) k _ ?_ ?_ ?_ ?_)))
  · pointwise [k0_pay2]
  · rfl
  · rfl
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 0 j q _ _ _ _ _ _ _ _ _
        ((k0_off1_eq (grid0.coords t) 0).trans (congrArg (fun e : ℕ => ![0, 4 * e + 0, 0]) (turn t)))
        ((k0_off1_eq (grid0.coords t) 0).trans (congrArg (fun e : ℕ => ![0, 4 * e + 0, 0]) (turn t))) rfl rfl)
    · exact (picked _ _ _ _ _ _ _).trans
        (took (iblk m c 3 t) (iblk m c 4 t) (iblk m c 5 t) (iblk m c 6 t) (iblk m c 7 t) 1 ⟨t.val % 32, by omega⟩ 0 j q _ _ _ _ _ _ _ _ _
        ((k0_off2_eq (grid0.coords t) 0).trans (congrArg (fun e : ℕ => ![1, 4 * e + 0, 0]) (turn t)))
        ((k0_off2_eq (grid0.coords t) 0).trans (congrArg (fun e : ℕ => ![1, 4 * e + 0, 0]) (turn t))) rfl rfl)
    · exact (picked _ _ _ _ _ _ _).trans
        (took (iblk m c 3 t) (iblk m c 4 t) (iblk m c 5 t) (iblk m c 6 t) (iblk m c 7 t) 2 ⟨t.val % 32, by omega⟩ 0 j q _ _ _ _ _ _ _ _ _
        ((k0_off3_eq (grid0.coords t) 0).trans (congrArg (fun e : ℕ => ![2, 4 * e + 0, 0]) (turn t)))
        ((k0_off3_eq (grid0.coords t) 0).trans (congrArg (fun e : ℕ => ![2, 4 * e + 0, 0]) (turn t))) rfl rfl)
    · exact (picked _ _ _ _ _ _ _).trans
        (took (iblk m c 3 t) (iblk m c 4 t) (iblk m c 5 t) (iblk m c 6 t) (iblk m c 7 t) 3 ⟨t.val % 32, by omega⟩ 0 j q _ _ _ _ _ _ _ _ _
        ((k0_off4_eq (grid0.coords t) 0).trans (congrArg (fun e : ℕ => ![3, 4 * e + 0, 0]) (turn t)))
        ((k0_off4_eq (grid0.coords t) 0).trans (congrArg (fun e : ℕ => ![3, 4 * e + 0, 0]) (turn t))) rfl rfl)
    · exact (picked _ _ _ _ _ _ _).trans
        (took (iblk m c 3 t) (iblk m c 4 t) (iblk m c 5 t) (iblk m c 6 t) (iblk m c 7 t) 4 ⟨t.val % 32, by omega⟩ 0 j q _ _ _ _ _ _ _ _ _
        ((k0_off5_eq (grid0.coords t) 0).trans (congrArg (fun e : ℕ => ![4, 4 * e + 0, 0]) (turn t)))
        ((k0_off5_eq (grid0.coords t) 0).trans (congrArg (fun e : ℕ => ![4, 4 * e + 0, 0]) (turn t))) rfl rfl)
    · exact (picked _ _ _ _ _ _ _).trans
        (took (iblk m c 3 t) (iblk m c 4 t) (iblk m c 5 t) (iblk m c 6 t) (iblk m c 7 t) 5 ⟨t.val % 32, by omega⟩ 0 j q _ _ _ _ _ _ _ _ _
        ((k0_off6_eq (grid0.coords t) 0).trans (congrArg (fun e : ℕ => ![5, 4 * e + 0, 0]) (turn t)))
        ((k0_off6_eq (grid0.coords t) 0).trans (congrArg (fun e : ℕ => ![5, 4 * e + 0, 0]) (turn t))) rfl rfl)
    · exact (picked _ _ _ _ _ _ _).trans
        (took (iblk m c 3 t) (iblk m c 4 t) (iblk m c 5 t) (iblk m c 6 t) (iblk m c 7 t) 6 ⟨t.val % 32, by omega⟩ 0 j q _ _ _ _ _ _ _ _ _
        ((k0_off7_eq (grid0.coords t) 0).trans (congrArg (fun e : ℕ => ![6, 4 * e + 0, 0]) (turn t)))
        ((k0_off7_eq (grid0.coords t) 0).trans (congrArg (fun e : ℕ => ![6, 4 * e + 0, 0]) (turn t))) rfl rfl)
    · exact (picked _ _ _ _ _ _ _).trans
        (took (iblk m c 3 t) (iblk m c 4 t) (iblk m c 5 t) (iblk m c 6 t) (iblk m c 7 t) 7 ⟨t.val % 32, by omega⟩ 0 j q _ _ _ _ _ _ _ _ _
        ((k0_off8_eq (grid0.coords t) 0).trans (congrArg (fun e : ℕ => ![7, 4 * e + 0, 0]) (turn t)))
        ((k0_off8_eq (grid0.coords t) 0).trans (congrArg (fun e : ℕ => ![7, 4 * e + 0, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 1 j q _ _ _ _ _ _ _ _ _
        ((k0_off1_eq (grid0.coords t) 1).trans (congrArg (fun e : ℕ => ![0, 4 * e + 1, 0]) (turn t)))
        ((k0_off1_eq (grid0.coords t) 1).trans (congrArg (fun e : ℕ => ![0, 4 * e + 1, 0]) (turn t))) rfl rfl)
    · exact (picked _ _ _ _ _ _ _).trans
        (took (iblk m c 3 t) (iblk m c 4 t) (iblk m c 5 t) (iblk m c 6 t) (iblk m c 7 t) 1 ⟨t.val % 32, by omega⟩ 1 j q _ _ _ _ _ _ _ _ _
        ((k0_off2_eq (grid0.coords t) 1).trans (congrArg (fun e : ℕ => ![1, 4 * e + 1, 0]) (turn t)))
        ((k0_off2_eq (grid0.coords t) 1).trans (congrArg (fun e : ℕ => ![1, 4 * e + 1, 0]) (turn t))) rfl rfl)
    · exact (picked _ _ _ _ _ _ _).trans
        (took (iblk m c 3 t) (iblk m c 4 t) (iblk m c 5 t) (iblk m c 6 t) (iblk m c 7 t) 2 ⟨t.val % 32, by omega⟩ 1 j q _ _ _ _ _ _ _ _ _
        ((k0_off3_eq (grid0.coords t) 1).trans (congrArg (fun e : ℕ => ![2, 4 * e + 1, 0]) (turn t)))
        ((k0_off3_eq (grid0.coords t) 1).trans (congrArg (fun e : ℕ => ![2, 4 * e + 1, 0]) (turn t))) rfl rfl)
    · exact (picked _ _ _ _ _ _ _).trans
        (took (iblk m c 3 t) (iblk m c 4 t) (iblk m c 5 t) (iblk m c 6 t) (iblk m c 7 t) 3 ⟨t.val % 32, by omega⟩ 1 j q _ _ _ _ _ _ _ _ _
        ((k0_off4_eq (grid0.coords t) 1).trans (congrArg (fun e : ℕ => ![3, 4 * e + 1, 0]) (turn t)))
        ((k0_off4_eq (grid0.coords t) 1).trans (congrArg (fun e : ℕ => ![3, 4 * e + 1, 0]) (turn t))) rfl rfl)
    · exact (picked _ _ _ _ _ _ _).trans
        (took (iblk m c 3 t) (iblk m c 4 t) (iblk m c 5 t) (iblk m c 6 t) (iblk m c 7 t) 4 ⟨t.val % 32, by omega⟩ 1 j q _ _ _ _ _ _ _ _ _
        ((k0_off5_eq (grid0.coords t) 1).trans (congrArg (fun e : ℕ => ![4, 4 * e + 1, 0]) (turn t)))
        ((k0_off5_eq (grid0.coords t) 1).trans (congrArg (fun e : ℕ => ![4, 4 * e + 1, 0]) (turn t))) rfl rfl)
    · exact (picked _ _ _ _ _ _ _).trans
        (took (iblk m c 3 t) (iblk m c 4 t) (iblk m c 5 t) (iblk m c 6 t) (iblk m c 7 t) 5 ⟨t.val % 32, by omega⟩ 1 j q _ _ _ _ _ _ _ _ _
        ((k0_off6_eq (grid0.coords t) 1).trans (congrArg (fun e : ℕ => ![5, 4 * e + 1, 0]) (turn t)))
        ((k0_off6_eq (grid0.coords t) 1).trans (congrArg (fun e : ℕ => ![5, 4 * e + 1, 0]) (turn t))) rfl rfl)
    · exact (picked _ _ _ _ _ _ _).trans
        (took (iblk m c 3 t) (iblk m c 4 t) (iblk m c 5 t) (iblk m c 6 t) (iblk m c 7 t) 6 ⟨t.val % 32, by omega⟩ 1 j q _ _ _ _ _ _ _ _ _
        ((k0_off7_eq (grid0.coords t) 1).trans (congrArg (fun e : ℕ => ![6, 4 * e + 1, 0]) (turn t)))
        ((k0_off7_eq (grid0.coords t) 1).trans (congrArg (fun e : ℕ => ![6, 4 * e + 1, 0]) (turn t))) rfl rfl)
    · exact (picked _ _ _ _ _ _ _).trans
        (took (iblk m c 3 t) (iblk m c 4 t) (iblk m c 5 t) (iblk m c 6 t) (iblk m c 7 t) 7 ⟨t.val % 32, by omega⟩ 1 j q _ _ _ _ _ _ _ _ _
        ((k0_off8_eq (grid0.coords t) 1).trans (congrArg (fun e : ℕ => ![7, 4 * e + 1, 0]) (turn t)))
        ((k0_off8_eq (grid0.coords t) 1).trans (congrArg (fun e : ℕ => ![7, 4 * e + 1, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 2 j q _ _ _ _ _ _ _ _ _
        ((k0_off1_eq (grid0.coords t) 2).trans (congrArg (fun e : ℕ => ![0, 4 * e + 2, 0]) (turn t)))
        ((k0_off1_eq (grid0.coords t) 2).trans (congrArg (fun e : ℕ => ![0, 4 * e + 2, 0]) (turn t))) rfl rfl)
    · exact (picked _ _ _ _ _ _ _).trans
        (took (iblk m c 3 t) (iblk m c 4 t) (iblk m c 5 t) (iblk m c 6 t) (iblk m c 7 t) 1 ⟨t.val % 32, by omega⟩ 2 j q _ _ _ _ _ _ _ _ _
        ((k0_off2_eq (grid0.coords t) 2).trans (congrArg (fun e : ℕ => ![1, 4 * e + 2, 0]) (turn t)))
        ((k0_off2_eq (grid0.coords t) 2).trans (congrArg (fun e : ℕ => ![1, 4 * e + 2, 0]) (turn t))) rfl rfl)
    · exact (picked _ _ _ _ _ _ _).trans
        (took (iblk m c 3 t) (iblk m c 4 t) (iblk m c 5 t) (iblk m c 6 t) (iblk m c 7 t) 2 ⟨t.val % 32, by omega⟩ 2 j q _ _ _ _ _ _ _ _ _
        ((k0_off3_eq (grid0.coords t) 2).trans (congrArg (fun e : ℕ => ![2, 4 * e + 2, 0]) (turn t)))
        ((k0_off3_eq (grid0.coords t) 2).trans (congrArg (fun e : ℕ => ![2, 4 * e + 2, 0]) (turn t))) rfl rfl)
    · exact (picked _ _ _ _ _ _ _).trans
        (took (iblk m c 3 t) (iblk m c 4 t) (iblk m c 5 t) (iblk m c 6 t) (iblk m c 7 t) 3 ⟨t.val % 32, by omega⟩ 2 j q _ _ _ _ _ _ _ _ _
        ((k0_off4_eq (grid0.coords t) 2).trans (congrArg (fun e : ℕ => ![3, 4 * e + 2, 0]) (turn t)))
        ((k0_off4_eq (grid0.coords t) 2).trans (congrArg (fun e : ℕ => ![3, 4 * e + 2, 0]) (turn t))) rfl rfl)
    · exact (picked _ _ _ _ _ _ _).trans
        (took (iblk m c 3 t) (iblk m c 4 t) (iblk m c 5 t) (iblk m c 6 t) (iblk m c 7 t) 4 ⟨t.val % 32, by omega⟩ 2 j q _ _ _ _ _ _ _ _ _
        ((k0_off5_eq (grid0.coords t) 2).trans (congrArg (fun e : ℕ => ![4, 4 * e + 2, 0]) (turn t)))
        ((k0_off5_eq (grid0.coords t) 2).trans (congrArg (fun e : ℕ => ![4, 4 * e + 2, 0]) (turn t))) rfl rfl)
    · exact (picked _ _ _ _ _ _ _).trans
        (took (iblk m c 3 t) (iblk m c 4 t) (iblk m c 5 t) (iblk m c 6 t) (iblk m c 7 t) 5 ⟨t.val % 32, by omega⟩ 2 j q _ _ _ _ _ _ _ _ _
        ((k0_off6_eq (grid0.coords t) 2).trans (congrArg (fun e : ℕ => ![5, 4 * e + 2, 0]) (turn t)))
        ((k0_off6_eq (grid0.coords t) 2).trans (congrArg (fun e : ℕ => ![5, 4 * e + 2, 0]) (turn t))) rfl rfl)
    · exact (picked _ _ _ _ _ _ _).trans
        (took (iblk m c 3 t) (iblk m c 4 t) (iblk m c 5 t) (iblk m c 6 t) (iblk m c 7 t) 6 ⟨t.val % 32, by omega⟩ 2 j q _ _ _ _ _ _ _ _ _
        ((k0_off7_eq (grid0.coords t) 2).trans (congrArg (fun e : ℕ => ![6, 4 * e + 2, 0]) (turn t)))
        ((k0_off7_eq (grid0.coords t) 2).trans (congrArg (fun e : ℕ => ![6, 4 * e + 2, 0]) (turn t))) rfl rfl)
    · exact (picked _ _ _ _ _ _ _).trans
        (took (iblk m c 3 t) (iblk m c 4 t) (iblk m c 5 t) (iblk m c 6 t) (iblk m c 7 t) 7 ⟨t.val % 32, by omega⟩ 2 j q _ _ _ _ _ _ _ _ _
        ((k0_off8_eq (grid0.coords t) 2).trans (congrArg (fun e : ℕ => ![7, 4 * e + 2, 0]) (turn t)))
        ((k0_off8_eq (grid0.coords t) 2).trans (congrArg (fun e : ℕ => ![7, 4 * e + 2, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 3 j q _ _ _ _ _ _ _ _ _
        ((k0_off1_eq (grid0.coords t) 3).trans (congrArg (fun e : ℕ => ![0, 4 * e + 3, 0]) (turn t)))
        ((k0_off1_eq (grid0.coords t) 3).trans (congrArg (fun e : ℕ => ![0, 4 * e + 3, 0]) (turn t))) rfl rfl)
    · exact (picked _ _ _ _ _ _ _).trans
        (took (iblk m c 3 t) (iblk m c 4 t) (iblk m c 5 t) (iblk m c 6 t) (iblk m c 7 t) 1 ⟨t.val % 32, by omega⟩ 3 j q _ _ _ _ _ _ _ _ _
        ((k0_off2_eq (grid0.coords t) 3).trans (congrArg (fun e : ℕ => ![1, 4 * e + 3, 0]) (turn t)))
        ((k0_off2_eq (grid0.coords t) 3).trans (congrArg (fun e : ℕ => ![1, 4 * e + 3, 0]) (turn t))) rfl rfl)
    · exact (picked _ _ _ _ _ _ _).trans
        (took (iblk m c 3 t) (iblk m c 4 t) (iblk m c 5 t) (iblk m c 6 t) (iblk m c 7 t) 2 ⟨t.val % 32, by omega⟩ 3 j q _ _ _ _ _ _ _ _ _
        ((k0_off3_eq (grid0.coords t) 3).trans (congrArg (fun e : ℕ => ![2, 4 * e + 3, 0]) (turn t)))
        ((k0_off3_eq (grid0.coords t) 3).trans (congrArg (fun e : ℕ => ![2, 4 * e + 3, 0]) (turn t))) rfl rfl)
    · exact (picked _ _ _ _ _ _ _).trans
        (took (iblk m c 3 t) (iblk m c 4 t) (iblk m c 5 t) (iblk m c 6 t) (iblk m c 7 t) 3 ⟨t.val % 32, by omega⟩ 3 j q _ _ _ _ _ _ _ _ _
        ((k0_off4_eq (grid0.coords t) 3).trans (congrArg (fun e : ℕ => ![3, 4 * e + 3, 0]) (turn t)))
        ((k0_off4_eq (grid0.coords t) 3).trans (congrArg (fun e : ℕ => ![3, 4 * e + 3, 0]) (turn t))) rfl rfl)
    · exact (picked _ _ _ _ _ _ _).trans
        (took (iblk m c 3 t) (iblk m c 4 t) (iblk m c 5 t) (iblk m c 6 t) (iblk m c 7 t) 4 ⟨t.val % 32, by omega⟩ 3 j q _ _ _ _ _ _ _ _ _
        ((k0_off5_eq (grid0.coords t) 3).trans (congrArg (fun e : ℕ => ![4, 4 * e + 3, 0]) (turn t)))
        ((k0_off5_eq (grid0.coords t) 3).trans (congrArg (fun e : ℕ => ![4, 4 * e + 3, 0]) (turn t))) rfl rfl)
    · exact (picked _ _ _ _ _ _ _).trans
        (took (iblk m c 3 t) (iblk m c 4 t) (iblk m c 5 t) (iblk m c 6 t) (iblk m c 7 t) 5 ⟨t.val % 32, by omega⟩ 3 j q _ _ _ _ _ _ _ _ _
        ((k0_off6_eq (grid0.coords t) 3).trans (congrArg (fun e : ℕ => ![5, 4 * e + 3, 0]) (turn t)))
        ((k0_off6_eq (grid0.coords t) 3).trans (congrArg (fun e : ℕ => ![5, 4 * e + 3, 0]) (turn t))) rfl rfl)
    · exact (picked _ _ _ _ _ _ _).trans
        (took (iblk m c 3 t) (iblk m c 4 t) (iblk m c 5 t) (iblk m c 6 t) (iblk m c 7 t) 6 ⟨t.val % 32, by omega⟩ 3 j q _ _ _ _ _ _ _ _ _
        ((k0_off7_eq (grid0.coords t) 3).trans (congrArg (fun e : ℕ => ![6, 4 * e + 3, 0]) (turn t)))
        ((k0_off7_eq (grid0.coords t) 3).trans (congrArg (fun e : ℕ => ![6, 4 * e + 3, 0]) (turn t))) rfl rfl)
    · exact (picked_last _ _ _ _ _ _ _).trans
        (took (iblk m c 3 t) (iblk m c 4 t) (iblk m c 5 t) (iblk m c 6 t) (iblk m c 7 t) 7 ⟨t.val % 32, by omega⟩ 3 j q _ _ _ _ _ _ _ _ _
        ((k0_off8_eq (grid0.coords t) 3).trans (congrArg (fun e : ℕ => ![7, 4 * e + 3, 0]) (turn t)))
        ((k0_off8_eq (grid0.coords t) 3).trans (congrArg (fun e : ℕ => ![7, 4 * e + 3, 0]) (turn t))) rfl rfl)

set_option maxHeartbeats 2000000 in
/-- A later block of experts adds its share. -/
theorem state_B (c : Dev nD) (t : Fin cfg0.N) (h0 : ¬t.val % 32 = 0) (h1 : ¬t.val % 32 = 31) (y : S2048x512.Idx) :
    (outsAt0 m c t.val t.isLt).2 y
      = (outsAt0 m c (t.val - 1) (Nat.lt_of_le_of_lt (Nat.sub_le _ _) t.isLt)).2 y
        + part (iblk m c 0 t) (iblk m c 1 t) (iblk m c 2 t) (iblk m c 3 t) (iblk m c 4 t) (iblk m c 5 t) (iblk m c 6 t)
          (iblk m c 7 t) ⟨t.val % 32, by omega⟩ y := by
  rw [outsAt0_B m c t h0 h1]; frame_out
  generalize (outsAt0 m c (t.val - 1) (Nat.lt_of_le_of_lt (Nat.sub_le _ _) t.isLt)).2 = P
  refine (paid _ _ _ _ _ _ _ _ _ _ _ _ _).trans ?_
  unfold part
  refine congrArg₂ (fun u v : EReal => u + v) ?_ (Fin.sum_fin_congr fun k => congrArg₂ (fun u v : EReal => u * v) rfl
    (congrArg₂ (fun u v : EReal => u * v) (acted _ _ _ _ _ ?_ ?_)
      (stacked_eq _ _ _ _ (gate (iblk m c 3 t) (iblk m c 4 t) (iblk m c 5 t) (iblk m c 6 t) (iblk m c 7 t) ⟨t.val % 32, by omega⟩) k _ ?_ ?_ ?_ ?_)))
  · rw [carried]
  · rfl
  · rfl
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 0 j q _ _ _ _ _ _ _ _ _
        ((k0_off1_eq (grid0.coords t) 0).trans (congrArg (fun e : ℕ => ![0, 4 * e + 0, 0]) (turn t)))
        ((k0_off1_eq (grid0.coords t) 0).trans (congrArg (fun e : ℕ => ![0, 4 * e + 0, 0]) (turn t))) rfl rfl)
    · exact (picked _ _ _ _ _ _ _).trans
        (took (iblk m c 3 t) (iblk m c 4 t) (iblk m c 5 t) (iblk m c 6 t) (iblk m c 7 t) 1 ⟨t.val % 32, by omega⟩ 0 j q _ _ _ _ _ _ _ _ _
        ((k0_off2_eq (grid0.coords t) 0).trans (congrArg (fun e : ℕ => ![1, 4 * e + 0, 0]) (turn t)))
        ((k0_off2_eq (grid0.coords t) 0).trans (congrArg (fun e : ℕ => ![1, 4 * e + 0, 0]) (turn t))) rfl rfl)
    · exact (picked _ _ _ _ _ _ _).trans
        (took (iblk m c 3 t) (iblk m c 4 t) (iblk m c 5 t) (iblk m c 6 t) (iblk m c 7 t) 2 ⟨t.val % 32, by omega⟩ 0 j q _ _ _ _ _ _ _ _ _
        ((k0_off3_eq (grid0.coords t) 0).trans (congrArg (fun e : ℕ => ![2, 4 * e + 0, 0]) (turn t)))
        ((k0_off3_eq (grid0.coords t) 0).trans (congrArg (fun e : ℕ => ![2, 4 * e + 0, 0]) (turn t))) rfl rfl)
    · exact (picked _ _ _ _ _ _ _).trans
        (took (iblk m c 3 t) (iblk m c 4 t) (iblk m c 5 t) (iblk m c 6 t) (iblk m c 7 t) 3 ⟨t.val % 32, by omega⟩ 0 j q _ _ _ _ _ _ _ _ _
        ((k0_off4_eq (grid0.coords t) 0).trans (congrArg (fun e : ℕ => ![3, 4 * e + 0, 0]) (turn t)))
        ((k0_off4_eq (grid0.coords t) 0).trans (congrArg (fun e : ℕ => ![3, 4 * e + 0, 0]) (turn t))) rfl rfl)
    · exact (picked _ _ _ _ _ _ _).trans
        (took (iblk m c 3 t) (iblk m c 4 t) (iblk m c 5 t) (iblk m c 6 t) (iblk m c 7 t) 4 ⟨t.val % 32, by omega⟩ 0 j q _ _ _ _ _ _ _ _ _
        ((k0_off5_eq (grid0.coords t) 0).trans (congrArg (fun e : ℕ => ![4, 4 * e + 0, 0]) (turn t)))
        ((k0_off5_eq (grid0.coords t) 0).trans (congrArg (fun e : ℕ => ![4, 4 * e + 0, 0]) (turn t))) rfl rfl)
    · exact (picked _ _ _ _ _ _ _).trans
        (took (iblk m c 3 t) (iblk m c 4 t) (iblk m c 5 t) (iblk m c 6 t) (iblk m c 7 t) 5 ⟨t.val % 32, by omega⟩ 0 j q _ _ _ _ _ _ _ _ _
        ((k0_off6_eq (grid0.coords t) 0).trans (congrArg (fun e : ℕ => ![5, 4 * e + 0, 0]) (turn t)))
        ((k0_off6_eq (grid0.coords t) 0).trans (congrArg (fun e : ℕ => ![5, 4 * e + 0, 0]) (turn t))) rfl rfl)
    · exact (picked _ _ _ _ _ _ _).trans
        (took (iblk m c 3 t) (iblk m c 4 t) (iblk m c 5 t) (iblk m c 6 t) (iblk m c 7 t) 6 ⟨t.val % 32, by omega⟩ 0 j q _ _ _ _ _ _ _ _ _
        ((k0_off7_eq (grid0.coords t) 0).trans (congrArg (fun e : ℕ => ![6, 4 * e + 0, 0]) (turn t)))
        ((k0_off7_eq (grid0.coords t) 0).trans (congrArg (fun e : ℕ => ![6, 4 * e + 0, 0]) (turn t))) rfl rfl)
    · exact (picked _ _ _ _ _ _ _).trans
        (took (iblk m c 3 t) (iblk m c 4 t) (iblk m c 5 t) (iblk m c 6 t) (iblk m c 7 t) 7 ⟨t.val % 32, by omega⟩ 0 j q _ _ _ _ _ _ _ _ _
        ((k0_off8_eq (grid0.coords t) 0).trans (congrArg (fun e : ℕ => ![7, 4 * e + 0, 0]) (turn t)))
        ((k0_off8_eq (grid0.coords t) 0).trans (congrArg (fun e : ℕ => ![7, 4 * e + 0, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 1 j q _ _ _ _ _ _ _ _ _
        ((k0_off1_eq (grid0.coords t) 1).trans (congrArg (fun e : ℕ => ![0, 4 * e + 1, 0]) (turn t)))
        ((k0_off1_eq (grid0.coords t) 1).trans (congrArg (fun e : ℕ => ![0, 4 * e + 1, 0]) (turn t))) rfl rfl)
    · exact (picked _ _ _ _ _ _ _).trans
        (took (iblk m c 3 t) (iblk m c 4 t) (iblk m c 5 t) (iblk m c 6 t) (iblk m c 7 t) 1 ⟨t.val % 32, by omega⟩ 1 j q _ _ _ _ _ _ _ _ _
        ((k0_off2_eq (grid0.coords t) 1).trans (congrArg (fun e : ℕ => ![1, 4 * e + 1, 0]) (turn t)))
        ((k0_off2_eq (grid0.coords t) 1).trans (congrArg (fun e : ℕ => ![1, 4 * e + 1, 0]) (turn t))) rfl rfl)
    · exact (picked _ _ _ _ _ _ _).trans
        (took (iblk m c 3 t) (iblk m c 4 t) (iblk m c 5 t) (iblk m c 6 t) (iblk m c 7 t) 2 ⟨t.val % 32, by omega⟩ 1 j q _ _ _ _ _ _ _ _ _
        ((k0_off3_eq (grid0.coords t) 1).trans (congrArg (fun e : ℕ => ![2, 4 * e + 1, 0]) (turn t)))
        ((k0_off3_eq (grid0.coords t) 1).trans (congrArg (fun e : ℕ => ![2, 4 * e + 1, 0]) (turn t))) rfl rfl)
    · exact (picked _ _ _ _ _ _ _).trans
        (took (iblk m c 3 t) (iblk m c 4 t) (iblk m c 5 t) (iblk m c 6 t) (iblk m c 7 t) 3 ⟨t.val % 32, by omega⟩ 1 j q _ _ _ _ _ _ _ _ _
        ((k0_off4_eq (grid0.coords t) 1).trans (congrArg (fun e : ℕ => ![3, 4 * e + 1, 0]) (turn t)))
        ((k0_off4_eq (grid0.coords t) 1).trans (congrArg (fun e : ℕ => ![3, 4 * e + 1, 0]) (turn t))) rfl rfl)
    · exact (picked _ _ _ _ _ _ _).trans
        (took (iblk m c 3 t) (iblk m c 4 t) (iblk m c 5 t) (iblk m c 6 t) (iblk m c 7 t) 4 ⟨t.val % 32, by omega⟩ 1 j q _ _ _ _ _ _ _ _ _
        ((k0_off5_eq (grid0.coords t) 1).trans (congrArg (fun e : ℕ => ![4, 4 * e + 1, 0]) (turn t)))
        ((k0_off5_eq (grid0.coords t) 1).trans (congrArg (fun e : ℕ => ![4, 4 * e + 1, 0]) (turn t))) rfl rfl)
    · exact (picked _ _ _ _ _ _ _).trans
        (took (iblk m c 3 t) (iblk m c 4 t) (iblk m c 5 t) (iblk m c 6 t) (iblk m c 7 t) 5 ⟨t.val % 32, by omega⟩ 1 j q _ _ _ _ _ _ _ _ _
        ((k0_off6_eq (grid0.coords t) 1).trans (congrArg (fun e : ℕ => ![5, 4 * e + 1, 0]) (turn t)))
        ((k0_off6_eq (grid0.coords t) 1).trans (congrArg (fun e : ℕ => ![5, 4 * e + 1, 0]) (turn t))) rfl rfl)
    · exact (picked _ _ _ _ _ _ _).trans
        (took (iblk m c 3 t) (iblk m c 4 t) (iblk m c 5 t) (iblk m c 6 t) (iblk m c 7 t) 6 ⟨t.val % 32, by omega⟩ 1 j q _ _ _ _ _ _ _ _ _
        ((k0_off7_eq (grid0.coords t) 1).trans (congrArg (fun e : ℕ => ![6, 4 * e + 1, 0]) (turn t)))
        ((k0_off7_eq (grid0.coords t) 1).trans (congrArg (fun e : ℕ => ![6, 4 * e + 1, 0]) (turn t))) rfl rfl)
    · exact (picked _ _ _ _ _ _ _).trans
        (took (iblk m c 3 t) (iblk m c 4 t) (iblk m c 5 t) (iblk m c 6 t) (iblk m c 7 t) 7 ⟨t.val % 32, by omega⟩ 1 j q _ _ _ _ _ _ _ _ _
        ((k0_off8_eq (grid0.coords t) 1).trans (congrArg (fun e : ℕ => ![7, 4 * e + 1, 0]) (turn t)))
        ((k0_off8_eq (grid0.coords t) 1).trans (congrArg (fun e : ℕ => ![7, 4 * e + 1, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 2 j q _ _ _ _ _ _ _ _ _
        ((k0_off1_eq (grid0.coords t) 2).trans (congrArg (fun e : ℕ => ![0, 4 * e + 2, 0]) (turn t)))
        ((k0_off1_eq (grid0.coords t) 2).trans (congrArg (fun e : ℕ => ![0, 4 * e + 2, 0]) (turn t))) rfl rfl)
    · exact (picked _ _ _ _ _ _ _).trans
        (took (iblk m c 3 t) (iblk m c 4 t) (iblk m c 5 t) (iblk m c 6 t) (iblk m c 7 t) 1 ⟨t.val % 32, by omega⟩ 2 j q _ _ _ _ _ _ _ _ _
        ((k0_off2_eq (grid0.coords t) 2).trans (congrArg (fun e : ℕ => ![1, 4 * e + 2, 0]) (turn t)))
        ((k0_off2_eq (grid0.coords t) 2).trans (congrArg (fun e : ℕ => ![1, 4 * e + 2, 0]) (turn t))) rfl rfl)
    · exact (picked _ _ _ _ _ _ _).trans
        (took (iblk m c 3 t) (iblk m c 4 t) (iblk m c 5 t) (iblk m c 6 t) (iblk m c 7 t) 2 ⟨t.val % 32, by omega⟩ 2 j q _ _ _ _ _ _ _ _ _
        ((k0_off3_eq (grid0.coords t) 2).trans (congrArg (fun e : ℕ => ![2, 4 * e + 2, 0]) (turn t)))
        ((k0_off3_eq (grid0.coords t) 2).trans (congrArg (fun e : ℕ => ![2, 4 * e + 2, 0]) (turn t))) rfl rfl)
    · exact (picked _ _ _ _ _ _ _).trans
        (took (iblk m c 3 t) (iblk m c 4 t) (iblk m c 5 t) (iblk m c 6 t) (iblk m c 7 t) 3 ⟨t.val % 32, by omega⟩ 2 j q _ _ _ _ _ _ _ _ _
        ((k0_off4_eq (grid0.coords t) 2).trans (congrArg (fun e : ℕ => ![3, 4 * e + 2, 0]) (turn t)))
        ((k0_off4_eq (grid0.coords t) 2).trans (congrArg (fun e : ℕ => ![3, 4 * e + 2, 0]) (turn t))) rfl rfl)
    · exact (picked _ _ _ _ _ _ _).trans
        (took (iblk m c 3 t) (iblk m c 4 t) (iblk m c 5 t) (iblk m c 6 t) (iblk m c 7 t) 4 ⟨t.val % 32, by omega⟩ 2 j q _ _ _ _ _ _ _ _ _
        ((k0_off5_eq (grid0.coords t) 2).trans (congrArg (fun e : ℕ => ![4, 4 * e + 2, 0]) (turn t)))
        ((k0_off5_eq (grid0.coords t) 2).trans (congrArg (fun e : ℕ => ![4, 4 * e + 2, 0]) (turn t))) rfl rfl)
    · exact (picked _ _ _ _ _ _ _).trans
        (took (iblk m c 3 t) (iblk m c 4 t) (iblk m c 5 t) (iblk m c 6 t) (iblk m c 7 t) 5 ⟨t.val % 32, by omega⟩ 2 j q _ _ _ _ _ _ _ _ _
        ((k0_off6_eq (grid0.coords t) 2).trans (congrArg (fun e : ℕ => ![5, 4 * e + 2, 0]) (turn t)))
        ((k0_off6_eq (grid0.coords t) 2).trans (congrArg (fun e : ℕ => ![5, 4 * e + 2, 0]) (turn t))) rfl rfl)
    · exact (picked _ _ _ _ _ _ _).trans
        (took (iblk m c 3 t) (iblk m c 4 t) (iblk m c 5 t) (iblk m c 6 t) (iblk m c 7 t) 6 ⟨t.val % 32, by omega⟩ 2 j q _ _ _ _ _ _ _ _ _
        ((k0_off7_eq (grid0.coords t) 2).trans (congrArg (fun e : ℕ => ![6, 4 * e + 2, 0]) (turn t)))
        ((k0_off7_eq (grid0.coords t) 2).trans (congrArg (fun e : ℕ => ![6, 4 * e + 2, 0]) (turn t))) rfl rfl)
    · exact (picked _ _ _ _ _ _ _).trans
        (took (iblk m c 3 t) (iblk m c 4 t) (iblk m c 5 t) (iblk m c 6 t) (iblk m c 7 t) 7 ⟨t.val % 32, by omega⟩ 2 j q _ _ _ _ _ _ _ _ _
        ((k0_off8_eq (grid0.coords t) 2).trans (congrArg (fun e : ℕ => ![7, 4 * e + 2, 0]) (turn t)))
        ((k0_off8_eq (grid0.coords t) 2).trans (congrArg (fun e : ℕ => ![7, 4 * e + 2, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 3 j q _ _ _ _ _ _ _ _ _
        ((k0_off1_eq (grid0.coords t) 3).trans (congrArg (fun e : ℕ => ![0, 4 * e + 3, 0]) (turn t)))
        ((k0_off1_eq (grid0.coords t) 3).trans (congrArg (fun e : ℕ => ![0, 4 * e + 3, 0]) (turn t))) rfl rfl)
    · exact (picked _ _ _ _ _ _ _).trans
        (took (iblk m c 3 t) (iblk m c 4 t) (iblk m c 5 t) (iblk m c 6 t) (iblk m c 7 t) 1 ⟨t.val % 32, by omega⟩ 3 j q _ _ _ _ _ _ _ _ _
        ((k0_off2_eq (grid0.coords t) 3).trans (congrArg (fun e : ℕ => ![1, 4 * e + 3, 0]) (turn t)))
        ((k0_off2_eq (grid0.coords t) 3).trans (congrArg (fun e : ℕ => ![1, 4 * e + 3, 0]) (turn t))) rfl rfl)
    · exact (picked _ _ _ _ _ _ _).trans
        (took (iblk m c 3 t) (iblk m c 4 t) (iblk m c 5 t) (iblk m c 6 t) (iblk m c 7 t) 2 ⟨t.val % 32, by omega⟩ 3 j q _ _ _ _ _ _ _ _ _
        ((k0_off3_eq (grid0.coords t) 3).trans (congrArg (fun e : ℕ => ![2, 4 * e + 3, 0]) (turn t)))
        ((k0_off3_eq (grid0.coords t) 3).trans (congrArg (fun e : ℕ => ![2, 4 * e + 3, 0]) (turn t))) rfl rfl)
    · exact (picked _ _ _ _ _ _ _).trans
        (took (iblk m c 3 t) (iblk m c 4 t) (iblk m c 5 t) (iblk m c 6 t) (iblk m c 7 t) 3 ⟨t.val % 32, by omega⟩ 3 j q _ _ _ _ _ _ _ _ _
        ((k0_off4_eq (grid0.coords t) 3).trans (congrArg (fun e : ℕ => ![3, 4 * e + 3, 0]) (turn t)))
        ((k0_off4_eq (grid0.coords t) 3).trans (congrArg (fun e : ℕ => ![3, 4 * e + 3, 0]) (turn t))) rfl rfl)
    · exact (picked _ _ _ _ _ _ _).trans
        (took (iblk m c 3 t) (iblk m c 4 t) (iblk m c 5 t) (iblk m c 6 t) (iblk m c 7 t) 4 ⟨t.val % 32, by omega⟩ 3 j q _ _ _ _ _ _ _ _ _
        ((k0_off5_eq (grid0.coords t) 3).trans (congrArg (fun e : ℕ => ![4, 4 * e + 3, 0]) (turn t)))
        ((k0_off5_eq (grid0.coords t) 3).trans (congrArg (fun e : ℕ => ![4, 4 * e + 3, 0]) (turn t))) rfl rfl)
    · exact (picked _ _ _ _ _ _ _).trans
        (took (iblk m c 3 t) (iblk m c 4 t) (iblk m c 5 t) (iblk m c 6 t) (iblk m c 7 t) 5 ⟨t.val % 32, by omega⟩ 3 j q _ _ _ _ _ _ _ _ _
        ((k0_off6_eq (grid0.coords t) 3).trans (congrArg (fun e : ℕ => ![5, 4 * e + 3, 0]) (turn t)))
        ((k0_off6_eq (grid0.coords t) 3).trans (congrArg (fun e : ℕ => ![5, 4 * e + 3, 0]) (turn t))) rfl rfl)
    · exact (picked _ _ _ _ _ _ _).trans
        (took (iblk m c 3 t) (iblk m c 4 t) (iblk m c 5 t) (iblk m c 6 t) (iblk m c 7 t) 6 ⟨t.val % 32, by omega⟩ 3 j q _ _ _ _ _ _ _ _ _
        ((k0_off7_eq (grid0.coords t) 3).trans (congrArg (fun e : ℕ => ![6, 4 * e + 3, 0]) (turn t)))
        ((k0_off7_eq (grid0.coords t) 3).trans (congrArg (fun e : ℕ => ![6, 4 * e + 3, 0]) (turn t))) rfl rfl)
    · exact (picked_last _ _ _ _ _ _ _).trans
        (took (iblk m c 3 t) (iblk m c 4 t) (iblk m c 5 t) (iblk m c 6 t) (iblk m c 7 t) 7 ⟨t.val % 32, by omega⟩ 3 j q _ _ _ _ _ _ _ _ _
        ((k0_off8_eq (grid0.coords t) 3).trans (congrArg (fun e : ℕ => ![7, 4 * e + 3, 0]) (turn t)))
        ((k0_off8_eq (grid0.coords t) 3).trans (congrArg (fun e : ℕ => ![7, 4 * e + 3, 0]) (turn t))) rfl rfl)

set_option maxHeartbeats 2000000 in
/-- So does the last. -/
theorem state_C (c : Dev nD) (t : Fin cfg0.N) (h1 : t.val % 32 = 31) (y : S2048x512.Idx) :
    (outsAt0 m c t.val t.isLt).2 y
      = (outsAt0 m c (t.val - 1) (Nat.lt_of_le_of_lt (Nat.sub_le _ _) t.isLt)).2 y
        + part (iblk m c 0 t) (iblk m c 1 t) (iblk m c 2 t) (iblk m c 3 t) (iblk m c 4 t) (iblk m c 5 t) (iblk m c 6 t)
          (iblk m c 7 t) ⟨t.val % 32, by omega⟩ y := by
  rw [outsAt0_C m c t (by omega) h1]; frame_out
  generalize (outsAt0 m c (t.val - 1) (Nat.lt_of_le_of_lt (Nat.sub_le _ _) t.isLt)).2 = P
  refine (paid _ _ _ _ _ _ _ _ _ _ _ _ _).trans ?_
  unfold part
  refine congrArg₂ (fun u v : EReal => u + v) ?_ (Fin.sum_fin_congr fun k => congrArg₂ (fun u v : EReal => u * v) rfl
    (congrArg₂ (fun u v : EReal => u * v) (acted _ _ _ _ _ ?_ ?_)
      (stacked_eq _ _ _ _ (gate (iblk m c 3 t) (iblk m c 4 t) (iblk m c 5 t) (iblk m c 6 t) (iblk m c 7 t) ⟨t.val % 32, by omega⟩) k _ ?_ ?_ ?_ ?_)))
  · rw [carried]
  · rfl
  · rfl
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 0 j q _ _ _ _ _ _ _ _ _
        ((k0_off1_eq (grid0.coords t) 0).trans (congrArg (fun e : ℕ => ![0, 4 * e + 0, 0]) (turn t)))
        ((k0_off1_eq (grid0.coords t) 0).trans (congrArg (fun e : ℕ => ![0, 4 * e + 0, 0]) (turn t))) rfl rfl)
    · exact (picked _ _ _ _ _ _ _).trans
        (took (iblk m c 3 t) (iblk m c 4 t) (iblk m c 5 t) (iblk m c 6 t) (iblk m c 7 t) 1 ⟨t.val % 32, by omega⟩ 0 j q _ _ _ _ _ _ _ _ _
        ((k0_off2_eq (grid0.coords t) 0).trans (congrArg (fun e : ℕ => ![1, 4 * e + 0, 0]) (turn t)))
        ((k0_off2_eq (grid0.coords t) 0).trans (congrArg (fun e : ℕ => ![1, 4 * e + 0, 0]) (turn t))) rfl rfl)
    · exact (picked _ _ _ _ _ _ _).trans
        (took (iblk m c 3 t) (iblk m c 4 t) (iblk m c 5 t) (iblk m c 6 t) (iblk m c 7 t) 2 ⟨t.val % 32, by omega⟩ 0 j q _ _ _ _ _ _ _ _ _
        ((k0_off3_eq (grid0.coords t) 0).trans (congrArg (fun e : ℕ => ![2, 4 * e + 0, 0]) (turn t)))
        ((k0_off3_eq (grid0.coords t) 0).trans (congrArg (fun e : ℕ => ![2, 4 * e + 0, 0]) (turn t))) rfl rfl)
    · exact (picked _ _ _ _ _ _ _).trans
        (took (iblk m c 3 t) (iblk m c 4 t) (iblk m c 5 t) (iblk m c 6 t) (iblk m c 7 t) 3 ⟨t.val % 32, by omega⟩ 0 j q _ _ _ _ _ _ _ _ _
        ((k0_off4_eq (grid0.coords t) 0).trans (congrArg (fun e : ℕ => ![3, 4 * e + 0, 0]) (turn t)))
        ((k0_off4_eq (grid0.coords t) 0).trans (congrArg (fun e : ℕ => ![3, 4 * e + 0, 0]) (turn t))) rfl rfl)
    · exact (picked _ _ _ _ _ _ _).trans
        (took (iblk m c 3 t) (iblk m c 4 t) (iblk m c 5 t) (iblk m c 6 t) (iblk m c 7 t) 4 ⟨t.val % 32, by omega⟩ 0 j q _ _ _ _ _ _ _ _ _
        ((k0_off5_eq (grid0.coords t) 0).trans (congrArg (fun e : ℕ => ![4, 4 * e + 0, 0]) (turn t)))
        ((k0_off5_eq (grid0.coords t) 0).trans (congrArg (fun e : ℕ => ![4, 4 * e + 0, 0]) (turn t))) rfl rfl)
    · exact (picked _ _ _ _ _ _ _).trans
        (took (iblk m c 3 t) (iblk m c 4 t) (iblk m c 5 t) (iblk m c 6 t) (iblk m c 7 t) 5 ⟨t.val % 32, by omega⟩ 0 j q _ _ _ _ _ _ _ _ _
        ((k0_off6_eq (grid0.coords t) 0).trans (congrArg (fun e : ℕ => ![5, 4 * e + 0, 0]) (turn t)))
        ((k0_off6_eq (grid0.coords t) 0).trans (congrArg (fun e : ℕ => ![5, 4 * e + 0, 0]) (turn t))) rfl rfl)
    · exact (picked _ _ _ _ _ _ _).trans
        (took (iblk m c 3 t) (iblk m c 4 t) (iblk m c 5 t) (iblk m c 6 t) (iblk m c 7 t) 6 ⟨t.val % 32, by omega⟩ 0 j q _ _ _ _ _ _ _ _ _
        ((k0_off7_eq (grid0.coords t) 0).trans (congrArg (fun e : ℕ => ![6, 4 * e + 0, 0]) (turn t)))
        ((k0_off7_eq (grid0.coords t) 0).trans (congrArg (fun e : ℕ => ![6, 4 * e + 0, 0]) (turn t))) rfl rfl)
    · exact (picked _ _ _ _ _ _ _).trans
        (took (iblk m c 3 t) (iblk m c 4 t) (iblk m c 5 t) (iblk m c 6 t) (iblk m c 7 t) 7 ⟨t.val % 32, by omega⟩ 0 j q _ _ _ _ _ _ _ _ _
        ((k0_off8_eq (grid0.coords t) 0).trans (congrArg (fun e : ℕ => ![7, 4 * e + 0, 0]) (turn t)))
        ((k0_off8_eq (grid0.coords t) 0).trans (congrArg (fun e : ℕ => ![7, 4 * e + 0, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 1 j q _ _ _ _ _ _ _ _ _
        ((k0_off1_eq (grid0.coords t) 1).trans (congrArg (fun e : ℕ => ![0, 4 * e + 1, 0]) (turn t)))
        ((k0_off1_eq (grid0.coords t) 1).trans (congrArg (fun e : ℕ => ![0, 4 * e + 1, 0]) (turn t))) rfl rfl)
    · exact (picked _ _ _ _ _ _ _).trans
        (took (iblk m c 3 t) (iblk m c 4 t) (iblk m c 5 t) (iblk m c 6 t) (iblk m c 7 t) 1 ⟨t.val % 32, by omega⟩ 1 j q _ _ _ _ _ _ _ _ _
        ((k0_off2_eq (grid0.coords t) 1).trans (congrArg (fun e : ℕ => ![1, 4 * e + 1, 0]) (turn t)))
        ((k0_off2_eq (grid0.coords t) 1).trans (congrArg (fun e : ℕ => ![1, 4 * e + 1, 0]) (turn t))) rfl rfl)
    · exact (picked _ _ _ _ _ _ _).trans
        (took (iblk m c 3 t) (iblk m c 4 t) (iblk m c 5 t) (iblk m c 6 t) (iblk m c 7 t) 2 ⟨t.val % 32, by omega⟩ 1 j q _ _ _ _ _ _ _ _ _
        ((k0_off3_eq (grid0.coords t) 1).trans (congrArg (fun e : ℕ => ![2, 4 * e + 1, 0]) (turn t)))
        ((k0_off3_eq (grid0.coords t) 1).trans (congrArg (fun e : ℕ => ![2, 4 * e + 1, 0]) (turn t))) rfl rfl)
    · exact (picked _ _ _ _ _ _ _).trans
        (took (iblk m c 3 t) (iblk m c 4 t) (iblk m c 5 t) (iblk m c 6 t) (iblk m c 7 t) 3 ⟨t.val % 32, by omega⟩ 1 j q _ _ _ _ _ _ _ _ _
        ((k0_off4_eq (grid0.coords t) 1).trans (congrArg (fun e : ℕ => ![3, 4 * e + 1, 0]) (turn t)))
        ((k0_off4_eq (grid0.coords t) 1).trans (congrArg (fun e : ℕ => ![3, 4 * e + 1, 0]) (turn t))) rfl rfl)
    · exact (picked _ _ _ _ _ _ _).trans
        (took (iblk m c 3 t) (iblk m c 4 t) (iblk m c 5 t) (iblk m c 6 t) (iblk m c 7 t) 4 ⟨t.val % 32, by omega⟩ 1 j q _ _ _ _ _ _ _ _ _
        ((k0_off5_eq (grid0.coords t) 1).trans (congrArg (fun e : ℕ => ![4, 4 * e + 1, 0]) (turn t)))
        ((k0_off5_eq (grid0.coords t) 1).trans (congrArg (fun e : ℕ => ![4, 4 * e + 1, 0]) (turn t))) rfl rfl)
    · exact (picked _ _ _ _ _ _ _).trans
        (took (iblk m c 3 t) (iblk m c 4 t) (iblk m c 5 t) (iblk m c 6 t) (iblk m c 7 t) 5 ⟨t.val % 32, by omega⟩ 1 j q _ _ _ _ _ _ _ _ _
        ((k0_off6_eq (grid0.coords t) 1).trans (congrArg (fun e : ℕ => ![5, 4 * e + 1, 0]) (turn t)))
        ((k0_off6_eq (grid0.coords t) 1).trans (congrArg (fun e : ℕ => ![5, 4 * e + 1, 0]) (turn t))) rfl rfl)
    · exact (picked _ _ _ _ _ _ _).trans
        (took (iblk m c 3 t) (iblk m c 4 t) (iblk m c 5 t) (iblk m c 6 t) (iblk m c 7 t) 6 ⟨t.val % 32, by omega⟩ 1 j q _ _ _ _ _ _ _ _ _
        ((k0_off7_eq (grid0.coords t) 1).trans (congrArg (fun e : ℕ => ![6, 4 * e + 1, 0]) (turn t)))
        ((k0_off7_eq (grid0.coords t) 1).trans (congrArg (fun e : ℕ => ![6, 4 * e + 1, 0]) (turn t))) rfl rfl)
    · exact (picked _ _ _ _ _ _ _).trans
        (took (iblk m c 3 t) (iblk m c 4 t) (iblk m c 5 t) (iblk m c 6 t) (iblk m c 7 t) 7 ⟨t.val % 32, by omega⟩ 1 j q _ _ _ _ _ _ _ _ _
        ((k0_off8_eq (grid0.coords t) 1).trans (congrArg (fun e : ℕ => ![7, 4 * e + 1, 0]) (turn t)))
        ((k0_off8_eq (grid0.coords t) 1).trans (congrArg (fun e : ℕ => ![7, 4 * e + 1, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 2 j q _ _ _ _ _ _ _ _ _
        ((k0_off1_eq (grid0.coords t) 2).trans (congrArg (fun e : ℕ => ![0, 4 * e + 2, 0]) (turn t)))
        ((k0_off1_eq (grid0.coords t) 2).trans (congrArg (fun e : ℕ => ![0, 4 * e + 2, 0]) (turn t))) rfl rfl)
    · exact (picked _ _ _ _ _ _ _).trans
        (took (iblk m c 3 t) (iblk m c 4 t) (iblk m c 5 t) (iblk m c 6 t) (iblk m c 7 t) 1 ⟨t.val % 32, by omega⟩ 2 j q _ _ _ _ _ _ _ _ _
        ((k0_off2_eq (grid0.coords t) 2).trans (congrArg (fun e : ℕ => ![1, 4 * e + 2, 0]) (turn t)))
        ((k0_off2_eq (grid0.coords t) 2).trans (congrArg (fun e : ℕ => ![1, 4 * e + 2, 0]) (turn t))) rfl rfl)
    · exact (picked _ _ _ _ _ _ _).trans
        (took (iblk m c 3 t) (iblk m c 4 t) (iblk m c 5 t) (iblk m c 6 t) (iblk m c 7 t) 2 ⟨t.val % 32, by omega⟩ 2 j q _ _ _ _ _ _ _ _ _
        ((k0_off3_eq (grid0.coords t) 2).trans (congrArg (fun e : ℕ => ![2, 4 * e + 2, 0]) (turn t)))
        ((k0_off3_eq (grid0.coords t) 2).trans (congrArg (fun e : ℕ => ![2, 4 * e + 2, 0]) (turn t))) rfl rfl)
    · exact (picked _ _ _ _ _ _ _).trans
        (took (iblk m c 3 t) (iblk m c 4 t) (iblk m c 5 t) (iblk m c 6 t) (iblk m c 7 t) 3 ⟨t.val % 32, by omega⟩ 2 j q _ _ _ _ _ _ _ _ _
        ((k0_off4_eq (grid0.coords t) 2).trans (congrArg (fun e : ℕ => ![3, 4 * e + 2, 0]) (turn t)))
        ((k0_off4_eq (grid0.coords t) 2).trans (congrArg (fun e : ℕ => ![3, 4 * e + 2, 0]) (turn t))) rfl rfl)
    · exact (picked _ _ _ _ _ _ _).trans
        (took (iblk m c 3 t) (iblk m c 4 t) (iblk m c 5 t) (iblk m c 6 t) (iblk m c 7 t) 4 ⟨t.val % 32, by omega⟩ 2 j q _ _ _ _ _ _ _ _ _
        ((k0_off5_eq (grid0.coords t) 2).trans (congrArg (fun e : ℕ => ![4, 4 * e + 2, 0]) (turn t)))
        ((k0_off5_eq (grid0.coords t) 2).trans (congrArg (fun e : ℕ => ![4, 4 * e + 2, 0]) (turn t))) rfl rfl)
    · exact (picked _ _ _ _ _ _ _).trans
        (took (iblk m c 3 t) (iblk m c 4 t) (iblk m c 5 t) (iblk m c 6 t) (iblk m c 7 t) 5 ⟨t.val % 32, by omega⟩ 2 j q _ _ _ _ _ _ _ _ _
        ((k0_off6_eq (grid0.coords t) 2).trans (congrArg (fun e : ℕ => ![5, 4 * e + 2, 0]) (turn t)))
        ((k0_off6_eq (grid0.coords t) 2).trans (congrArg (fun e : ℕ => ![5, 4 * e + 2, 0]) (turn t))) rfl rfl)
    · exact (picked _ _ _ _ _ _ _).trans
        (took (iblk m c 3 t) (iblk m c 4 t) (iblk m c 5 t) (iblk m c 6 t) (iblk m c 7 t) 6 ⟨t.val % 32, by omega⟩ 2 j q _ _ _ _ _ _ _ _ _
        ((k0_off7_eq (grid0.coords t) 2).trans (congrArg (fun e : ℕ => ![6, 4 * e + 2, 0]) (turn t)))
        ((k0_off7_eq (grid0.coords t) 2).trans (congrArg (fun e : ℕ => ![6, 4 * e + 2, 0]) (turn t))) rfl rfl)
    · exact (picked _ _ _ _ _ _ _).trans
        (took (iblk m c 3 t) (iblk m c 4 t) (iblk m c 5 t) (iblk m c 6 t) (iblk m c 7 t) 7 ⟨t.val % 32, by omega⟩ 2 j q _ _ _ _ _ _ _ _ _
        ((k0_off8_eq (grid0.coords t) 2).trans (congrArg (fun e : ℕ => ![7, 4 * e + 2, 0]) (turn t)))
        ((k0_off8_eq (grid0.coords t) 2).trans (congrArg (fun e : ℕ => ![7, 4 * e + 2, 0]) (turn t))) rfl rfl)
  · intro j q
    refine Eq.trans ?_ (Fin.sum_univ_eight _).symm
    refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_
    · exact (picked _ _ _ _ _ _ _).trans
        (took (iblk m c 3 t) (iblk m c 4 t) (iblk m c 5 t) (iblk m c 6 t) (iblk m c 7 t) 0 ⟨t.val % 32, by omega⟩ 3 j q _ _ _ _ _ _ _ _ _
        ((k0_off1_eq (grid0.coords t) 3).trans (congrArg (fun e : ℕ => ![0, 4 * e + 3, 0]) (turn t)))
        ((k0_off1_eq (grid0.coords t) 3).trans (congrArg (fun e : ℕ => ![0, 4 * e + 3, 0]) (turn t))) rfl rfl)
    · exact (picked _ _ _ _ _ _ _).trans
        (took (iblk m c 3 t) (iblk m c 4 t) (iblk m c 5 t) (iblk m c 6 t) (iblk m c 7 t) 1 ⟨t.val % 32, by omega⟩ 3 j q _ _ _ _ _ _ _ _ _
        ((k0_off2_eq (grid0.coords t) 3).trans (congrArg (fun e : ℕ => ![1, 4 * e + 3, 0]) (turn t)))
        ((k0_off2_eq (grid0.coords t) 3).trans (congrArg (fun e : ℕ => ![1, 4 * e + 3, 0]) (turn t))) rfl rfl)
    · exact (picked _ _ _ _ _ _ _).trans
        (took (iblk m c 3 t) (iblk m c 4 t) (iblk m c 5 t) (iblk m c 6 t) (iblk m c 7 t) 2 ⟨t.val % 32, by omega⟩ 3 j q _ _ _ _ _ _ _ _ _
        ((k0_off3_eq (grid0.coords t) 3).trans (congrArg (fun e : ℕ => ![2, 4 * e + 3, 0]) (turn t)))
        ((k0_off3_eq (grid0.coords t) 3).trans (congrArg (fun e : ℕ => ![2, 4 * e + 3, 0]) (turn t))) rfl rfl)
    · exact (picked _ _ _ _ _ _ _).trans
        (took (iblk m c 3 t) (iblk m c 4 t) (iblk m c 5 t) (iblk m c 6 t) (iblk m c 7 t) 3 ⟨t.val % 32, by omega⟩ 3 j q _ _ _ _ _ _ _ _ _
        ((k0_off4_eq (grid0.coords t) 3).trans (congrArg (fun e : ℕ => ![3, 4 * e + 3, 0]) (turn t)))
        ((k0_off4_eq (grid0.coords t) 3).trans (congrArg (fun e : ℕ => ![3, 4 * e + 3, 0]) (turn t))) rfl rfl)
    · exact (picked _ _ _ _ _ _ _).trans
        (took (iblk m c 3 t) (iblk m c 4 t) (iblk m c 5 t) (iblk m c 6 t) (iblk m c 7 t) 4 ⟨t.val % 32, by omega⟩ 3 j q _ _ _ _ _ _ _ _ _
        ((k0_off5_eq (grid0.coords t) 3).trans (congrArg (fun e : ℕ => ![4, 4 * e + 3, 0]) (turn t)))
        ((k0_off5_eq (grid0.coords t) 3).trans (congrArg (fun e : ℕ => ![4, 4 * e + 3, 0]) (turn t))) rfl rfl)
    · exact (picked _ _ _ _ _ _ _).trans
        (took (iblk m c 3 t) (iblk m c 4 t) (iblk m c 5 t) (iblk m c 6 t) (iblk m c 7 t) 5 ⟨t.val % 32, by omega⟩ 3 j q _ _ _ _ _ _ _ _ _
        ((k0_off6_eq (grid0.coords t) 3).trans (congrArg (fun e : ℕ => ![5, 4 * e + 3, 0]) (turn t)))
        ((k0_off6_eq (grid0.coords t) 3).trans (congrArg (fun e : ℕ => ![5, 4 * e + 3, 0]) (turn t))) rfl rfl)
    · exact (picked _ _ _ _ _ _ _).trans
        (took (iblk m c 3 t) (iblk m c 4 t) (iblk m c 5 t) (iblk m c 6 t) (iblk m c 7 t) 6 ⟨t.val % 32, by omega⟩ 3 j q _ _ _ _ _ _ _ _ _
        ((k0_off7_eq (grid0.coords t) 3).trans (congrArg (fun e : ℕ => ![6, 4 * e + 3, 0]) (turn t)))
        ((k0_off7_eq (grid0.coords t) 3).trans (congrArg (fun e : ℕ => ![6, 4 * e + 3, 0]) (turn t))) rfl rfl)
    · exact (picked_last _ _ _ _ _ _ _).trans
        (took (iblk m c 3 t) (iblk m c 4 t) (iblk m c 5 t) (iblk m c 6 t) (iblk m c 7 t) 7 ⟨t.val % 32, by omega⟩ 3 j q _ _ _ _ _ _ _ _ _
        ((k0_off8_eq (grid0.coords t) 3).trans (congrArg (fun e : ℕ => ![7, 4 * e + 3, 0]) (turn t)))
        ((k0_off8_eq (grid0.coords t) 3).trans (congrArg (fun e : ℕ => ![7, 4 * e + 3, 0]) (turn t))) rfl rfl)

/-- A later block, whichever. -/
theorem state_step (c : Dev nD) (t : Fin cfg0.N) (h0 : ¬t.val % 32 = 0) (y : S2048x512.Idx) :
    (outsAt0 m c t.val t.isLt).2 y
      = (outsAt0 m c (t.val - 1) (Nat.lt_of_le_of_lt (Nat.sub_le _ _) t.isLt)).2 y
        + part (iblk m c 0 t) (iblk m c 1 t) (iblk m c 2 t) (iblk m c 3 t) (iblk m c 4 t) (iblk m c 5 t) (iblk m c 6 t)
          (iblk m c 7 t) ⟨t.val % 32, by omega⟩ y := by
  by_cases h1 : t.val % 32 = 31
  · exact state_C m c t h1 y
  · exact state_B m c t h0 h1 y

/-- The tokens, an argument. -/
abbrev tokens (c : Dev nD) : S32768x2048.Idx → EReal := m ((c : Thread nD τ).loc main_arg0)

/-- The experts' reading rows, an argument. -/
abbrev readers (c : Dev nD) : S16384x2048.Idx → EReal := m ((c : Thread nD τ).loc main_arg1)

/-- The experts' writing columns, an argument. -/
abbrev writers (c : Dev nD) : S2048x16384.Idx → EReal := m ((c : Thread nD τ).loc main_arg2)

/-- The first scores, an argument. -/
abbrev score1 (c : Dev nD) : S8x128x32768.Idx → EReal := m ((c : Thread nD τ).loc main_arg3)

/-- The second scores, an argument. -/
abbrev score2 (c : Dev nD) : S8x128x32768.Idx → EReal := m ((c : Thread nD τ).loc main_arg4)

/-- The first weights, an argument. -/
abbrev weight1 (c : Dev nD) : S8x128x32768.Idx → EReal := m ((c : Thread nD τ).loc main_arg5)

/-- The second weights, an argument. -/
abbrev weight2 (c : Dev nD) : S8x128x32768.Idx → EReal := m ((c : Thread nD τ).loc main_arg6)

/-- The thresholds, an argument. -/
abbrev least (c : Dev nD) : S8x1x32768.Idx → EReal := m ((c : Thread nD τ).loc main_arg7)

/-- The accumulator at the last block of experts: the whole sum. -/
theorem total (c : Dev nD) (t : Fin cfg0.N) (ht : t.val % 32 = 31) (y : S2048x512.Idx) (d : Fin 2048) (q : Fin 32768)
    (hd : (d : ℕ) = y 0) (hq : (q : ℕ) = t.val / 32 * 512 + y 1) :
    (outsAt0 m c t.val t.isLt).2 y
      = ∑ l : Fin 16384, writers m c (ix2 d l) * (gelu (∑ j : Fin 2048, readers m c (ix2 l j) * tokens m c (ix2 q j))
        * ∑ h : Fin 8, chosen (least m c (ix3 h 0 q)) (score1 m c (ix3 h ⟨(l : ℕ) / 128, by omega⟩ q))
          (score2 m c (ix3 h ⟨(l : ℕ) % 128, by omega⟩ q)) (weight2 m c (ix3 h ⟨(l : ℕ) % 128, by omega⟩ q))
          (weight1 m c (ix3 h ⟨(l : ℕ) / 128, by omega⟩ q))) := by
  rw [Pipeline.eq_sum_fin_of_reset_step_apply_of_flush (fun n h => (outsAt0 m c n h).2) 32 (fun _ => 0) _
    (fun t h j => state_A m c t h j) (fun t h j => state_step m c t h j) t ht y, zero_add]
  unfold part gate
  refine Fin.sum_mul_add_congr fun s k hl => ?_
  refine congrArg₂ (fun u v : EReal => u * v) ?_ (congrArg₂ (fun u v : EReal => u * v)
    (congrArg gelu (Fin.sum_fin_congr fun j => congrArg₂ (fun u v : EReal => u * v) ?_ ?_))
    (Fin.sum_fin_congr fun h => congr (congr (congr (congrArg₂ chosen ?_ ?_) ?_) ?_) ?_))
  all_goals
    blk_point [iblk, tokens, readers, writers, score1, score2, weight1, weight2, least, V_main_arg0 m c, V_main_arg1 m c,
      V_main_arg2 m c, V_main_arg3 m c, V_main_arg4 m c, V_main_arg5 m c, V_main_arg6 m c, V_main_arg7 m c, place t,
      place ⟨_, Pipeline.run_point_lt_of_flush t ht s⟩]

/-- A load after the point's stores reads what they leave. -/
theorem gathered (L : List (View.Piece (Elt Ideal) S2048x512 .f32)) (r : Rect S2048x512) :
    (View.whole cc0_scratch0 : View sig .tc _ S2048x512 .f32).readCov L r.toLoadRect = View.ld (View.canon L) r :=
  View.readCov_eq_canon' _ L _

/-- The block written at the last point is the accumulator, turned. -/
theorem written (c : Dev nD) (t : Fin cfg0.N) (ht : t.val % 32 = 31) (y : S512x2048.Idx) :
    (outsAt0 m c t.val t.isLt).1 y = k0_pay1 (F := Ideal) (outsAt0 m c t.val t.isLt).2 y := by
  rw [outsAt0_C m c t (by omega) ht]
  frame_out

/-- The gelu with its argument divided by the root of two. -/
theorem gelu_quotient (x z : EReal) (h : x = z) :
    gelu x = Ideal.ofBits FTy.f32 1056964608#32 * z
      * (1 + Ideal.erf (Ideal.div z (Ideal.sqrt (Ideal.ofBits FTy.f32 1073741824#32)))) := by
  subst h
  rw [Cert.Words.two, Cert.Words.div_root _ _ (by norm_num)]
  have hk : (Named.named κ "inv_sqrt2" 0x3F3504F3#32 : Ideal .f32) = (((Real.sqrt 2)⁻¹ : ℝ) : EReal) :=
    IdealRules.named_const.ideal_named_scalar _ _ _ _ rfl
  unfold gelu
  rw [hk]

/-- After the last point the result array is the reference's. -/
theorem final (c : Dev nD) : (dats m 0 c).arrAt 8 cfg0.N
    = Cert.ExpertsRefIdeal.Read.val_main_v31 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have h7 : t.val % 32 = 31 := (flush0_8 t).mp hf
  blk_simp
  rw [after0_8]
  refine (written m c t h7 y).trans ?_
  pointwise [k0_pay1,
    Cert.ExpertsRefIdeal.Read.val_main_v31, Cert.ExpertsRefIdeal.Read.val_main_v30,
    Cert.ExpertsRefIdeal.Read.val_main_v29, Cert.ExpertsRefIdeal.Read.val_main_v28,
    Cert.ExpertsRefIdeal.Read.val_main_v27, Cert.ExpertsRefIdeal.Read.val_main_v26,
    Cert.ExpertsRefIdeal.Read.val_main_cst_3, Cert.ExpertsRefIdeal.Read.val_main_v25,
    Cert.ExpertsRefIdeal.Read.val_main_call0_v1, Cert.ExpertsRefIdeal.Read.val_main_call0_v0,
    Cert.ExpertsRefIdeal.Read.val_main_cst_2, Cert.ExpertsRefIdeal.Read.val_main_v24,
    Cert.ExpertsRefIdeal.Read.val_main_v23, Cert.ExpertsRefIdeal.Read.val_main_v22,
    Cert.ExpertsRefIdeal.Read.val_main_v21, Cert.ExpertsRefIdeal.Read.val_main_v20,
    Cert.ExpertsRefIdeal.Read.val_main_v19, Cert.ExpertsRefIdeal.Read.val_main_v18,
    Cert.ExpertsRefIdeal.Read.val_main_v17, Cert.ExpertsRefIdeal.Read.val_main_v16,
    Cert.ExpertsRefIdeal.Read.val_main_v15, Cert.ExpertsRefIdeal.Read.val_main_v14,
    Cert.ExpertsRefIdeal.Read.val_main_v13, Cert.ExpertsRefIdeal.Read.val_main_v12,
    Cert.ExpertsRefIdeal.Read.val_main_v11, Cert.ExpertsRefIdeal.Read.val_main_v10,
    Cert.ExpertsRefIdeal.Read.val_main_v9, Cert.ExpertsRefIdeal.Read.val_main_cst_1,
    Cert.ExpertsRefIdeal.Read.val_main_v8, Cert.ExpertsRefIdeal.Read.val_main_v7, Cert.ExpertsRefIdeal.Read.val_main_v6,
    Cert.ExpertsRefIdeal.Read.val_main_v5, Cert.ExpertsRefIdeal.Read.val_main_cst_0,
    Cert.ExpertsRefIdeal.Read.val_main_v4, Cert.ExpertsRefIdeal.Read.val_main_v3,
    Cert.ExpertsRefIdeal.Read.val_main_cst, Cert.ExpertsRefIdeal.Read.val_main_v2,
    Cert.ExpertsRefIdeal.Read.val_main_v1, Cert.ExpertsRefIdeal.Read.val_main_v0]
  refine (total m c t h7 _ (((cfg0.win 8).blk t).view.emb y 1) (((cfg0.win 8).blk t).view.emb y 0) ?_ ?_).trans
    (Fin.sum_fin_congr fun k => ?_)
  · blk_simp [place t]
  · blk_simp [place t]
  · refine (mul_comm (_ : EReal) _).trans (congrArg₂ (fun u v : EReal => u * v) (congrArg₂ (fun u v : EReal => u * v) ?_
     (Fin.sum_fin_congr fun h => ?_)) ?_)
    · refine gelu_quotient _ _ (Fin.sum_fin_congr fun j => (mul_comm (_ : EReal) _).trans
        (congrArg₂ (fun u v : EReal => u * v) ?_ ?_)) <;> blk_point [tokens, readers, place t]
    · unfold chosen
      refine if_congr (Iff.of_eq (congrArg₂ (fun u v : EReal => u ≤ v) ?_ (congrArg₂ (fun u v : EReal => u + v) ?_ ?_)))
        ((mul_comm (_ : EReal) _).trans (congrArg₂ (fun u v : EReal => u * v) ?_ ?_)) Ideal.ofBits_zero_f32.symm
      all_goals blk_point [least, score1, score2, weight1, weight2, place t]
    · blk_point [writers, place t]

end Cert.ExpertsIdeal.Tiles

end
-- ==== Proof.ExpertsClaims.lean ====
/-
  The claims about the experts.
-/
module

public import proofs.«01_k».proof.Defs
public import proofs.«01_k».proof.Proof.Gen.Experts.Frame
public import proofs.«01_k».proof.Proof.Gen.ExpertsIdeal.Frame
public import proofs.«01_k».proof.Proof.Gen.ExpertsRefIdeal.Run
public import proofs.«01_k».proof.Proof.ExpertsTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.Experts

/-- The reference's program leaves its arguments as they were and every semaphore at zero. -/
theorem reference_frame : quiescent_ExpertsRefIdeal (hExpertsRefIdeal := Cert.ExpertsRefIdeal.Gen.facts) :=
  fun m ρ _ => (θ_run Cert.ExpertsRefIdeal.defs _ _).mono
    (fun r h => ⟨fun c => (h c).2, Idealize.ShloMosaic.sem_eq_zero_of_no_sems (by decide) r.2⟩)
    (Cert.ExpertsRefIdeal.Value.run (F := Ideal) m ρ)

/-- Over the extended reals the call's result array is the reference's. -/
theorem value : algebraic_ExpertsIdeal_ExpertsRefIdeal (hExpertsIdeal := Cert.ExpertsIdeal.Gen.facts) (hExpertsRefIdeal := Cert.ExpertsRefIdeal.Gen.facts) := by
  pair_intro
  · run_from Cert.ExpertsIdeal.Gen.run_main m g
  · run_from Cert.ExpertsRefIdeal.Value.run m' g'
    exact (Cert.ExpertsIdeal.Tiles.final m c).symm

end Cert.Proof.Experts

end
-- ==== Proof.ShortConvsTiles.lean ====
/-
  The long convolution's short convolutions and their gate: what the two result arrays end holding.  A grid point works on 512
  tokens of 128 channels of each of the three groups, with the eight rows before and the eight rows after its block.
-/
module

public import proofs.«01_k».proof.Proof.Gen.ShortConvsIdeal.Frame
public import proofs.«01_k».proof.Proof.Gen.ShortConvsRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ShortConvsIdeal.Tiles

open Cert.ShortConvsIdeal Cert.ShortConvsIdeal.Gen

variable (m : (ℓ : Loc nD τ sig) → Buf (Elt Ideal) ℓ)

/-- Where each window's block sits.  For each group of channels: 512 tokens, the eight rows before them (at the first block, its
    own first rows), and the eight rows after them (at the last block, its own last rows). -/
theorem place : ∀ t : Fin cfg0.N, (win0_0.index t 0 = t.val / 32 ∧ win0_0.index t 1 = t.val / 4 % 8 ∧ win0_0.index t 2 = 32 + t.val % 4)
    ∧ (win0_1.index t 0 = t.val / 32 ∧ win0_1.index t 1 = t.val / 4 % 8 * 64 - 1 ∧ win0_1.index t 2 = 32 + t.val % 4)
    ∧ (win0_2.index t 0 = t.val / 32 ∧ win0_2.index t 1 = min (t.val / 4 % 8 * 64 + 64) 511 ∧ win0_2.index t 2 = 32 + t.val % 4)
    ∧ (win0_3.index t 0 = t.val / 32 ∧ win0_3.index t 1 = t.val / 4 % 8 ∧ win0_3.index t 2 = 36 + t.val % 4)
    ∧ (win0_4.index t 0 = t.val / 32 ∧ win0_4.index t 1 = t.val / 4 % 8 * 64 - 1 ∧ win0_4.index t 2 = 36 + t.val % 4)
    ∧ (win0_5.index t 0 = t.val / 32 ∧ win0_5.index t 1 = min (t.val / 4 % 8 * 64 + 64) 511 ∧ win0_5.index t 2 = 36 + t.val % 4)
    ∧ (win0_6.index t 0 = t.val / 32 ∧ win0_6.index t 1 = t.val / 4 % 8 ∧ win0_6.index t 2 = 40 + t.val % 4)
    ∧ (win0_7.index t 0 = t.val / 32 ∧ win0_7.index t 1 = t.val / 4 % 8 * 64 - 1 ∧ win0_7.index t 2 = 40 + t.val % 4)
    ∧ (win0_8.index t 0 = t.val / 32 ∧ win0_8.index t 1 = min (t.val / 4 % 8 * 64 + 64) 511 ∧ win0_8.index t 2 = 40 + t.val % 4)
    ∧ (win0_9.index t 0 = 0 ∧ win0_9.index t 1 = 0 ∧ win0_9.index t 2 = t.val % 4)
    ∧ (win0_10.index t 0 = 0 ∧ win0_10.index t 1 = 0 ∧ win0_10.index t 2 = t.val % 4)
    ∧ (win0_11.index t 0 = t.val / 32 ∧ win0_11.index t 1 = t.val / 4 % 8 ∧ win0_11.index t 2 = t.val % 4)
    ∧ (win0_12.index t 0 = t.val / 32 ∧ win0_12.index t 1 = t.val / 4 % 8 ∧ win0_12.index t 2 = t.val % 4) :=
  (by decide +kernel : ∀ t : Fin grid0.N, _)

/-- The block of tokens of a grid point. -/
theorem part : ∀ t : Fin cfg0.N, (grid0.coords t 1).val = t.val / 4 % 8 :=
  (by decide +kernel : ∀ t : Fin grid0.N, _)

/-- The sequence with one zero row put before it and zero rows after it. -/
def ext (x : S8x4096x7040.Idx → EReal) (b : Fin 8) (k : Fin 7040) (n : ℕ) : EReal :=
  if h : 1 ≤ n ∧ n - 1 < 4096 then x (ix3 b ⟨n - 1, h.2⟩ k : S8x4096x7040.Idx) else 0

/-- A row of the sequence sits one further in the padded one. -/
theorem ext_at (x : S8x4096x7040.Idx → EReal) (b : Fin 8) (k : Fin 7040) (n : ℕ) (r : Fin 4096) (h : n = r.val + 1) :
    x (ix3 b r k : S8x4096x7040.Idx) = ext x b k n := by
  subst h
  unfold ext
  rw [dif_pos (by omega)]
  rfl

theorem ext_off (x : S8x4096x7040.Idx → EReal) (b : Fin 8) (k : Fin 7040) (n : ℕ) (h : n = 0 ∨ 4097 ≤ n) : ext x b k n = 0 := by
  unfold ext
  rw [dif_neg (by omega)]

theorem is_first (p : Fin 512) : IntOp.cmpi .eq (BitVec.ofNat 32 p.val) 0#32 = if p.val = 0 then 1#1 else 0#1 := by
  revert p; decide +kernel

theorem is_last (p : Fin 512) : IntOp.cmpi .eq (BitVec.ofNat 32 p.val) 511#32 = if p.val = 511 then 1#1 else 0#1 := by
  revert p; decide +kernel

theorem has_before (g : Fin 8) : Scalar.cmpi .sgt (BitVec.ofNat 32 g.val) 0#32 = if g.val = 0 then 0#1 else 1#1 := by
  revert g; decide +kernel

theorem has_after (g : Fin 8) : Scalar.cmpi .slt (BitVec.ofNat 32 g.val) 7#32 = if g.val = 7 then 0#1 else 1#1 := by
  revert g; decide +kernel

/-- The row before: inside the block the rotated block's, at the block's edge the neighbour's, at the sequence's edge zero. -/
theorem before_row (x : S8x4096x7040.Idx → EReal) (b : Fin 8) (k : Fin 7040) (g : Fin 8) (p : Fin 512) (A B : EReal)
    (hA : 0 < g.val → A = ext x b k (g.val * 512)) (hB : 0 < p.val → B = ext x b k (g.val * 512 + p.val)) :
    Scalar.select (IntOp.cmpi .eq (BitVec.ofNat 32 p.val) 0#32) (Scalar.select (Scalar.cmpi .sgt (BitVec.ofNat 32 g.val) 0#32) A 0) B
      = ext x b k (g.val * 512 + p.val) := by
  rw [is_first, has_before]
  by_cases hp : p.val = 0
  · rw [if_pos hp, hp, Nat.add_zero]
    by_cases hg : g.val = 0
    · rw [if_pos hg, ext_off x b k _ (by omega)]; rfl
    · rw [if_neg hg, ← hA (by omega)]; rfl
  · rw [if_neg hp, ← hB (by omega)]; rfl

/-- The row after, likewise. -/
theorem after_row (x : S8x4096x7040.Idx → EReal) (b : Fin 8) (k : Fin 7040) (g : Fin 8) (p : Fin 512) (A B : EReal)
    (hA : g.val < 7 → A = ext x b k (g.val * 512 + 513)) (hB : p.val < 511 → B = ext x b k (g.val * 512 + p.val + 2)) :
    Scalar.select (IntOp.cmpi .eq (BitVec.ofNat 32 p.val) 511#32) (Scalar.select (Scalar.cmpi .slt (BitVec.ofNat 32 g.val) 7#32) A 0) B
      = ext x b k (g.val * 512 + p.val + 2) := by
  have := g.isLt
  have := p.isLt
  rw [is_last, has_after]
  by_cases hp : p.val = 511
  · rw [if_pos hp, hp]
    by_cases hg : g.val = 7
    · rw [if_pos hg, ext_off x b k _ (by omega)]; rfl
    · rw [if_neg hg, show g.val * 512 + 511 + 2 = g.val * 512 + 513 by omega, ← hA (by omega)]; rfl
  · rw [if_neg hp, ← hB (by omega)]; rfl

/-- The reference's padded rows. -/
theorem padded (x : S8x4096x7040.Idx → EReal) (b : Fin 8) (n : Fin 4098) (q : Fin 1536) (k : Fin 7040) (hk : k.val = 4096 + q.val) :
    Cert.ShortConvsRefIdeal.Read.val_main_v1 (F := Ideal) x (ix3 b n q) = ext x b k n.val := by
  rw [show k = ⟨4096 + q.val, by omega⟩ from Fin.ext hk]
  pointwise [Cert.ShortConvsRefIdeal.Read.val_main_v1, Cert.ShortConvsRefIdeal.Read.val_main_v0,
    Cert.ShortConvsRefIdeal.Read.val_main_call0_v0, Cert.ShortConvsRefIdeal.Read.val_main_c]
  unfold ext
  split
  · rfl
  · simp [FloatOps.sitofp]

/-- The weights as the region finds them, one group of channels after another. -/
theorem weights (c : Dev nD) (a : Fin 3) (k : Fin 3) (q : Fin 512) : V m c main_v1 (ix3 a k q : S3x3x512.Idx)
    = m ((c : Thread nD τ).loc main_arg1) (ix2 k ⟨a.val * 512 + q.val, by omega⟩ : S3x1536.Idx) := by
  entry_read
  pointwise

theorem offsets (c : Dev nD) (a : Fin 3) (k : Fin 1) (q : Fin 512) : V m c main_v2 (ix3 a k q : S3x1x512.Idx)
    = m ((c : Thread nD τ).loc main_arg2) (ix1 ⟨a.val * 512 + q.val, by omega⟩ : S1536.Idx) := by
  entry_read
  pointwise

/-- The sequence, its weights and its offsets, as the arguments hold them. -/
abbrev rows (c : Dev nD) : S8x4096x7040.Idx → EReal := (m ((c : Thread nD τ).loc main_arg0))
abbrev taps (c : Dev nD) : S3x1536.Idx → EReal := (m ((c : Thread nD τ).loc main_arg1))
abbrev shift (c : Dev nD) : S1536.Idx → EReal := (m ((c : Thread nD τ).loc main_arg2))

/-- A short convolution at an entry. -/
def conv (c : Dev nD) (b : Fin 8) (r : ℕ) (k : Fin 7040) (q : Fin 1536) : EReal :=
  ext (rows m c) b k r * taps m c (ix2 0 q : S3x1536.Idx) + ext (rows m c) b k (r + 1) * taps m c (ix2 1 q : S3x1536.Idx)
    + ext (rows m c) b k (r + 2) * taps m c (ix2 2 q : S3x1536.Idx) + shift m c (ix1 q : S1536.Idx)

/-- The reference's convolution. -/
theorem reference_conv (c : Dev nD) (b : Fin 8) (r : Fin 4096) (q : Fin 1536) (k : Fin 7040) (hk : k.val = 4096 + q.val) :
    Cert.ShortConvsRefIdeal.Read.val_main_v24 (F := Ideal) (rows m c) (taps m c) (shift m c) (ix3 b r q) = conv m c b r.val k q := by
  unfold conv
  rw [← padded (rows m c) b ⟨r.val, by omega⟩ q k hk, Nat.add_comm r.val 1, Nat.add_comm r.val 2,
    ← padded (rows m c) b ⟨1 + r.val, by omega⟩ q k hk, ← padded (rows m c) b ⟨2 + r.val, by omega⟩ q k hk]
  pointwise [Cert.ShortConvsRefIdeal.Read.val_main_v24, Cert.ShortConvsRefIdeal.Read.val_main_v23,
    Cert.ShortConvsRefIdeal.Read.val_main_v22, Cert.ShortConvsRefIdeal.Read.val_main_v21,
    Cert.ShortConvsRefIdeal.Read.val_main_v20, Cert.ShortConvsRefIdeal.Read.val_main_v19,
    Cert.ShortConvsRefIdeal.Read.val_main_v18, Cert.ShortConvsRefIdeal.Read.val_main_v17,
    Cert.ShortConvsRefIdeal.Read.val_main_v16, Cert.ShortConvsRefIdeal.Read.val_main_v15,
    Cert.ShortConvsRefIdeal.Read.val_main_v14, Cert.ShortConvsRefIdeal.Read.val_main_v13,
    Cert.ShortConvsRefIdeal.Read.val_main_v12, Cert.ShortConvsRefIdeal.Read.val_main_v11,
    Cert.ShortConvsRefIdeal.Read.val_main_v10, Cert.ShortConvsRefIdeal.Read.val_main_v9,
    Cert.ShortConvsRefIdeal.Read.val_main_v8, Cert.ShortConvsRefIdeal.Read.val_main_v7,
    Cert.ShortConvsRefIdeal.Read.val_main_v6, Cert.ShortConvsRefIdeal.Read.val_main_v5,
    Cert.ShortConvsRefIdeal.Read.val_main_v4, Cert.ShortConvsRefIdeal.Read.val_main_v3,
    Cert.ShortConvsRefIdeal.Read.val_main_v2]

/-- A convolution as a block computes it, from what its windows hold. -/
theorem block_conv (c : Dev nD) (b : Fin 8) (k : Fin 7040) (q : Fin 1536) (g : Fin 8) (p : Fin 512)
    (A B X C D W0 W1 W2 O : EReal)
    (hA : 0 < g.val → A = ext (rows m c) b k (g.val * 512)) (hB : 0 < p.val → B = ext (rows m c) b k (g.val * 512 + p.val))
    (hX : X = ext (rows m c) b k (g.val * 512 + p.val + 1))
    (hC : g.val < 7 → C = ext (rows m c) b k (g.val * 512 + 513)) (hD : p.val < 511 → D = ext (rows m c) b k (g.val * 512 + p.val + 2))
    (h0 : W0 = taps m c (ix2 0 q : S3x1536.Idx)) (h1 : W1 = taps m c (ix2 1 q : S3x1536.Idx))
    (h2 : W2 = taps m c (ix2 2 q : S3x1536.Idx)) (hO : O = shift m c (ix1 q : S1536.Idx)) (n : ℕ) (hn : n = g.val) :
    Scalar.select (IntOp.cmpi .eq (BitVec.ofNat 32 p.val) 0#32) (Scalar.select (Scalar.cmpi .sgt (BitVec.ofNat 32 n) 0#32) A 0) B * W0
      + X * W1
      + Scalar.select (IntOp.cmpi .eq (BitVec.ofNat 32 p.val) 511#32) (Scalar.select (Scalar.cmpi .slt (BitVec.ofNat 32 n) 7#32) C 0) D * W2
      + O = conv m c b (g.val * 512 + p.val) k q := by
  subst hn
  rw [before_row _ b k g p A B hA hB, after_row _ b k g p C D hC hD, hX, h0, h1, h2, hO]
  rfl

/-- The block of tokens of a grid point, as a number below eight. -/
def spot (t : Fin cfg0.N) : Fin 8 := ⟨t.val / 4 % 8, Nat.mod_lt _ (by norm_num)⟩

theorem few : ∀ t : Fin cfg0.N, t.val / 32 < 8 := (by decide +kernel : ∀ t : Fin grid0.N, _)

/-- The sequence of a grid point. -/
def batch (t : Fin cfg0.N) : Fin 8 := ⟨t.val / 32, few t⟩

/-- The channel of a block's entry among the 1536. -/
def channel (a : Fin 3) (t : Fin cfg0.N) (j : Fin 128) : Fin 1536 := ⟨a.val * 512 + (t.val % 4 * 128 + j.val), by omega⟩

/-- The same among the projection's columns. -/
def column (a : Fin 3) (t : Fin cfg0.N) (j : Fin 128) : Fin 7040 := ⟨4096 + (a.val * 512 + (t.val % 4 * 128 + j.val)), by omega⟩

/-- The row before an entry's, in the padded count that row's own number. -/
theorem previous (c : Dev nD) (b : Fin 8) (k : Fin 7040) (n : ℕ) (h : 0 < n) (hn : n ≤ 4096) :
    rows m c (ix3 b ⟨n - 1, by omega⟩ k : S8x4096x7040.Idx) = ext (rows m c) b k n :=
  ext_at _ b k n _ (by show n = n - 1 + 1; omega)

/-- The channel of a block's entry within its group. -/
def lane (t : Fin cfg0.N) (j : Fin 128) : Fin 512 := ⟨t.val % 4 * 128 + j.val, by omega⟩

/-- The first group of channels, block by block. -/
theorem first_block (c : Dev nD) (t : Fin cfg0.N) (y : S1x512x128.Idx) :
    k0_pay2 (F := Ideal) (k0_pay8 (k0_pay5 (grid0.coords t) (iblk m c 0 t) (iblk m c 2 t)) (k0_pay6 (grid0.coords t) (iblk m c 0 t) (iblk m c 1 t) (View.ld (iblk m c 9 t) r0_2)) (k0_pay7 (View.ld (iblk m c 9 t) r0_2)) (View.ld (iblk m c 10 t) r0_3)) y
      = conv m c (batch t) ((spot t).val * 512 + y 1) (column 0 t (y 2)) (channel 0 t (y 2)) := by
  have hy : (y 1).val < 512 := (y 1).isLt
  have hs : (spot t).val < 8 := (spot t).isLt
  have h7 : ((7 : Fin 8) : ℕ) = 7 := rfl
  have hv : (spot t).val = t.val / 4 % 8 := rfl
  pointwise [k0_pay2, k0_pay8, k0_pay5, k0_pay6, k0_pay7, k0_pay4, k0_pay3]
  refine block_conv m c (batch t) (column 0 t (y 2)) (channel 0 t (y 2)) (spot t) (y 1) _ _ _ _ _ _ _ _ _ ?_ ?_ ?_ ?_ ?_ ?_ ?_ ?_ ?_ _ (part t)
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ (previous m c _ _ _ (by omega) (by omega))
    blk_point [iblk, rows, V_main_arg0 m c, place t, spot, batch, column]
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ ((weights m c 0 0 (lane t (y 2))).trans ?_) <;> blk_point [iblk, taps, place t, channel, lane]
  · refine Eq.trans ?_ ((weights m c 0 1 (lane t (y 2))).trans ?_) <;> blk_point [iblk, taps, place t, channel, lane]
  · refine Eq.trans ?_ ((weights m c 0 2 (lane t (y 2))).trans ?_) <;> blk_point [iblk, taps, place t, channel, lane]
  · refine Eq.trans ?_ ((offsets m c 0 0 (lane t (y 2))).trans ?_) <;> blk_point [iblk, shift, place t, channel, lane]

/-- The reference's convolution at the place of a block's entry. -/
theorem reference_block (c : Dev nD) (t : Fin cfg0.N) (a : Fin 3) (p : Fin 512) (j : Fin 128) (b : Fin 8) (r : Fin 4096)
    (q : Fin 1536) (hb : b.val = t.val / 32) (hr : r.val = t.val / 4 % 8 * 512 + p.val)
    (hq : q.val = a.val * 512 + (t.val % 4 * 128 + j.val)) :
    Cert.ShortConvsRefIdeal.Read.val_main_v24 (F := Ideal) (rows m c) (taps m c) (shift m c) (ix3 b r q)
      = conv m c (batch t) ((spot t).val * 512 + p.val) (column a t j) (channel a t j) := by
  have e0 : b = batch t := Fin.ext hb
  have e2 : q = channel a t j := Fin.ext hq
  rw [reference_conv m c b r q (column a t j) (by rw [hq]; rfl), e0, e2, hr]
  rfl

/-- After the last block the gate's array is the reference's. -/
theorem final_gate (c : Dev nD) : (dats m 0 c).arrAt 12 cfg0.N
    = Cert.ShortConvsRefIdeal.Read.val_main_v28 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  frame_out
  refine (first_block m c t y).trans (Eq.symm ?_)
  pointwise [Cert.ShortConvsRefIdeal.Read.val_main_v28]
  refine reference_block m c t 0 (y 1) (y 2) _ _ _ ?_ ?_ ?_
  · blk_simp [place t]
  · blk_simp [place t]
  · blk_simp [place t]
    change t.val % 4 * 128 + (y 2).val = 0 * 512 + (t.val % 4 * 128 + (y 2).val)
    omega

/-- After the last block the product's array is the reference's. -/
theorem final_product (c : Dev nD) : (dats m 0 c).arrAt 11 cfg0.N
    = Cert.ShortConvsRefIdeal.Read.val_main_v27 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  have hy : (y 1).val < 512 := (y 1).isLt
  have hs : (spot t).val < 8 := (spot t).isLt
  have h7 : ((7 : Fin 8) : ℕ) = 7 := rfl
  have hv : (spot t).val = t.val / 4 % 8 := rfl
  blk_simp
  rw [after0_11]
  frame_out
  pointwise [k0_pay1, k0_pay14, k0_pay9, k0_pay10, k0_pay11, k0_pay12, k0_pay13, k0_pay15, k0_pay16, k0_pay17, k0_pay18,
    k0_pay19, Cert.ShortConvsRefIdeal.Read.val_main_v27, Cert.ShortConvsRefIdeal.Read.val_main_v25,
    Cert.ShortConvsRefIdeal.Read.val_main_v26]
  refine congrArg₂ (fun u v : EReal => u * v)
    (Eq.trans (block_conv m c (batch t) (column 2 t (y 2)) (channel 2 t (y 2)) (spot t) (y 1) _ _ _ _ _ _ _ _ _ ?_ ?_ ?_ ?_ ?_ ?_ ?_ ?_ ?_ _ (part t))
      (reference_block m c t 2 (y 1) (y 2) _ _ _ ?_ ?_ ?_).symm)
    (Eq.trans (block_conv m c (batch t) (column 1 t (y 2)) (channel 1 t (y 2)) (spot t) (y 1) _ _ _ _ _ _ _ _ _ ?_ ?_ ?_ ?_ ?_ ?_ ?_ ?_ ?_ _ (part t))
      (reference_block m c t 1 (y 1) (y 2) _ _ _ ?_ ?_ ?_).symm)
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ (previous m c _ _ _ (by omega) (by omega))
    blk_point [iblk, rows, V_main_arg0 m c, place t, spot, batch, column]
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ ((weights m c 2 0 (lane t (y 2))).trans ?_) <;> blk_point [iblk, taps, place t, channel, lane]
  · refine Eq.trans ?_ ((weights m c 2 1 (lane t (y 2))).trans ?_) <;> blk_point [iblk, taps, place t, channel, lane]
  · refine Eq.trans ?_ ((weights m c 2 2 (lane t (y 2))).trans ?_) <;> blk_point [iblk, taps, place t, channel, lane]
  · refine Eq.trans ?_ ((offsets m c 2 0 (lane t (y 2))).trans ?_) <;> blk_point [iblk, shift, place t, channel, lane]
  · blk_simp [place t]
  · blk_simp [place t]
  · blk_simp [place t]
    change 1024 + (t.val % 4 * 128 + (y 2).val) = 2 * 512 + (t.val % 4 * 128 + (y 2).val)
    omega
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ (previous m c _ _ _ (by omega) (by omega))
    blk_point [iblk, rows, V_main_arg0 m c, place t, spot, batch, column]
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ ((weights m c 1 0 (lane t (y 2))).trans ?_) <;> blk_point [iblk, taps, place t, channel, lane]
  · refine Eq.trans ?_ ((weights m c 1 1 (lane t (y 2))).trans ?_) <;> blk_point [iblk, taps, place t, channel, lane]
  · refine Eq.trans ?_ ((weights m c 1 2 (lane t (y 2))).trans ?_) <;> blk_point [iblk, taps, place t, channel, lane]
  · refine Eq.trans ?_ ((offsets m c 1 0 (lane t (y 2))).trans ?_) <;> blk_point [iblk, shift, place t, channel, lane]
  · blk_simp [place t]
  · blk_simp [place t]
  · blk_simp [place t]
    change 512 + (t.val % 4 * 128 + (y 2).val) = 1 * 512 + (t.val % 4 * 128 + (y 2).val)
    omega

end Cert.ShortConvsIdeal.Tiles

end
-- ==== Proof.ShortConvsClaims.lean ====
/-
  The claims about the long convolution's short convolutions.
-/
module

public import proofs.«01_k».proof.Defs
public import proofs.«01_k».proof.Proof.Gen.ShortConvs.Frame
public import proofs.«01_k».proof.Proof.Gen.ShortConvsIdeal.Frame
public import proofs.«01_k».proof.Proof.Gen.ShortConvsRefIdeal.Run
public import proofs.«01_k».proof.Proof.Gen.ShortConvsRefIdeal.Read
public import proofs.«01_k».proof.Proof.ShortConvsTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.ShortConvs

/-- The reference's program leaves its arguments as they were and every semaphore at zero. -/
theorem reference_frame : quiescent_ShortConvsRefIdeal (hShortConvsRefIdeal := Cert.ShortConvsRefIdeal.Gen.facts) :=
  fun m ρ _ => (θ_run Cert.ShortConvsRefIdeal.defs _ _).mono
    (fun r h => ⟨fun c => (h c).2.2, Idealize.ShloMosaic.sem_eq_zero_of_no_sems (by decide) r.2⟩)
    (Cert.ShortConvsRefIdeal.Value.run (F := Ideal) m ρ)

/-- Over the extended reals the call's result array is the reference's. -/
theorem value : algebraic_ShortConvsIdeal_ShortConvsRefIdeal (hShortConvsIdeal := Cert.ShortConvsIdeal.Gen.facts) (hShortConvsRefIdeal := Cert.ShortConvsRefIdeal.Gen.facts) := by
  pair_intro
  · run_from Cert.ShortConvsIdeal.Gen.run_main m g
  · run_from Cert.ShortConvsRefIdeal.Value.run m' g'
    · refine (Cert.ShortConvsRefIdeal.Read.val_main_v27_eq m' c).trans ?_
      obtain ⟨h0, h1, h2⟩ := hagree c
      exact Eq.trans (congr (congrArg₂ _ h0 h1) h2) (Cert.ShortConvsIdeal.Tiles.final_product m c).symm
    exact (Cert.ShortConvsIdeal.Tiles.final_gate m c).symm

end Cert.Proof.ShortConvs

end
-- ==== Proof.HeadsTaps.lean ====
/-
  The short convolution of the delta rule's queries, keys and values.  A grid point works on 512 tokens of one head, with the
  eight rows before and the eight rows after its block.
-/
module

public import proofs.«01_k».proof.Proof.Gen.HeadsIdeal.Frame
public import proofs.«01_k».proof.Proof.Gen.HeadsRefIdeal.Read
public import proofs.«01_k».proof.Proof.Words
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HeadsIdeal.Tiles

open Cert.HeadsIdeal Cert.HeadsIdeal.Gen

variable (m : (ℓ : Loc nD τ sig) → Buf (Elt Ideal) ℓ)

/-- Where each window's block sits: 512 tokens of one head, the eight rows before them (at the first block, its own first rows),
    and the eight rows after them (at the last block, its own last rows). -/
theorem place : ∀ t : Fin cfg0.N, (win0_0.index t 0 = t.val / 192 ∧ win0_0.index t 1 = t.val / 24 % 8 ∧ win0_0.index t 2 = t.val % 24)
    ∧ (win0_1.index t 0 = t.val / 192 ∧ win0_1.index t 1 = t.val / 24 % 8 * 64 - 1 ∧ win0_1.index t 2 = t.val % 24)
    ∧ (win0_2.index t 0 = t.val / 192 ∧ win0_2.index t 1 = min (t.val / 24 % 8 * 64 + 64) 511 ∧ win0_2.index t 2 = t.val % 24)
    ∧ (win0_3.index t 0 = 0 ∧ win0_3.index t 1 = t.val % 24)
    ∧ (win0_4.index t 0 = t.val / 192 ∧ win0_4.index t 1 = t.val / 24 % 8 ∧ win0_4.index t 2 = t.val % 24) :=
  (by decide +kernel : ∀ t : Fin grid0.N, _)

/-- The block of tokens and the head of a grid point. -/
theorem part : ∀ t : Fin cfg0.N, (grid0.coords t 1).val = t.val / 24 % 8 :=
  (by decide +kernel : ∀ t : Fin grid0.N, _)

/-- The head of a grid point. -/
theorem head : ∀ t : Fin cfg0.N, (grid0.coords t 2).val = t.val % 24 :=
  (by decide +kernel : ∀ t : Fin grid0.N, _)

theorem few : ∀ t : Fin cfg0.N, t.val / 192 < 8 := (by decide +kernel : ∀ t : Fin grid0.N, _)

/-- The sequence with one zero row put before it and zero rows after it. -/
def ext (x : S8x4096x7040.Idx → EReal) (b : Fin 8) (k : Fin 7040) (n : ℕ) : EReal :=
  if h : 1 ≤ n ∧ n - 1 < 4096 then x (ix3 b ⟨n - 1, h.2⟩ k : S8x4096x7040.Idx) else 0

/-- A row of the sequence sits one further in the padded one. -/
theorem ext_at (x : S8x4096x7040.Idx → EReal) (b : Fin 8) (k : Fin 7040) (n : ℕ) (r : Fin 4096) (h : n = r.val + 1) :
    x (ix3 b r k : S8x4096x7040.Idx) = ext x b k n := by
  subst h
  unfold ext
  rw [dif_pos (by omega)]
  rfl

theorem ext_off (x : S8x4096x7040.Idx → EReal) (b : Fin 8) (k : Fin 7040) (n : ℕ) (h : n = 0 ∨ 4097 ≤ n) : ext x b k n = 0 := by
  unfold ext
  rw [dif_neg (by omega)]

theorem is_first (p : Fin 512) : IntOp.cmpi .eq (BitVec.ofNat 32 p.val) 0#32 = if p.val = 0 then 1#1 else 0#1 := by
  revert p; decide +kernel

theorem is_last (p : Fin 512) : IntOp.cmpi .eq (BitVec.ofNat 32 p.val) 511#32 = if p.val = 511 then 1#1 else 0#1 := by
  revert p; decide +kernel

theorem has_before (g : Fin 8) : Scalar.cmpi .sgt (BitVec.ofNat 32 g.val) 0#32 = if g.val = 0 then 0#1 else 1#1 := by
  revert g; decide +kernel

theorem has_after (g : Fin 8) : Scalar.cmpi .slt (BitVec.ofNat 32 g.val) 7#32 = if g.val = 7 then 0#1 else 1#1 := by
  revert g; decide +kernel

/-- The row before: inside the block the rotated block's, at the block's edge the neighbour's, at the sequence's edge zero. -/
theorem before_row (x : S8x4096x7040.Idx → EReal) (b : Fin 8) (k : Fin 7040) (g : Fin 8) (p : Fin 512) (A B : EReal)
    (hA : 0 < g.val → A = ext x b k (g.val * 512)) (hB : 0 < p.val → B = ext x b k (g.val * 512 + p.val)) :
    Scalar.select (IntOp.cmpi .eq (BitVec.ofNat 32 p.val) 0#32) (Scalar.select (Scalar.cmpi .sgt (BitVec.ofNat 32 g.val) 0#32) A 0) B
      = ext x b k (g.val * 512 + p.val) := by
  rw [is_first, has_before]
  by_cases hp : p.val = 0
  · rw [if_pos hp, hp, Nat.add_zero]
    by_cases hg : g.val = 0
    · rw [if_pos hg, ext_off x b k _ (by omega)]; rfl
    · rw [if_neg hg, ← hA (by omega)]; rfl
  · rw [if_neg hp, ← hB (by omega)]; rfl

/-- The row after, likewise. -/
theorem after_row (x : S8x4096x7040.Idx → EReal) (b : Fin 8) (k : Fin 7040) (g : Fin 8) (p : Fin 512) (A B : EReal)
    (hA : g.val < 7 → A = ext x b k (g.val * 512 + 513)) (hB : p.val < 511 → B = ext x b k (g.val * 512 + p.val + 2)) :
    Scalar.select (IntOp.cmpi .eq (BitVec.ofNat 32 p.val) 511#32) (Scalar.select (Scalar.cmpi .slt (BitVec.ofNat 32 g.val) 7#32) A 0) B
      = ext x b k (g.val * 512 + p.val + 2) := by
  have := g.isLt
  have := p.isLt
  rw [is_last, has_after]
  by_cases hp : p.val = 511
  · rw [if_pos hp, hp]
    by_cases hg : g.val = 7
    · rw [if_pos hg, ext_off x b k _ (by omega)]; rfl
    · rw [if_neg hg, show g.val * 512 + 511 + 2 = g.val * 512 + 513 by omega, ← hA (by omega)]; rfl
  · rw [if_neg hp, ← hB (by omega)]; rfl

/-- The reference's padded rows. -/
theorem padded (x : S8x4096x7040.Idx → EReal) (b : Fin 8) (n : Fin 4098) (q : Fin 3072) (k : Fin 7040) (hk : k.val = q.val) :
    Cert.HeadsRefIdeal.Read.val_main_v1 (F := Ideal) x (ix3 b n q) = ext x b k n.val := by
  rw [show k = ⟨q.val, by omega⟩ from Fin.ext hk]
  pointwise [Cert.HeadsRefIdeal.Read.val_main_v1, Cert.HeadsRefIdeal.Read.val_main_v0,
    Cert.HeadsRefIdeal.Read.val_main_call0_v0, Cert.HeadsRefIdeal.Read.val_main_c]
  unfold ext
  split
  · rfl
  · simp [FloatOps.sitofp]

/-- The sequence and its weights, as the arguments hold them. -/
abbrev rows (c : Dev nD) : S8x4096x7040.Idx → EReal := (m ((c : Thread nD τ).loc main_arg0))
abbrev taps (c : Dev nD) : S3x3072.Idx → EReal := (m ((c : Thread nD τ).loc main_arg1))

/-- The short convolution at an entry. -/
def conv (c : Dev nD) (b : Fin 8) (r : ℕ) (k : Fin 7040) (q : Fin 3072) : EReal :=
  ext (rows m c) b k r * taps m c (ix2 0 q : S3x3072.Idx) + ext (rows m c) b k (r + 1) * taps m c (ix2 1 q : S3x3072.Idx)
    + ext (rows m c) b k (r + 2) * taps m c (ix2 2 q : S3x3072.Idx)

/-- The reference's convolution. -/
theorem reference_conv (c : Dev nD) (b : Fin 8) (r : Fin 4096) (q : Fin 3072) (k : Fin 7040) (hk : k.val = q.val) :
    Cert.HeadsRefIdeal.Read.val_main_v21 (F := Ideal) (rows m c) (taps m c) (ix3 b r q) = conv m c b r.val k q := by
  unfold conv
  rw [← padded (rows m c) b ⟨r.val, by omega⟩ q k hk, Nat.add_comm r.val 1, Nat.add_comm r.val 2,
    ← padded (rows m c) b ⟨1 + r.val, by omega⟩ q k hk, ← padded (rows m c) b ⟨2 + r.val, by omega⟩ q k hk]
  pointwise [Cert.HeadsRefIdeal.Read.val_main_v21,
    Cert.HeadsRefIdeal.Read.val_main_v20, Cert.HeadsRefIdeal.Read.val_main_v19,
    Cert.HeadsRefIdeal.Read.val_main_v18, Cert.HeadsRefIdeal.Read.val_main_v17,
    Cert.HeadsRefIdeal.Read.val_main_v16, Cert.HeadsRefIdeal.Read.val_main_v15,
    Cert.HeadsRefIdeal.Read.val_main_v14, Cert.HeadsRefIdeal.Read.val_main_v13,
    Cert.HeadsRefIdeal.Read.val_main_v12, Cert.HeadsRefIdeal.Read.val_main_v11,
    Cert.HeadsRefIdeal.Read.val_main_v10, Cert.HeadsRefIdeal.Read.val_main_v9,
    Cert.HeadsRefIdeal.Read.val_main_v8, Cert.HeadsRefIdeal.Read.val_main_v7,
    Cert.HeadsRefIdeal.Read.val_main_v6, Cert.HeadsRefIdeal.Read.val_main_v5,
    Cert.HeadsRefIdeal.Read.val_main_v4, Cert.HeadsRefIdeal.Read.val_main_v3,
    Cert.HeadsRefIdeal.Read.val_main_v2]

/-- A convolution as a block computes it, from what its windows hold. -/
theorem block_conv (c : Dev nD) (b : Fin 8) (k : Fin 7040) (q : Fin 3072) (g : Fin 8) (p : Fin 512)
    (A B X C D W0 W1 W2 : EReal)
    (hA : 0 < g.val → A = ext (rows m c) b k (g.val * 512)) (hB : 0 < p.val → B = ext (rows m c) b k (g.val * 512 + p.val))
    (hX : X = ext (rows m c) b k (g.val * 512 + p.val + 1))
    (hC : g.val < 7 → C = ext (rows m c) b k (g.val * 512 + 513)) (hD : p.val < 511 → D = ext (rows m c) b k (g.val * 512 + p.val + 2))
    (h0 : W0 = taps m c (ix2 0 q : S3x3072.Idx)) (h1 : W1 = taps m c (ix2 1 q : S3x3072.Idx))
    (h2 : W2 = taps m c (ix2 2 q : S3x3072.Idx)) (n : ℕ) (hn : n = g.val) :
    Scalar.select (IntOp.cmpi .eq (BitVec.ofNat 32 p.val) 0#32) (Scalar.select (Scalar.cmpi .sgt (BitVec.ofNat 32 n) 0#32) A 0) B * W0
      + X * W1
      + Scalar.select (IntOp.cmpi .eq (BitVec.ofNat 32 p.val) 511#32) (Scalar.select (Scalar.cmpi .slt (BitVec.ofNat 32 n) 7#32) C 0) D * W2
      = conv m c b (g.val * 512 + p.val) k q := by
  subst hn
  rw [before_row _ b k g p A B hA hB, after_row _ b k g p C D hC hD, hX, h0, h1, h2]
  rfl

/-- The block of tokens of a grid point, as a number below eight. -/
def spot (t : Fin cfg0.N) : Fin 8 := ⟨t.val / 24 % 8, Nat.mod_lt _ (by norm_num)⟩

/-- The sequence of a grid point. -/
def batch (t : Fin cfg0.N) : Fin 8 := ⟨t.val / 192, few t⟩

/-- The channel of a block's entry among the 3072, and among the projection's columns. -/
def channel (t : Fin cfg0.N) (j : Fin 128) : Fin 3072 := ⟨t.val % 24 * 128 + j.val, by omega⟩
def column (t : Fin cfg0.N) (j : Fin 128) : Fin 7040 := ⟨t.val % 24 * 128 + j.val, by omega⟩

/-- The row before an entry's, in the padded count that row's own number. -/
theorem previous (c : Dev nD) (b : Fin 8) (k : Fin 7040) (n : ℕ) (h : 0 < n) (hn : n ≤ 4096) :
    rows m c (ix3 b ⟨n - 1, by omega⟩ k : S8x4096x7040.Idx) = ext (rows m c) b k n :=
  ext_at _ b k n _ (by show n = n - 1 + 1; omega)

/-- The convolution of a block's entry. -/
def entry (c : Dev nD) (t : Fin cfg0.N) (p : Fin 512) (j : Fin 128) : EReal :=
  conv m c (batch t) ((spot t).val * 512 + p.val) (column t j) (channel t j)

/-- The two sums the kernel adds up to the convolution. -/
theorem summed (c : Dev nD) (t : Fin cfg0.N) (p : Fin 512) (j : Fin 128) :
    k0_pay3 (F := Ideal) (grid0.coords t) (iblk m c 0 t) (iblk m c 1 t) (iblk m c 3 t) (ix2 p j : S512x128.Idx)
        + k0_pay4 (F := Ideal) (grid0.coords t) (iblk m c 0 t) (iblk m c 2 t) (iblk m c 3 t) (ix2 p j : S512x128.Idx)
      = entry m c t p j := by
  have hs : (spot t).val < 8 := (spot t).isLt
  have hp := p.isLt
  have h7 : ((7 : Fin 8) : ℕ) = 7 := rfl
  have hv : (spot t).val = t.val / 24 % 8 := rfl
  pointwise [k0_pay3, k0_pay4, k0_pay2]
  refine block_conv m c (batch t) (column t j) (channel t j) (spot t) p _ _ _ _ _ _ _ _ ?_ ?_ ?_ ?_ ?_ ?_ ?_ ?_ _ (part t)
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · refine Eq.trans ?_ (previous m c _ _ _ (by omega) (by omega))
    blk_point [iblk, rows, V_main_arg0 m c, place t, spot, batch, column]
  · intro hg
    refine Eq.trans ?_ (previous m c _ _ _ (by omega) (by omega))
    blk_point [iblk, rows, V_main_arg0 m c, place t, spot, batch, column]
  · intro hp
    refine Eq.trans ?_ (previous m c _ _ _ (by omega) (by omega))
    blk_point [iblk, rows, V_main_arg0 m c, place t, spot, batch, column]
  · blk_point [iblk, taps, V_main_arg1 m c, place t, channel]
  · blk_point [iblk, taps, V_main_arg1 m c, place t, channel]
  · blk_point [iblk, taps, V_main_arg1 m c, place t, channel]

end Cert.HeadsIdeal.Tiles

end
-- ==== Proof.HeadsTiles.lean ====
/-
  The delta rule's queries, keys and values: what their array ends holding.  A grid point works on 512 tokens of one head, with the
  eight rows before and the eight rows after its block; the norm of a token reads that head's 128 channels alone.
-/
module

public import proofs.«01_k».proof.Proof.Gen.HeadsIdeal.Frame
public import proofs.«01_k».proof.Proof.Gen.HeadsRefIdeal.Read
public import proofs.«01_k».proof.Proof.Words
public import proofs.«01_k».proof.Proof.HeadsTaps
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HeadsIdeal.Tiles

open Cert.HeadsIdeal Cert.HeadsIdeal.Gen

variable (m : (ℓ : Loc nD τ sig) → Buf (Elt Ideal) ℓ)

/-- The activation. -/
def silu (x : EReal) : EReal := x * Ideal.logistic x

/-- The inverse norm of one token in one head. -/
def inverse (v : Fin 128 → EReal) : EReal := Ideal.rsqrt (∑ x, v x * v x + Ideal.ofBits FTy.f32 897988541#32)

/-- The factor of a head: a query's, a key's, or none. -/
def factor (n : ℕ) (v : Fin 128 → EReal) : EReal :=
  Scalar.select (Scalar.cmpi .slt (BitVec.ofNat 32 n) 8#32) (inverse v * (Named.named κ "inv_sqrt128" 0x3DB504F3#32 : Ideal .f32))
    (Scalar.select (Scalar.cmpi .slt (BitVec.ofNat 32 n) 16#32) (inverse v) 1)

theorem below_8 : ∀ n : Fin 24, n.val < 8 → Scalar.cmpi .slt (BitVec.ofNat 32 n.val) 8#32 = 1#1 := by decide
theorem from_8 : ∀ n : Fin 24, 8 ≤ n.val → Scalar.cmpi .slt (BitVec.ofNat 32 n.val) 8#32 = 0#1 := by decide
theorem below_16 : ∀ n : Fin 24, n.val < 16 → Scalar.cmpi .slt (BitVec.ofNat 32 n.val) 16#32 = 1#1 := by decide
theorem from_16 : ∀ n : Fin 24, 16 ≤ n.val → Scalar.cmpi .slt (BitVec.ofNat 32 n.val) 16#32 = 0#1 := by decide

theorem factor_query (n : Fin 24) (v : Fin 128 → EReal) (h : n.val < 8) :
    factor n.val v = inverse v * (Named.named κ "inv_sqrt128" 0x3DB504F3#32 : Ideal .f32) := by
  unfold factor
  rw [below_8 n h]
  rfl

theorem factor_key (n : Fin 24) (v : Fin 128 → EReal) (h : 8 ≤ n.val) (h' : n.val < 16) : factor n.val v = inverse v := by
  unfold factor
  rw [from_8 n h, below_16 n h']
  rfl

theorem factor_value (n : Fin 24) (v : Fin 128 → EReal) (h : 16 ≤ n.val) : factor n.val v = 1 := by
  unfold factor
  rw [from_8 n (by omega), from_16 n h]
  rfl

/-- The named constant divides by the root of a head's size. -/
theorem shrink (x : EReal) : x * (Named.named κ "inv_sqrt128" 0x3DB504F3#32 : Ideal .f32)
    = Ideal.div x (Ideal.sqrt (Ideal.ofBits FTy.f32 0x43000000#32)) := by
  have hk : (Named.named κ "inv_sqrt128" 0x3DB504F3#32 : Ideal .f32) = (((Real.sqrt 128)⁻¹ : ℝ) : EReal) :=
    IdealRules.named_const.ideal_named_scalar _ _ _ _ rfl
  rw [hk, Cert.Words.w128, Cert.Words.div_root _ _ (by norm_num)]

/-- The kernel's last step, from the convolution's two sums. -/
theorem normed (n : ℕ) (u v : FVec Ideal S512x128 .f32) (w : Fin 512 → Fin 128 → EReal)
    (hw : ∀ p j, u (ix2 p j : S512x128.Idx) + v (ix2 p j : S512x128.Idx) = w p j) (y : S1x512x128.Idx) :
    k0_pay1 (F := Ideal) (BitVec.ofNat 32 n) u v y = silu (w (y 1) (y 2)) * factor n (fun x => silu (w (y 1) x)) := by
  pointwise [k0_pay1]
  obtain rfl : (fun p j => u (ix2 p j : S512x128.Idx) + v (ix2 p j : S512x128.Idx)) = w := funext fun p => funext fun j => hw p j
  rfl

/-- What a grid point writes. -/
theorem block_out (c : Dev nD) (t : Fin cfg0.N) (y : S1x512x128.Idx) :
    k0_pay1 (F := Ideal) (BitVec.ofNat 32 (grid0.coords t 2).val)
        (k0_pay3 (F := Ideal) (grid0.coords t) (iblk m c 0 t) (iblk m c 1 t) (iblk m c 3 t))
        (k0_pay4 (F := Ideal) (grid0.coords t) (iblk m c 0 t) (iblk m c 2 t) (iblk m c 3 t)) y
      = silu (entry m c t (y 1) (y 2)) * factor (t.val % 24) (fun x => silu (entry m c t (y 1) x)) := by
  rw [head t]
  exact normed _ _ _ (fun p j => entry m c t p j) (summed m c t) y

/-- The reference's activation. -/
theorem reference_silu (c : Dev nD) (b : Fin 8) (r : Fin 4096) (q : Fin 3072) :
    Cert.HeadsRefIdeal.Read.val_main_v22 (F := Ideal) (rows m c) (taps m c) (ix3 b r q)
     = silu (Cert.HeadsRefIdeal.Read.val_main_v21 (F := Ideal) (rows m c) (taps m c) (ix3 b r q)) := by
  pointwise [Cert.HeadsRefIdeal.Read.val_main_v22, Cert.HeadsRefIdeal.Read.val_main_call1_v5,
    Cert.HeadsRefIdeal.Read.val_main_call1_v4, Cert.HeadsRefIdeal.Read.val_main_call1_v3,
    Cert.HeadsRefIdeal.Read.val_main_call1_v2, Cert.HeadsRefIdeal.Read.val_main_call1_v1,
    Cert.HeadsRefIdeal.Read.val_main_call1_v0, Cert.HeadsRefIdeal.Read.val_main_call1_cst,
    Cert.HeadsRefIdeal.Read.val_main_call1_cst_0]
  rfl

/-- The reference's activation at the place of a block's entry. -/
theorem reference_entry (c : Dev nD) (t : Fin cfg0.N) (p : Fin 512) (j : Fin 128) (b : Fin 8) (r : Fin 4096) (q : Fin 3072)
    (hb : b.val = t.val / 192) (hr : r.val = t.val / 24 % 8 * 512 + p.val) (hq : q.val = t.val % 24 * 128 + j.val) :
    Cert.HeadsRefIdeal.Read.val_main_v22 (F := Ideal) (rows m c) (taps m c) (ix3 b r q) = silu (entry m c t p j) := by
  have e0 : b = batch t := Fin.ext hb
  have e2 : q = channel t j := Fin.ext hq
  rw [reference_silu, reference_conv m c b r q (column t j) (by rw [hq]; rfl), e0, e2, hr]
  rfl

/-- The queries by head. -/
theorem query_head (c : Dev nD) (b : Fin 8) (r : Fin 4096) (h : Fin 8) (l : Fin 128) :
    Cert.HeadsRefIdeal.Read.val_main_v26 (F := Ideal) (rows m c) (taps m c) (ix4 b r h l)
      = Cert.HeadsRefIdeal.Read.val_main_v22 (F := Ideal) (rows m c) (taps m c) (ix3 b r ⟨h.val * 128 + l.val, by omega⟩) := by
  pointwise [Cert.HeadsRefIdeal.Read.val_main_v26, Cert.HeadsRefIdeal.Read.val_main_v23]

/-- The sum of the queries' squares. -/
theorem query_sum (c : Dev nD) (b : Fin 8) (r : Fin 4096) (h : Fin 8) :
    Cert.HeadsRefIdeal.Read.val_main_v28 (F := Ideal) (rows m c) (taps m c) (ix3 b r h)
      = ∑ x : Fin 128, Cert.HeadsRefIdeal.Read.val_main_v26 (F := Ideal) (rows m c) (taps m c) (ix4 b r h x)
          * Cert.HeadsRefIdeal.Read.val_main_v26 (F := Ideal) (rows m c) (taps m c) (ix4 b r h x) := by
  rw [Cert.HeadsRefIdeal.Read.val_main_v28_apply]
  refine (congrArg₂ (fun x y : EReal => x + y) (Ideal.ofBits_zero_f32) (Finset.sum_congr rfl fun x _ => ?_)).trans (zero_add _)
  have e : Cert.HeadsRefIdeal.Read.idx_main_v28 (ix3 b r h) x = ix4 b r h x := funext fun a => by
    match a with | ⟨0, _⟩ => rfl | ⟨1, _⟩ => rfl | ⟨2, _⟩ => rfl | ⟨3, _⟩ => rfl
  rw [Cert.HeadsRefIdeal.Read.val_main_v27_apply, e]
  generalize Cert.HeadsRefIdeal.Read.val_main_v26 (F := Ideal) (rows m c) (taps m c) (ix4 b r h x) = z
  rfl

/-- The reference's inverse norm of the queries. -/
theorem query_norm (c : Dev nD) (b : Fin 8) (r : Fin 4096) (h : Fin 8) (l : Fin 128) :
    Cert.HeadsRefIdeal.Read.val_main_v33 (F := Ideal) (rows m c) (taps m c) (ix4 b r h l)
      = inverse (fun x => Cert.HeadsRefIdeal.Read.val_main_v26 (F := Ideal) (rows m c) (taps m c) (ix4 b r h x)) := by
  unfold inverse
  rw [← query_sum m c b r h]
  pointwise [Cert.HeadsRefIdeal.Read.val_main_v33, Cert.HeadsRefIdeal.Read.val_main_v32, Cert.HeadsRefIdeal.Read.val_main_v31, Cert.HeadsRefIdeal.Read.val_main_v30, Cert.HeadsRefIdeal.Read.val_main_cst_0, Cert.HeadsRefIdeal.Read.val_main_v29]

/-- The reference's queries, normed. -/
theorem query_normed (c : Dev nD) (b : Fin 8) (r : Fin 4096) (h : Fin 8) (l : Fin 128) :
    Cert.HeadsRefIdeal.Read.val_main_v34 (F := Ideal) (rows m c) (taps m c) (ix4 b r h l)
      = Cert.HeadsRefIdeal.Read.val_main_v26 (F := Ideal) (rows m c) (taps m c) (ix4 b r h l)
        * inverse (fun x => Cert.HeadsRefIdeal.Read.val_main_v26 (F := Ideal) (rows m c) (taps m c) (ix4 b r h x)) := by
  rw [← query_norm m c b r h l, Cert.HeadsRefIdeal.Read.val_main_v34_apply]
  generalize Cert.HeadsRefIdeal.Read.val_main_v26 (F := Ideal) (rows m c) (taps m c) (ix4 b r h l) = z
  generalize Cert.HeadsRefIdeal.Read.val_main_v33 (F := Ideal) (rows m c) (taps m c) (ix4 b r h l) = w
  rfl

/-- The keys by head. -/
theorem key_head (c : Dev nD) (b : Fin 8) (r : Fin 4096) (h : Fin 8) (l : Fin 128) :
    Cert.HeadsRefIdeal.Read.val_main_v38 (F := Ideal) (rows m c) (taps m c) (ix4 b r h l)
      = Cert.HeadsRefIdeal.Read.val_main_v22 (F := Ideal) (rows m c) (taps m c) (ix3 b r ⟨1024 + (h.val * 128 + l.val), by omega⟩) := by
  pointwise [Cert.HeadsRefIdeal.Read.val_main_v38, Cert.HeadsRefIdeal.Read.val_main_v24]

/-- The sum of the keys' squares. -/
theorem key_sum (c : Dev nD) (b : Fin 8) (r : Fin 4096) (h : Fin 8) :
    Cert.HeadsRefIdeal.Read.val_main_v40 (F := Ideal) (rows m c) (taps m c) (ix3 b r h)
      = ∑ x : Fin 128, Cert.HeadsRefIdeal.Read.val_main_v38 (F := Ideal) (rows m c) (taps m c) (ix4 b r h x)
          * Cert.HeadsRefIdeal.Read.val_main_v38 (F := Ideal) (rows m c) (taps m c) (ix4 b r h x) := by
  rw [Cert.HeadsRefIdeal.Read.val_main_v40_apply]
  refine (congrArg₂ (fun x y : EReal => x + y) (Ideal.ofBits_zero_f32) (Finset.sum_congr rfl fun x _ => ?_)).trans (zero_add _)
  have e : Cert.HeadsRefIdeal.Read.idx_main_v40 (ix3 b r h) x = ix4 b r h x := funext fun a => by
    match a with | ⟨0, _⟩ => rfl | ⟨1, _⟩ => rfl | ⟨2, _⟩ => rfl | ⟨3, _⟩ => rfl
  rw [Cert.HeadsRefIdeal.Read.val_main_v39_apply, e]
  generalize Cert.HeadsRefIdeal.Read.val_main_v38 (F := Ideal) (rows m c) (taps m c) (ix4 b r h x) = z
  rfl

/-- The reference's inverse norm of the keys. -/
theorem key_norm (c : Dev nD) (b : Fin 8) (r : Fin 4096) (h : Fin 8) (l : Fin 128) :
    Cert.HeadsRefIdeal.Read.val_main_v45 (F := Ideal) (rows m c) (taps m c) (ix4 b r h l)
      = inverse (fun x => Cert.HeadsRefIdeal.Read.val_main_v38 (F := Ideal) (rows m c) (taps m c) (ix4 b r h x)) := by
  unfold inverse
  rw [← key_sum m c b r h]
  pointwise [Cert.HeadsRefIdeal.Read.val_main_v45, Cert.HeadsRefIdeal.Read.val_main_v44, Cert.HeadsRefIdeal.Read.val_main_v43, Cert.HeadsRefIdeal.Read.val_main_v42, Cert.HeadsRefIdeal.Read.val_main_cst_3, Cert.HeadsRefIdeal.Read.val_main_v41]

/-- The reference's keys, normed. -/
theorem key_normed (c : Dev nD) (b : Fin 8) (r : Fin 4096) (h : Fin 8) (l : Fin 128) :
    Cert.HeadsRefIdeal.Read.val_main_v46 (F := Ideal) (rows m c) (taps m c) (ix4 b r h l)
      = Cert.HeadsRefIdeal.Read.val_main_v38 (F := Ideal) (rows m c) (taps m c) (ix4 b r h l)
        * inverse (fun x => Cert.HeadsRefIdeal.Read.val_main_v38 (F := Ideal) (rows m c) (taps m c) (ix4 b r h x)) := by
  rw [← key_norm m c b r h l, Cert.HeadsRefIdeal.Read.val_main_v46_apply]
  generalize Cert.HeadsRefIdeal.Read.val_main_v38 (F := Ideal) (rows m c) (taps m c) (ix4 b r h l) = z
  generalize Cert.HeadsRefIdeal.Read.val_main_v45 (F := Ideal) (rows m c) (taps m c) (ix4 b r h l) = w
  rfl

/-- The reference's queries, one row of heads. -/
theorem query_row (c : Dev nD) (b : Fin 8) (r : Fin 4096) (q : Fin 1024) (h : Fin 8) (l : Fin 128) (e : q.val = h.val * 128 + l.val) :
    Cert.HeadsRefIdeal.Read.val_main_v47 (F := Ideal) (rows m c) (taps m c) (ix3 b r q)
      = Ideal.div (Cert.HeadsRefIdeal.Read.val_main_v34 (F := Ideal) (rows m c) (taps m c) (ix4 b r h l)) (Ideal.sqrt (Ideal.ofBits FTy.f32 0x43000000#32)) := by
  have hh : (⟨q.val / 128, by omega⟩ : Fin 8) = h := Fin.ext (by show q.val / 128 = h.val; omega)
  have hl : (⟨q.val % 128, by omega⟩ : Fin 128) = l := Fin.ext (by show q.val % 128 = l.val; omega)
  refine Eq.trans ?_ (congrArg₂ (fun (x : Fin 8) (y : Fin 128) => Ideal.div (Cert.HeadsRefIdeal.Read.val_main_v34 (F := Ideal) (rows m c) (taps m c) (ix4 b r x y)) (Ideal.sqrt (Ideal.ofBits FTy.f32 0x43000000#32))) hh hl)
  pointwise [Cert.HeadsRefIdeal.Read.val_main_v47, Cert.HeadsRefIdeal.Read.val_main_v37, Cert.HeadsRefIdeal.Read.val_main_v36, Cert.HeadsRefIdeal.Read.val_main_v35, Cert.HeadsRefIdeal.Read.val_main_cst_1]

/-- The reference's keys, one row of heads. -/
theorem key_row (c : Dev nD) (b : Fin 8) (r : Fin 4096) (q : Fin 1024) (h : Fin 8) (l : Fin 128) (e : q.val = h.val * 128 + l.val) :
    Cert.HeadsRefIdeal.Read.val_main_v48 (F := Ideal) (rows m c) (taps m c) (ix3 b r q)
      = Cert.HeadsRefIdeal.Read.val_main_v46 (F := Ideal) (rows m c) (taps m c) (ix4 b r h l) := by
  have hh : (⟨q.val / 128, by omega⟩ : Fin 8) = h := Fin.ext (by show q.val / 128 = h.val; omega)
  have hl : (⟨q.val % 128, by omega⟩ : Fin 128) = l := Fin.ext (by show q.val % 128 = l.val; omega)
  refine Eq.trans ?_ (congrArg₂ (fun (x : Fin 8) (y : Fin 128) => Cert.HeadsRefIdeal.Read.val_main_v46 (F := Ideal) (rows m c) (taps m c) (ix4 b r x y)) hh hl)
  pointwise [Cert.HeadsRefIdeal.Read.val_main_v48]

/-- The reference's result, by the three kinds of head. -/
theorem reference_kinds (c : Dev nD) (b : Fin 8) (r : Fin 4096) (q : Fin 3072) :
    Cert.HeadsRefIdeal.Read.val_main_v49 (F := Ideal) (rows m c) (taps m c) (ix3 b r q)
      = if h : q.val < 1024 then Cert.HeadsRefIdeal.Read.val_main_v47 (F := Ideal) (rows m c) (taps m c) (ix3 b r ⟨q.val, h⟩)
        else if h' : q.val - 1024 < 1024 then Cert.HeadsRefIdeal.Read.val_main_v48 (F := Ideal) (rows m c) (taps m c) (ix3 b r ⟨q.val - 1024, h'⟩)
        else Cert.HeadsRefIdeal.Read.val_main_v25 (F := Ideal) (rows m c) (taps m c) (ix3 b r ⟨q.val - 1024 - 1024, by omega⟩) := by
  pointwise [Cert.HeadsRefIdeal.Read.val_main_v49]

/-- The reference's values. -/
theorem value_row (c : Dev nD) (b : Fin 8) (r : Fin 4096) (q : Fin 1024) :
    Cert.HeadsRefIdeal.Read.val_main_v25 (F := Ideal) (rows m c) (taps m c) (ix3 b r q)
      = Cert.HeadsRefIdeal.Read.val_main_v22 (F := Ideal) (rows m c) (taps m c) (ix3 b r ⟨2048 + q.val, by omega⟩) := by
  pointwise [Cert.HeadsRefIdeal.Read.val_main_v25]

/-- The reference's result at the place of a block's entry. -/
theorem reference_block (c : Dev nD) (t : Fin cfg0.N) (p : Fin 512) (j : Fin 128) (b : Fin 8) (r : Fin 4096) (q : Fin 3072)
    (hb : b.val = t.val / 192) (hr : r.val = t.val / 24 % 8 * 512 + p.val) (hq : q.val = t.val % 24 * 128 + j.val) :
    Cert.HeadsRefIdeal.Read.val_main_v49 (F := Ideal) (rows m c) (taps m c) (ix3 b r q)
      = silu (entry m c t p j) * factor (t.val % 24) (fun x => silu (entry m c t p x)) := by
  have hj := j.isLt
  have ht : t.val % 24 < 24 := Nat.mod_lt _ (by norm_num)
  rw [reference_kinds m c b r q]
  by_cases h8 : t.val % 24 < 8
  · rw [dif_pos (show q.val < 1024 by omega), query_row m c b r ⟨q.val, by omega⟩ ⟨t.val % 24, h8⟩ j hq, query_normed m c]
    simp only [query_head m c]
    rw [← shrink, mul_assoc]
    refine congrArg₂ _ (reference_entry m c t p j _ _ _ hb hr rfl) ?_
    refine (congrArg (fun v => inverse v * _) (funext fun x => reference_entry m c t p x _ _ _ hb hr rfl)).trans ?_
    exact (factor_query ⟨t.val % 24, ht⟩ _ h8).symm
  · by_cases h16 : t.val % 24 < 16
    · rw [dif_neg (show ¬ q.val < 1024 by omega), dif_pos (show q.val - 1024 < 1024 by omega),
        key_row m c b r ⟨q.val - 1024, by omega⟩ ⟨t.val % 24 - 8, by omega⟩ j
          (by show q.val - 1024 = (t.val % 24 - 8) * 128 + j.val; omega), key_normed m c]
      simp only [key_head m c]
      refine congrArg₂ _ (reference_entry m c t p j _ _ _ hb hr
        (by show 1024 + ((t.val % 24 - 8) * 128 + j.val) = t.val % 24 * 128 + j.val; omega)) ?_
      refine (congrArg inverse (funext fun x => reference_entry m c t p x _ _ _ hb hr
        (by show 1024 + ((t.val % 24 - 8) * 128 + x.val) = t.val % 24 * 128 + x.val; omega))).trans ?_
      exact (factor_key ⟨t.val % 24, ht⟩ _ (by show 8 ≤ t.val % 24; omega) h16).symm
    · rw [dif_neg (show ¬ q.val < 1024 by omega), dif_neg (show ¬ q.val - 1024 < 1024 by omega), value_row m c,
        factor_value ⟨t.val % 24, ht⟩ _ (by show 16 ≤ t.val % 24; omega), mul_one]
      exact reference_entry m c t p j _ _ _ hb hr (by show 2048 + (q.val - 1024 - 1024) = t.val % 24 * 128 + j.val; omega)

/-- After the last block the result array is the reference's. -/
theorem final (c : Dev nD) : (dats m 0 c).arrAt 4 cfg0.N
    = Cert.HeadsRefIdeal.Read.val_main_v49 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  refine (block_out m c t y).trans (Eq.symm ?_)
  refine (congrArg _ (Idealize.ShloMosaic.eq_ix3 _)).trans (reference_block m c t (y 1) (y 2) _ _ _ ?_ ?_ ?_)
  · blk_simp [place t]
  · blk_simp [place t]
  · blk_simp [place t]

end Cert.HeadsIdeal.Tiles

end
-- ==== Proof.HeadsClaims.lean ====
/-
  The claims about the delta rule's queries, keys and values.
-/
module

public import proofs.«01_k».proof.Defs
public import proofs.«01_k».proof.Proof.Gen.Heads.Frame
public import proofs.«01_k».proof.Proof.Gen.HeadsIdeal.Frame
public import proofs.«01_k».proof.Proof.Gen.HeadsRefIdeal.Run
public import proofs.«01_k».proof.Proof.Gen.HeadsRefIdeal.Read
public import proofs.«01_k».proof.Proof.HeadsTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.Heads

/-- The reference's program leaves its arguments as they were and every semaphore at zero. -/
theorem reference_frame : quiescent_HeadsRefIdeal (hHeadsRefIdeal := Cert.HeadsRefIdeal.Gen.facts) :=
  fun m ρ _ => (θ_run Cert.HeadsRefIdeal.defs _ _).mono
    (fun r h => ⟨fun c => (h c).2, Idealize.ShloMosaic.sem_eq_zero_of_no_sems (by decide) r.2⟩)
    (Cert.HeadsRefIdeal.Value.run (F := Ideal) m ρ)

/-- Over the extended reals the call's result array is the reference's. -/
theorem value : algebraic_HeadsIdeal_HeadsRefIdeal (hHeadsIdeal := Cert.HeadsIdeal.Gen.facts) (hHeadsRefIdeal := Cert.HeadsRefIdeal.Gen.facts) := by
  pair_intro
  · run_from Cert.HeadsIdeal.Gen.run_main m g
  · run_from Cert.HeadsRefIdeal.Value.run m' g'
    refine (Cert.HeadsRefIdeal.Read.val_main_v49_eq m' c).trans ?_
    obtain ⟨h0, h1⟩ := hagree c
    exact Eq.trans (congrArg₂ _ h0 h1) (Cert.HeadsIdeal.Tiles.final m c).symm

end Cert.Proof.Heads

end
-- ==== Proof.FoldTiles.lean ====
/-
  The Fourier tables folded with the output weights: what its result array ends holding.
-/
module

public import proofs.«01_k».proof.Proof.Gen.FoldIdeal.Frame
public import proofs.«01_k».proof.Proof.Gen.FoldRefIdeal.Read
public import Idealize.ShloMosaic.Lib.Pipeline.ValueKit
public import Idealize.ShloMosaic.Lib.Claim
public import Idealize.ShloMosaic.Lib.Pointwise
public import proofs.«01_k».proof.Proof.Words

@[expose] public section

set_option maxRecDepth 16384

noncomputable section

open Idealize.ShloMosaic Idealize.ShloMosaic.TcCoe Idealize.SL.Sem
open Idealize.ShloMosaic.Pipeline (Dat)

namespace Cert.FoldIdeal.Tiles

open Cert.FoldIdeal Cert.FoldIdeal.Gen

variable (m : (ℓ : Loc nD τ sig) → Buf (Elt Ideal) ℓ)

/-- Where each window's block sits: each is its whole array. -/
theorem place : ∀ t : Fin cfg0.N, (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0 ∧ win0_2.index t 3 = 0) :=
  (by decide +kernel : ∀ t : Fin grid0.N, _)

/-- The named constant divides by the root of the table's size. -/
theorem shrink (x : EReal) : x * (Named.named κ "inv_sqrt_size" 0x3AB504F3#32 : Ideal .f32)
    = Ideal.div x (Ideal.sqrt (Ideal.ofBits FTy.f32 0x49000000#32)) := by
  have hk : (Named.named κ "inv_sqrt_size" 0x3AB504F3#32 : Ideal .f32) = (((Real.sqrt 524288)⁻¹ : ℝ) : EReal) :=
    IdealRules.named_const.ideal_named_scalar _ _ _ _ rfl
  rw [hk, Cert.Words.w524288, Cert.Words.div_root _ _ (by norm_num)]

/-- The negative named constant also negates. -/
theorem shrink_neg (x : EReal) : x * (Named.named κ "neg_inv_sqrt_size" 0xBAB504F3#32 : Ideal .f32)
    = Ideal.div (-x) (Ideal.sqrt (Ideal.ofBits FTy.f32 0x49000000#32)) := by
  have hk : (Named.named κ "neg_inv_sqrt_size" 0xBAB504F3#32 : Ideal .f32) = ((-((Real.sqrt 524288)⁻¹) : ℝ) : EReal) :=
    IdealRules.named_const.ideal_named_scalar _ _ _ _ rfl
  rw [hk, Cert.Words.w524288, Cert.Words.div_root _ _ (by norm_num), EReal.coe_neg, mul_neg, neg_mul]

/-- After the call the result array is the reference's. -/
theorem final (c : Dev nD) : (dats m 0 c).arrAt 2 cfg0.N
    = Cert.FoldRefIdeal.Read.val_main_v17 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [
    Cert.FoldRefIdeal.Read.val_main_v17, Cert.FoldRefIdeal.Read.val_main_v16, Cert.FoldRefIdeal.Read.val_main_v15,
    Cert.FoldRefIdeal.Read.val_main_v14, Cert.FoldRefIdeal.Read.val_main_v13, Cert.FoldRefIdeal.Read.val_main_v12,
    Cert.FoldRefIdeal.Read.val_main_v11, Cert.FoldRefIdeal.Read.val_main_v10, Cert.FoldRefIdeal.Read.val_main_v9,
    Cert.FoldRefIdeal.Read.val_main_v8, Cert.FoldRefIdeal.Read.val_main_v7, Cert.FoldRefIdeal.Read.val_main_v6,
    Cert.FoldRefIdeal.Read.val_main_v5, Cert.FoldRefIdeal.Read.val_main_v4, Cert.FoldRefIdeal.Read.val_main_v3,
    Cert.FoldRefIdeal.Read.val_main_v2, Cert.FoldRefIdeal.Read.val_main_v1, Cert.FoldRefIdeal.Read.val_main_v0,
    Cert.FoldRefIdeal.Read.val_main_cst]
  canon_tiles x h
  all_goals
    open_payloads
    pointwise
  all_goals first
    | rw [dif_pos (by blk_simp [place t]; omega)]
      refine (shrink _).trans (congrArg (fun z : EReal => Ideal.div z _) (Fin.sum_fin_congr fun k =>
        (mul_comm (_ : EReal) _).trans (congrArg₂ (fun u v : EReal => u * v) ?_ ?_)))
    | rw [dif_neg (by blk_simp [place t]; omega)]
      refine (shrink_neg _).trans (congrArg (fun z : EReal => Ideal.div (-z) _) (Fin.sum_fin_congr fun k =>
        (mul_comm (_ : EReal) _).trans (congrArg₂ (fun u v : EReal => u * v) ?_ ?_)))
  all_goals
    blk_point [iblk, V_main_arg0 m c, V_main_arg1 m c, place t]

end Cert.FoldIdeal.Tiles

end
-- ==== Proof.FoldClaims.lean ====
/-
  The claims about the Fourier mixer's folded weights.
-/
module

public import proofs.«01_k».proof.Defs
public import proofs.«01_k».proof.Proof.Gen.Fold.Frame
public import proofs.«01_k».proof.Proof.Gen.FoldIdeal.Frame
public import proofs.«01_k».proof.Proof.Gen.FoldRefIdeal.Run
public import proofs.«01_k».proof.Proof.FoldTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.Fold

/-- The reference's program leaves its arguments as they were and every semaphore at zero. -/
theorem reference_frame : quiescent_FoldRefIdeal (hFoldRefIdeal := Cert.FoldRefIdeal.Gen.facts) :=
  fun m ρ _ => (θ_run Cert.FoldRefIdeal.defs _ _).mono
    (fun r h => ⟨fun c => (h c).2, Idealize.ShloMosaic.sem_eq_zero_of_no_sems (by decide) r.2⟩)
    (Cert.FoldRefIdeal.Value.run (F := Ideal) m ρ)

/-- Over the extended reals the call's result array is the reference's. -/
theorem value : algebraic_FoldIdeal_FoldRefIdeal (hFoldIdeal := Cert.FoldIdeal.Gen.facts) (hFoldRefIdeal := Cert.FoldRefIdeal.Gen.facts) := by
  pair_intro
  · run_from Cert.FoldIdeal.Gen.run_main m g
  · run_from Cert.FoldRefIdeal.Value.run m' g'
    exact (Cert.FoldIdeal.Tiles.final m c).symm

end Cert.Proof.Fold

end
-- ==== Proof.FilterDftTiles.lean ====
/-
  The filter's transform, half by half: what its result array ends holding.
-/
module

public import proofs.«01_k».proof.Proof.Gen.FilterDftIdeal.Frame
public import proofs.«01_k».proof.Proof.Gen.FilterDftRefIdeal.Read
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FilterDftIdeal.Tiles

open Cert.FilterDftIdeal Cert.FilterDftIdeal.Gen

variable (m : (ℓ : Loc nD τ sig) → Buf (Elt Ideal) ℓ)

/-- Where each window's block sits: two halves of the filter, in each eight blocks of 512 frequencies, in each eight blocks of
    512 positions, the positions running fastest. -/
theorem place : ∀ t : Fin cfg0.N, (win0_0.index t 0 = 0 ∧ win0_0.index t 1 = t.val / 8 % 8 ∧ win0_0.index t 2 = t.val % 8)
    ∧ (win0_1.index t 0 = t.val / 64 ∧ win0_1.index t 1 = t.val % 8 ∧ win0_1.index t 2 = 0)
    ∧ (win0_2.index t 0 = t.val / 64 ∧ win0_2.index t 1 = 0 ∧ win0_2.index t 2 = t.val / 8 % 8 ∧ win0_2.index t 3 = 0) :=
  (by decide +kernel : ∀ t : Fin grid0.N, _)

/-- An earlier store does not show where later stores lie over it. -/
theorem canon_under {S : Shape} {e : EltTy} (q : View.Piece (Elt Ideal) S e) :
    ∀ (L : List (View.Piece (Elt Ideal) S e)) (y : S.Idx),
      (∃ p ∈ L, y ∈ p.1.set) → View.canon (L ++ [q]) y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨r, hr, hy⟩ := hy
      rcases List.mem_cons.mp hr with rfl | hr
      · exact absurd hy hm
      · exact canon_under q L y ⟨r, hr, hy⟩

/-- A load after the point's stores reads what they leave. -/
theorem gathered (L : List (View.Piece (Elt Ideal) S2x512x512 .f32)) (r : Rect S2x512x512) :
    (View.whole cc0_scratch0 : View sig .tc _ S2x512x512 .f32).readCov L r.toLoadRect = View.ld (View.canon L) r :=
  View.readCov_eq_canon' _ L _

/-- What the accumulator held before, read back. -/
theorem carried (P : Vec Ideal S2x512x512 .f32) :
    View.read (Elt Ideal) (View.whole cc0_scratch0) ((Memref.isWhole_whole cc0_scratch0).unread P) = P :=
  (Memref.isWhole_whole cc0_scratch0).read_unread P

/-- What one block of positions adds to an entry of the accumulator. -/
def part (T : S2x512x512.Idx → EReal) (X : S1x512x512.Idx → EReal) (y : S2x512x512.Idx) : EReal :=
  ∑ k : Fin 512, T (ix3 (y 0) (y 1) k) * X (ix3 0 k (y 2))

/-- The first block of positions leaves its own part. -/
theorem state_A (c : Dev nD) (t : Fin cfg0.N) (h0 : t.val % 8 = 0) (y : S2x512x512.Idx) :
    (outsAt0 m c t.val t.isLt).2 y = 0 + part (iblk m c 0 t) (iblk m c 1 t) y := by
  rw [outsAt0_A m c t h0 (by omega)]; frame_out
  refine Eq.trans (canon_under _ [_, _] y ?_) ?_
  · exact View.cover_of_tiledL (_ : List (View.Piece (Elt Ideal) S2x512x512 .f32)) S1x512x512.size (by sl_kernel_rfl) y
  simp (disch := decide) only [↓View.readCov_skip, ↓View.readCov_fill]
  unfold part
  canon_tiles x h
  all_goals
    open_payloads; pointwise
    refine Fin.sum_fin_congr fun k => ?_
    blk_point []

/-- A later block of positions adds its part. -/
theorem state_B (c : Dev nD) (t : Fin cfg0.N) (h0 : ¬t.val % 8 = 0) (y : S2x512x512.Idx) :
    (outsAt0 m c t.val t.isLt).2 y
      = (outsAt0 m c (t.val - 1) (Nat.lt_of_le_of_lt (Nat.sub_le _ _) t.isLt)).2 y
        + part (iblk m c 0 t) (iblk m c 1 t) y := by
  by_cases h1 : t.val % 8 = 7
  · rw [outsAt0_C m c t h0 h1]; frame_out
    generalize (outsAt0 m c (t.val - 1) (Nat.lt_of_le_of_lt (Nat.sub_le _ _) t.isLt)).2 = P
    unfold part
    canon_tiles x h
    all_goals
      open_payloads; pointwise
      rw [carried]
      refine congrArg₂ (fun u v : EReal => u + v) ?_ (Fin.sum_fin_congr fun k => ?_) <;> blk_point []
  · rw [outsAt0_B m c t h0 h1]; frame_out
    generalize (outsAt0 m c (t.val - 1) (Nat.lt_of_le_of_lt (Nat.sub_le _ _) t.isLt)).2 = P
    unfold part
    canon_tiles x h
    all_goals
      open_payloads; pointwise
      rw [carried]
      refine congrArg₂ (fun u v : EReal => u + v) ?_ (Fin.sum_fin_congr fun k => ?_) <;> blk_point []

/-- The transform tables, an argument. -/
abbrev table (c : Dev nD) : S2x4096x4096.Idx → EReal := m ((c : Thread nD τ).loc main_arg0)

/-- The sequences transformed, an argument. -/
abbrev seqs (c : Dev nD) : S2x4096x512.Idx → EReal := m ((c : Thread nD τ).loc main_arg1)

/-- The accumulator at the last block of positions: the whole sum. -/
theorem total (c : Dev nD) (t : Fin cfg0.N) (ht : t.val % 8 = 7) (y : S2x512x512.Idx) (z : Fin 2) (b : Fin 2) (r : Fin 4096)
    (q : Fin 512) (hz : (z : ℕ) = y 0) (hb : (b : ℕ) = t.val / 64) (hr : (r : ℕ) = t.val / 8 % 8 * 512 + y 1)
    (hq : (q : ℕ) = y 2) :
    (outsAt0 m c t.val t.isLt).2 y
      = ∑ l : Fin 4096, table m c (ix3 z r l) * seqs m c (ix3 b l q) := by
  rw [Pipeline.eq_sum_fin_of_reset_step_apply_of_flush (fun n h => (outsAt0 m c n h).2) 8 (fun _ => 0) _
    (fun t h j => state_A m c t h j) (fun t h j => state_B m c t h j) t ht y, zero_add]
  unfold part
  refine Fin.sum_mul_add_congr fun s k hl => ?_
  blk_point [iblk, table, seqs, V_main_arg0 m c, V_main_arg1 m c, place t,
    place ⟨_, Pipeline.run_point_lt_of_flush t ht s⟩]

/-- The block written at the last point is the accumulator. -/
theorem written (c : Dev nD) (t : Fin cfg0.N) (ht : t.val % 8 = 7) (y : S1x2x512x512.Idx) :
    (outsAt0 m c t.val t.isLt).1 y = k0_pay1 (F := Ideal) (outsAt0 m c t.val t.isLt).2 y := by
  rw [outsAt0_C m c t (by omega) ht]
  frame_out
  rw [gathered, View.ld_unit_lit _ _ (by decide)]

/-- After the last point the result array is the reference's. -/
theorem final (c : Dev nD) : (dats m 0 c).arrAt 2 cfg0.N
    = Cert.FilterDftRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2]
  refine (written m c t h7 y).trans ?_
  pointwise [k0_pay1,
    Cert.FilterDftRefIdeal.Read.val_main_v2, Cert.FilterDftRefIdeal.Read.val_main_v1,
    Cert.FilterDftRefIdeal.Read.val_main_v0]
  refine (total m c t h7 _ (((cfg0.win 2).blk t).view.emb y 1) (((cfg0.win 2).blk t).view.emb y 0)
    (((cfg0.win 2).blk t).view.emb y 2) (((cfg0.win 2).blk t).view.emb y 3) ?_ ?_ ?_ ?_).trans (Fin.sum_fin_congr fun k => ?_)
  · blk_simp [place t]
  · blk_simp [place t]
  · blk_simp [place t]
  · blk_simp [place t]
  · refine (mul_comm (_ : EReal) _).trans (congrArg₂ (fun u v : EReal => u * v) ?_ ?_) <;> blk_point [table, seqs, place t]

end Cert.FilterDftIdeal.Tiles

end
-- ==== Proof.FilterDftClaims.lean ====
/-
  The claims about the filter's transform by halves.
-/
module

public import proofs.«01_k».proof.Defs
public import proofs.«01_k».proof.Proof.Gen.FilterDft.Frame
public import proofs.«01_k».proof.Proof.Gen.FilterDftIdeal.Frame
public import proofs.«01_k».proof.Proof.Gen.FilterDftRefIdeal.Run
public import proofs.«01_k».proof.Proof.FilterDftTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.FilterDft

/-- The reference's program leaves its arguments as they were and every semaphore at zero. -/
theorem reference_frame : quiescent_FilterDftRefIdeal (hFilterDftRefIdeal := Cert.FilterDftRefIdeal.Gen.facts) :=
  fun m ρ _ => (θ_run Cert.FilterDftRefIdeal.defs _ _).mono
    (fun r h => ⟨fun c => (h c).2, Idealize.ShloMosaic.sem_eq_zero_of_no_sems (by decide) r.2⟩)
    (Cert.FilterDftRefIdeal.Value.run (F := Ideal) m ρ)

/-- Over the extended reals the call's result array is the reference's. -/
theorem value : algebraic_FilterDftIdeal_FilterDftRefIdeal (hFilterDftIdeal := Cert.FilterDftIdeal.Gen.facts) (hFilterDftRefIdeal := Cert.FilterDftRefIdeal.Gen.facts) := by
  pair_intro
  · run_from Cert.FilterDftIdeal.Gen.run_main m g
  · run_from Cert.FilterDftRefIdeal.Value.run m' g'
    exact (Cert.FilterDftIdeal.Tiles.final m c).symm

end Cert.Proof.FilterDft

end
-- ==== Proof.CombineTiles.lean ====
/-
  The filter's transform put together: what its result array ends holding.
-/
module

public import proofs.«01_k».proof.Proof.Gen.CombineIdeal.Frame
public import proofs.«01_k».proof.Proof.Gen.CombineRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CombineIdeal.Tiles

open Cert.CombineIdeal Cert.CombineIdeal.Gen

variable (m : (ℓ : Loc nD τ sig) → Buf (Elt Ideal) ℓ)

/-- Where each window's block sits: eight blocks of 512 rows, and the one row of sums. -/
theorem place : ∀ t : Fin cfg0.N, (win0_0.index t 0 = 0 ∧ win0_0.index t 1 = 0 ∧ win0_0.index t 2 = t.val ∧ win0_0.index t 3 = 0)
    ∧ (win0_1.index t 0 = 0 ∧ win0_1.index t 1 = 0)
    ∧ (win0_2.index t 0 = 0 ∧ win0_2.index t 1 = t.val ∧ win0_2.index t 2 = 0) :=
  (by decide +kernel : ∀ t : Fin grid0.N, _)

/-- A row's number, as the kernel computes it. -/
theorem number (a b : ℕ) : IntOp.addi (Scalar.muli (BitVec.ofNat 32 a) 512#32) (BitVec.ofNat 32 b)
    = BitVec.ofNat 32 (a * 512 + b) := by
  rw [BitVec.ofNat_add, BitVec.ofNat_mul]; rfl

/-- The row block of a point. -/
theorem row : ∀ t : Fin cfg0.N, (grid0.coords t 0).val = t.val :=
  (by decide +kernel : ∀ t : Fin grid0.N, _)

/-- The kernel's row numbers. -/
theorem rows (t : Fin cfg0.N) (y : S512x512.Idx) (r : Fin 4096) (hr : (r : ℕ) = t.val * 512 + y 0) :
    k0_pay3 (grid0.coords t) y = BitVec.ofNat 32 r := by
  pointwise [k0_pay3]
  rw [number, row, hr]

/-- The kernel's alternating sign is the reference's. -/
theorem signs (t : Fin cfg0.N) (y : S512x512.Idx) (r : Fin 4096) (z : Fin 1) (hr : (r : ℕ) = t.val * 512 + y 0) :
    k0_pay4 (F := Ideal) (grid0.coords t) y = Cert.CombineRefIdeal.Read.val_main_v7 (F := Ideal) (ix2 r z) := by
  pointwise [k0_pay4]
  rw [rows t y r hr]
  pointwise [Cert.CombineRefIdeal.Read.val_main_v0, Cert.CombineRefIdeal.Read.val_main_v1, Cert.CombineRefIdeal.Read.val_main_c, Cert.CombineRefIdeal.Read.val_main_call0_v0, Cert.CombineRefIdeal.Read.val_main_call0_c, Cert.CombineRefIdeal.Read.val_main_call0_v1, Cert.CombineRefIdeal.Read.val_main_call0_c_0, Cert.CombineRefIdeal.Read.val_main_call0_v2, Cert.CombineRefIdeal.Read.val_main_call0_v3, Cert.CombineRefIdeal.Read.val_main_call0_v4, Cert.CombineRefIdeal.Read.val_main_call0_c_1, Cert.CombineRefIdeal.Read.val_main_call0_v5, Cert.CombineRefIdeal.Read.val_main_call0_v6, Cert.CombineRefIdeal.Read.val_main_call0_c_2, Cert.CombineRefIdeal.Read.val_main_call0_v7, Cert.CombineRefIdeal.Read.val_main_call0_v8, Cert.CombineRefIdeal.Read.val_main_call0_c_3, Cert.CombineRefIdeal.Read.val_main_call0_v9, Cert.CombineRefIdeal.Read.val_main_call0_v10, Cert.CombineRefIdeal.Read.val_main_call0_v11, Cert.CombineRefIdeal.Read.val_main_call0_v12, Cert.CombineRefIdeal.Read.val_main_call0_v13, Cert.CombineRefIdeal.Read.val_main_call0_v14, Cert.CombineRefIdeal.Read.val_main_v2, Cert.CombineRefIdeal.Read.val_main_c_0, Cert.CombineRefIdeal.Read.val_main_v3, Cert.CombineRefIdeal.Read.val_main_v4, Cert.CombineRefIdeal.Read.val_main_c_1, Cert.CombineRefIdeal.Read.val_main_v5, Cert.CombineRefIdeal.Read.val_main_v6, Cert.CombineRefIdeal.Read.val_main_v7, Cert.CombineRefIdeal.Read.val_main_c_2, Cert.CombineRefIdeal.Read.val_main_v17, Cert.CombineRefIdeal.Read.val_main_v18, Cert.CombineRefIdeal.Read.val_main_cst, Cert.CombineRefIdeal.Read.val_main_call1_v0, Cert.CombineRefIdeal.Read.val_main_call1_v1]
  refine congrArg (FloatOps.sitofp (F := Ideal) FTy.f32) ?_
  clear hr
  revert r
  decide +kernel

/-- The reference's sign of the sine half. -/
theorem signs_sine (r : Fin 4096) (z : Fin 1) : Cert.CombineRefIdeal.Read.val_main_v19 (F := Ideal) (ix2 r z)
    = Scalar.select (IntOp.cmpi CmpIPredicate.eq (BitVec.ofNat 32 r) 0#32) 1 (Cert.CombineRefIdeal.Read.val_main_v7 (F := Ideal) (ix2 r z)) := by
  pointwise [Cert.CombineRefIdeal.Read.val_main_v19, Cert.CombineRefIdeal.Read.val_main_v18, Cert.CombineRefIdeal.Read.val_main_v17, Cert.CombineRefIdeal.Read.val_main_c_2, Cert.CombineRefIdeal.Read.val_main_call1_v1, Cert.CombineRefIdeal.Read.val_main_call1_v0, Cert.CombineRefIdeal.Read.val_main_cst, Cert.CombineRefIdeal.Read.val_main_v1, Cert.CombineRefIdeal.Read.val_main_v0]
  exact congrArg (fun u : EReal => Scalar.select _ u _) Ideal.ofBits_one_f32

/-- After the last point the result array is the reference's. -/
theorem final (c : Dev nD) : (dats m 0 c).arrAt 2 cfg0.N
    = Cert.CombineRefIdeal.Read.val_main_v32 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  canon_tiles x h
  all_goals
    try simp only [k0_pay8]
    generalize hs : k0_pay4 (F := Ideal) (grid0.coords t) = S
    generalize hn : k0_pay3 (grid0.coords t) = N
    open_payloads
    pointwise [Cert.CombineRefIdeal.Read.val_main_v8, Cert.CombineRefIdeal.Read.val_main_v9, Cert.CombineRefIdeal.Read.val_main_v10, Cert.CombineRefIdeal.Read.val_main_v11, Cert.CombineRefIdeal.Read.val_main_v12, Cert.CombineRefIdeal.Read.val_main_v13, Cert.CombineRefIdeal.Read.val_main_v14, Cert.CombineRefIdeal.Read.val_main_v15, Cert.CombineRefIdeal.Read.val_main_v16, Cert.CombineRefIdeal.Read.val_main_v20, Cert.CombineRefIdeal.Read.val_main_v21, Cert.CombineRefIdeal.Read.val_main_v22, Cert.CombineRefIdeal.Read.val_main_v23, Cert.CombineRefIdeal.Read.val_main_v24, Cert.CombineRefIdeal.Read.val_main_v25, Cert.CombineRefIdeal.Read.val_main_v26, Cert.CombineRefIdeal.Read.val_main_v27, Cert.CombineRefIdeal.Read.val_main_cst_3, Cert.CombineRefIdeal.Read.val_main_v28, Cert.CombineRefIdeal.Read.val_main_v29, Cert.CombineRefIdeal.Read.val_main_v30, Cert.CombineRefIdeal.Read.val_main_v31, Cert.CombineRefIdeal.Read.val_main_v32]
  · rw [dif_neg (by blk_simp [place t]; omega)]
    refine congrArg₂ (fun u v : EReal => u * v) (congrArg₂ (fun u v : EReal => u + v) ?_
      (congrArg₂ (fun u v : EReal => u * v) (Eq.trans ?_ (signs_sine _ 0).symm) ?_)) (congrArg (Ideal.div 1) ?_)
    rotate_left
    · rw [← hs, ← hn, rows t _ (((cfg0.win 2).blk t).view.emb y 1) (by blk_simp [place t]; omega),
        signs t _ (((cfg0.win 2).blk t).view.emb y 1) 0 (by blk_simp [place t]; omega)]
    all_goals blk_point [iblk, V_main_arg0 m c, V_main_arg1 m c, place t]
  · rw [dif_pos (by blk_simp [place t]; omega)]
    refine congrArg₂ (fun u v : EReal => u * v) (congrArg₂ (fun u v : EReal => u + v) ?_
      (congrArg₂ (fun u v : EReal => u * v) ?_ ?_)) (congrArg (Ideal.div 1) ?_)
    rotate_left
    · rw [← hs]
      exact signs t _ (((cfg0.win 2).blk t).view.emb y 1) 0 (by blk_simp [place t]; omega)
    all_goals blk_point [iblk, V_main_arg0 m c, V_main_arg1 m c, place t]

end Cert.CombineIdeal.Tiles

end
-- ==== Proof.CombineClaims.lean ====
/-
  The claims about the filter spectrum's combination.
-/
module

public import proofs.«01_k».proof.Defs
public import proofs.«01_k».proof.Proof.Gen.Combine.Frame
public import proofs.«01_k».proof.Proof.Gen.CombineIdeal.Frame
public import proofs.«01_k».proof.Proof.Gen.CombineRefIdeal.Run
public import proofs.«01_k».proof.Proof.Gen.CombineRefIdeal.Read
public import proofs.«01_k».proof.Proof.CombineTiles
public import Idealize.ShloMosaic.Lib.Quiescent
public import Idealize.ShloMosaic.Lib.Claim

@[expose] public section

set_option maxRecDepth 20000

noncomputable section

open Idealize.ShloMosaic Idealize.ShloMosaic.TcCoe Idealize.SL.Sem

namespace Cert.Proof.Combine

/-- The reference's program leaves its arguments as they were and every semaphore at zero. -/
theorem reference_frame : quiescent_CombineRefIdeal (hCombineRefIdeal := Cert.CombineRefIdeal.Gen.facts) :=
  fun m ρ _ => (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- Over the extended reals the call's result array is the reference's. -/
theorem value : algebraic_CombineIdeal_CombineRefIdeal (hCombineIdeal := Cert.CombineIdeal.Gen.facts) (hCombineRefIdeal := Cert.CombineRefIdeal.Gen.facts) := by
  pair_intro
  · run_from Cert.CombineIdeal.Gen.run_main m g
  · run_from Cert.CombineRefIdeal.Value.run m' g'
    refine (Cert.CombineRefIdeal.Read.val_main_v32_eq m' c).trans ?_
    obtain ⟨h0, h1⟩ := hagree c
    exact Eq.trans (congrArg₂ _ h0 h1) (Cert.CombineIdeal.Tiles.final m c).symm

end Cert.Proof.Combine

end
-- ==== Proof.lean ====
/-
  The claims about all the calls, put together: for every call, its program and its idealization leave the arguments as they
  were, the idealization keeps the operations, and over the extended reals its result is the reference's.
-/
module

public import proofs.«01_k».proof.Defs
public import proofs.«01_k».proof.Proof.Gen.Scan.Frame
public import proofs.«01_k».proof.Proof.Gen.ScanIdeal.Frame
public import proofs.«01_k».proof.Proof.ScanClaims
public import proofs.«01_k».proof.Proof.Gen.InProj.Frame
public import proofs.«01_k».proof.Proof.Gen.InProjIdeal.Frame
public import proofs.«01_k».proof.Proof.InProjClaims
public import proofs.«01_k».proof.Proof.Gen.OutProj.Frame
public import proofs.«01_k».proof.Proof.Gen.OutProjIdeal.Frame
public import proofs.«01_k».proof.Proof.OutProjClaims
public import proofs.«01_k».proof.Proof.Gen.QueryProj.Frame
public import proofs.«01_k».proof.Proof.Gen.QueryProjIdeal.Frame
public import proofs.«01_k».proof.Proof.QueryProjClaims
public import proofs.«01_k».proof.Proof.Gen.FinalNorm.Frame
public import proofs.«01_k».proof.Proof.Gen.FinalNormIdeal.Frame
public import proofs.«01_k».proof.Proof.FinalNormClaims
public import proofs.«01_k».proof.Proof.Gen.FirstNorm.Frame
public import proofs.«01_k».proof.Proof.Gen.FirstNormIdeal.Frame
public import proofs.«01_k».proof.Proof.FirstNormClaims
public import proofs.«01_k».proof.Proof.Gen.AddNorm.Frame
public import proofs.«01_k».proof.Proof.Gen.AddNormIdeal.Frame
public import proofs.«01_k».proof.Proof.AddNormClaims
public import proofs.«01_k».proof.Proof.Gen.HeadNorm.Frame
public import proofs.«01_k».proof.Proof.Gen.HeadNormIdeal.Frame
public import proofs.«01_k».proof.Proof.HeadNormClaims
public import proofs.«01_k».proof.Proof.Gen.Fourier.Frame
public import proofs.«01_k».proof.Proof.Gen.FourierIdeal.Frame
public import proofs.«01_k».proof.Proof.FourierClaims
public import proofs.«01_k».proof.Proof.Gen.Spectrum.Frame
public import proofs.«01_k».proof.Proof.Gen.SpectrumIdeal.Frame
public import proofs.«01_k».proof.Proof.SpectrumClaims
public import proofs.«01_k».proof.Proof.Gen.LongConv.Frame
public import proofs.«01_k».proof.Proof.Gen.LongConvIdeal.Frame
public import proofs.«01_k».proof.Proof.LongConvClaims
public import proofs.«01_k».proof.Proof.Gen.Experts.Frame
public import proofs.«01_k».proof.Proof.Gen.ExpertsIdeal.Frame
public import proofs.«01_k».proof.Proof.ExpertsClaims
public import proofs.«01_k».proof.Proof.Gen.ShortConvs.Frame
public import proofs.«01_k».proof.Proof.Gen.ShortConvsIdeal.Frame
public import proofs.«01_k».proof.Proof.ShortConvsClaims
public import proofs.«01_k».proof.Proof.Gen.Heads.Frame
public import proofs.«01_k».proof.Proof.Gen.HeadsIdeal.Frame
public import proofs.«01_k».proof.Proof.HeadsClaims
public import proofs.«01_k».proof.Proof.Gen.Fold.Frame
public import proofs.«01_k».proof.Proof.Gen.FoldIdeal.Frame
public import proofs.«01_k».proof.Proof.FoldClaims
public import proofs.«01_k».proof.Proof.Gen.FilterDft.Frame
public import proofs.«01_k».proof.Proof.Gen.FilterDftIdeal.Frame
public import proofs.«01_k».proof.Proof.FilterDftClaims
public import proofs.«01_k».proof.Proof.Gen.Combine.Frame
public import proofs.«01_k».proof.Proof.Gen.CombineIdeal.Frame
public import proofs.«01_k».proof.Proof.CombineClaims

@[expose] public section

set_option maxRecDepth 20000

noncomputable section

open Idealize.ShloMosaic Idealize.ShloMosaic.TcCoe Idealize.SL.Sem

namespace Cert.Proof

theorem claim : Cert.Claim :=
  ⟨Cert.Scan.Gen.facts,
   Cert.ScanIdeal.Gen.facts,
   Cert.ScanRefIdeal.Gen.facts,
   Cert.InProj.Gen.facts,
   Cert.InProjIdeal.Gen.facts,
   Cert.InProjRefIdeal.Gen.facts,
   Cert.OutProj.Gen.facts,
   Cert.OutProjIdeal.Gen.facts,
   Cert.OutProjRefIdeal.Gen.facts,
   Cert.QueryProj.Gen.facts,
   Cert.QueryProjIdeal.Gen.facts,
   Cert.QueryProjRefIdeal.Gen.facts,
   Cert.FinalNorm.Gen.facts,
   Cert.FinalNormIdeal.Gen.facts,
   Cert.FinalNormRefIdeal.Gen.facts,
   Cert.FirstNorm.Gen.facts,
   Cert.FirstNormIdeal.Gen.facts,
   Cert.FirstNormRefIdeal.Gen.facts,
   Cert.AddNorm.Gen.facts,
   Cert.AddNormIdeal.Gen.facts,
   Cert.AddNormRefIdeal.Gen.facts,
   Cert.HeadNorm.Gen.facts,
   Cert.HeadNormIdeal.Gen.facts,
   Cert.HeadNormRefIdeal.Gen.facts,
   Cert.Fourier.Gen.facts,
   Cert.FourierIdeal.Gen.facts,
   Cert.FourierRefIdeal.Gen.facts,
   Cert.Spectrum.Gen.facts,
   Cert.SpectrumIdeal.Gen.facts,
   Cert.SpectrumRefIdeal.Gen.facts,
   Cert.LongConv.Gen.facts,
   Cert.LongConvIdeal.Gen.facts,
   Cert.LongConvRefIdeal.Gen.facts,
   Cert.Experts.Gen.facts,
   Cert.ExpertsIdeal.Gen.facts,
   Cert.ExpertsRefIdeal.Gen.facts,
   Cert.ShortConvs.Gen.facts,
   Cert.ShortConvsIdeal.Gen.facts,
   Cert.ShortConvsRefIdeal.Gen.facts,
   Cert.Heads.Gen.facts,
   Cert.HeadsIdeal.Gen.facts,
   Cert.HeadsRefIdeal.Gen.facts,
   Cert.Fold.Gen.facts,
   Cert.FoldIdeal.Gen.facts,
   Cert.FoldRefIdeal.Gen.facts,
   Cert.FilterDft.Gen.facts,
   Cert.FilterDftIdeal.Gen.facts,
   Cert.FilterDftRefIdeal.Gen.facts,
   Cert.Combine.Gen.facts,
   Cert.CombineIdeal.Gen.facts,
   Cert.CombineRefIdeal.Gen.facts,
   fun m ρ _ => Cert.Scan.Gen.frame m ρ,
   fun m ρ _ => Cert.ScanIdeal.Gen.frame m ρ,
   Cert.Proof.Scan.reference_frame,
   fun m ρ _ => Cert.InProj.Gen.frame m ρ,
   fun m ρ _ => Cert.InProjIdeal.Gen.frame m ρ,
   Cert.Proof.InProj.reference_frame,
   fun m ρ _ => Cert.OutProj.Gen.frame m ρ,
   fun m ρ _ => Cert.OutProjIdeal.Gen.frame m ρ,
   Cert.Proof.OutProj.reference_frame,
   fun m ρ _ => Cert.QueryProj.Gen.frame m ρ,
   fun m ρ _ => Cert.QueryProjIdeal.Gen.frame m ρ,
   Cert.Proof.QueryProj.reference_frame,
   fun m ρ _ => Cert.FinalNorm.Gen.frame m ρ,
   fun m ρ _ => Cert.FinalNormIdeal.Gen.frame m ρ,
   Cert.Proof.FinalNorm.reference_frame,
   fun m ρ _ => Cert.FirstNorm.Gen.frame m ρ,
   fun m ρ _ => Cert.FirstNormIdeal.Gen.frame m ρ,
   Cert.Proof.FirstNorm.reference_frame,
   fun m ρ _ => Cert.AddNorm.Gen.frame m ρ,
   fun m ρ _ => Cert.AddNormIdeal.Gen.frame m ρ,
   Cert.Proof.AddNorm.reference_frame,
   fun m ρ _ => Cert.HeadNorm.Gen.frame m ρ,
   fun m ρ _ => Cert.HeadNormIdeal.Gen.frame m ρ,
   Cert.Proof.HeadNorm.reference_frame,
   fun m ρ _ => Cert.Fourier.Gen.frame m ρ,
   fun m ρ _ => Cert.FourierIdeal.Gen.frame m ρ,
   Cert.Proof.Fourier.reference_frame,
   fun m ρ _ => Cert.Spectrum.Gen.frame m ρ,
   fun m ρ _ => Cert.SpectrumIdeal.Gen.frame m ρ,
   Cert.Proof.Spectrum.reference_frame,
   fun m ρ _ => Cert.LongConv.Gen.frame m ρ,
   fun m ρ _ => Cert.LongConvIdeal.Gen.frame m ρ,
   Cert.Proof.LongConv.reference_frame,
   fun m ρ _ => Cert.Experts.Gen.frame m ρ,
   fun m ρ _ => Cert.ExpertsIdeal.Gen.frame m ρ,
   Cert.Proof.Experts.reference_frame,
   fun m ρ _ => Cert.ShortConvs.Gen.frame m ρ,
   fun m ρ _ => Cert.ShortConvsIdeal.Gen.frame m ρ,
   Cert.Proof.ShortConvs.reference_frame,
   fun m ρ _ => Cert.Heads.Gen.frame m ρ,
   fun m ρ _ => Cert.HeadsIdeal.Gen.frame m ρ,
   Cert.Proof.Heads.reference_frame,
   fun m ρ _ => Cert.Fold.Gen.frame m ρ,
   fun m ρ _ => Cert.FoldIdeal.Gen.frame m ρ,
   Cert.Proof.Fold.reference_frame,
   fun m ρ _ => Cert.FilterDft.Gen.frame m ρ,
   fun m ρ _ => Cert.FilterDftIdeal.Gen.frame m ρ,
   Cert.Proof.FilterDft.reference_frame,
   fun m ρ _ => Cert.Combine.Gen.frame m ρ,
   fun m ρ _ => Cert.CombineIdeal.Gen.frame m ρ,
   Cert.Proof.Combine.reference_frame,
   trivial,
   Cert.Proof.Scan.value,
   trivial,
   Cert.Proof.InProj.value,
   trivial,
   Cert.Proof.OutProj.value,
   trivial,
   Cert.Proof.QueryProj.value,
   trivial,
   Cert.Proof.FinalNorm.value,
   trivial,
   Cert.Proof.FirstNorm.value,
   trivial,
   Cert.Proof.AddNorm.value,
   trivial,
   Cert.Proof.HeadNorm.value,
   trivial,
   Cert.Proof.Fourier.value,
   trivial,
   Cert.Proof.Spectrum.value,
   trivial,
   Cert.Proof.LongConv.value,
   IdealRules.named_const.statement Cert.ExpertsIdeal.κ "inv_sqrt2" .f32 0x3F3504F3#32 (((Real.sqrt 2)⁻¹ : ℝ) : EReal) rfl,
   Cert.Proof.Experts.value,
   trivial,
   Cert.Proof.ShortConvs.value,
   IdealRules.named_const.statement Cert.HeadsIdeal.κ "inv_sqrt128" .f32 0x3DB504F3#32 (((Real.sqrt 128)⁻¹ : ℝ) : EReal) rfl,
   Cert.Proof.Heads.value,
   ⟨IdealRules.named_const.statement Cert.FoldIdeal.κ "inv_sqrt_size" .f32 0x3AB504F3#32 (((Real.sqrt 524288)⁻¹ : ℝ) : EReal) rfl,
    IdealRules.named_const.statement Cert.FoldIdeal.κ "neg_inv_sqrt_size" .f32 0xBAB504F3#32 ((-((Real.sqrt 524288)⁻¹) : ℝ) : EReal) rfl⟩,
   Cert.Proof.Fold.value,
   trivial,
   Cert.Proof.FilterDft.value,
   trivial,
   Cert.Proof.Combine.value⟩

end Cert.Proof

end
